-- ==== Defs.lean ====
def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_StepMeta (m : (ℓ : Loc Cert.StepMeta.nD Cert.StepMeta.τ Cert.StepMeta.sig) → Buf (Elt Bits) ℓ) : Prop :=
  True

def Pre_StepMetaIdeal (m : (ℓ : Loc Cert.StepMetaIdeal.nD Cert.StepMetaIdeal.τ Cert.StepMetaIdeal.sig) → Buf (Elt Ideal) ℓ) : Prop :=
  True

def Pre_StepMetaRefIdeal (m : (ℓ : Loc Cert.StepMetaRefIdeal.nD Cert.StepMetaRefIdeal.τ Cert.StepMetaRefIdeal.sig) → Buf (Elt Ideal) ℓ) : Prop :=
  True

def Pre_StepNorm (m : (ℓ : Loc Cert.StepNorm.nD Cert.StepNorm.τ Cert.StepNorm.sig) → Buf (Elt Bits) ℓ) : Prop :=
  True

def Pre_StepNormIdeal (m : (ℓ : Loc Cert.StepNormIdeal.nD Cert.StepNormIdeal.τ Cert.StepNormIdeal.sig) → Buf (Elt Ideal) ℓ) : Prop :=
  True

def Pre_StepNormRefIdeal (m : (ℓ : Loc Cert.StepNormRefIdeal.nD Cert.StepNormRefIdeal.τ Cert.StepNormRefIdeal.sig) → Buf (Elt Ideal) ℓ) : Prop :=
  True

def Pre_StepWIn (m : (ℓ : Loc Cert.StepWIn.nD Cert.StepWIn.τ Cert.StepWIn.sig) → Buf (Elt Bits) ℓ) : Prop :=
  True

def Pre_StepWInIdeal (m : (ℓ : Loc Cert.StepWInIdeal.nD Cert.StepWInIdeal.τ Cert.StepWInIdeal.sig) → Buf (Elt Ideal) ℓ) : Prop :=
  True

def Pre_StepWInRefIdeal (m : (ℓ : Loc Cert.StepWInRefIdeal.nD Cert.StepWInRefIdeal.τ Cert.StepWInRefIdeal.sig) → Buf (Elt Ideal) ℓ) : Prop :=
  True

def Pre_StepConv (m : (ℓ : Loc Cert.StepConv.nD Cert.StepConv.τ Cert.StepConv.sig) → Buf (Elt Bits) ℓ) : Prop :=
  True

def Pre_StepConvIdeal (m : (ℓ : Loc Cert.StepConvIdeal.nD Cert.StepConvIdeal.τ Cert.StepConvIdeal.sig) → Buf (Elt Ideal) ℓ) : Prop :=
  True

def Pre_StepConvRefIdeal (m : (ℓ : Loc Cert.StepConvRefIdeal.nD Cert.StepConvRefIdeal.τ Cert.StepConvRefIdeal.sig) → Buf (Elt Ideal) ℓ) : Prop :=
  True

def Pre_StepRet (m : (ℓ : Loc Cert.StepRet.nD Cert.StepRet.τ Cert.StepRet.sig) → Buf (Elt Bits) ℓ) : Prop :=
  True

def Pre_StepRetIdeal (m : (ℓ : Loc Cert.StepRetIdeal.nD Cert.StepRetIdeal.τ Cert.StepRetIdeal.sig) → Buf (Elt Ideal) ℓ) : Prop :=
  True

def Pre_StepRetRefIdeal (m : (ℓ : Loc Cert.StepRetRefIdeal.nD Cert.StepRetRefIdeal.τ Cert.StepRetRefIdeal.sig) → Buf (Elt Ideal) ℓ) : Prop :=
  True

def Pre_StepWOut (m : (ℓ : Loc Cert.StepWOut.nD Cert.StepWOut.τ Cert.StepWOut.sig) → Buf (Elt Bits) ℓ) : Prop :=
  True

def Pre_StepWOutIdeal (m : (ℓ : Loc Cert.StepWOutIdeal.nD Cert.StepWOutIdeal.τ Cert.StepWOutIdeal.sig) → Buf (Elt Ideal) ℓ) : Prop :=
  True

def Pre_StepWOutRefIdeal (m : (ℓ : Loc Cert.StepWOutRefIdeal.nD Cert.StepWOutRefIdeal.τ Cert.StepWOutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4)
      ∧ r.2.mem ((c.tc : Thread Cert.InGradRefIdeal.nD Cert.InGradRefIdeal.τ).loc Cert.InGradRefIdeal.main_arg5) = m ((c.tc : Thread Cert.InGradRefIdeal.nD Cert.InGradRefIdeal.τ).loc Cert.InGradRefIdeal.main_arg5))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def quiescent_StepMeta [hStepMeta : Cert.StepMeta.Facts] : Prop :=
  ∀ (m : (ℓ : Loc Cert.StepMeta.nD Cert.StepMeta.τ Cert.StepMeta.sig) → Buf (Elt Bits) ℓ) (g : Dev Cert.StepMeta.nD → PrngReg), Pre_StepMeta m →
    θ_run (Cert.StepMeta.defs (F := Bits)) (onTc (τ := Cert.StepMeta.τ) (Cert.StepMeta.main (F := Bits))) ⟨m, fun _ => 0, g⟩ (fun r => (∀ c : Dev Cert.StepMeta.nD,
      r.2.mem ((c.tc : Thread Cert.StepMeta.nD Cert.StepMeta.τ).loc Cert.StepMeta.main_arg0) = m ((c.tc : Thread Cert.StepMeta.nD Cert.StepMeta.τ).loc Cert.StepMeta.main_arg0)
      ∧ r.2.mem ((c.tc : Thread Cert.StepMeta.nD Cert.StepMeta.τ).loc Cert.StepMeta.main_arg1) = m ((c.tc : Thread Cert.StepMeta.nD Cert.StepMeta.τ).loc Cert.StepMeta.main_arg1)
      ∧ r.2.mem ((c.tc : Thread Cert.StepMeta.nD Cert.StepMeta.τ).loc Cert.StepMeta.main_arg2) = m ((c.tc : Thread Cert.StepMeta.nD Cert.StepMeta.τ).loc Cert.StepMeta.main_arg2)
      ∧ r.2.mem ((c.tc : Thread Cert.StepMeta.nD Cert.StepMeta.τ).loc Cert.StepMeta.main_arg3) = m ((c.tc : Thread Cert.StepMeta.nD Cert.StepMeta.τ).loc Cert.StepMeta.main_arg3))
      ∧ r.2.sem = fun _ => 0)

def quiescent_StepMetaIdeal [hStepMetaIdeal : Cert.StepMetaIdeal.Facts] : Prop :=
  ∀ (m : (ℓ : Loc Cert.StepMetaIdeal.nD Cert.StepMetaIdeal.τ Cert.StepMetaIdeal.sig) → Buf (Elt Ideal) ℓ) (g : Dev Cert.StepMetaIdeal.nD → PrngReg), Pre_StepMetaIdeal m →
    θ_run (Cert.StepMetaIdeal.defs (F := Ideal)) (onTc (τ := Cert.StepMetaIdeal.τ) (Cert.StepMetaIdeal.main (F := Ideal))) ⟨m, fun _ => 0, g⟩ (fun r => (∀ c : Dev Cert.StepMetaIdeal.nD,
      r.2.mem ((c.tc : Thread Cert.StepMetaIdeal.nD Cert.StepMetaIdeal.τ).loc Cert.StepMetaIdeal.main_arg0) = m ((c.tc : Thread Cert.StepMetaIdeal.nD Cert.StepMetaIdeal.τ).loc Cert.StepMetaIdeal.main_arg0)
      ∧ r.2.mem ((c.tc : Thread Cert.StepMetaIdeal.nD Cert.StepMetaIdeal.τ).loc Cert.StepMetaIdeal.main_arg1) = m ((c.tc : Thread Cert.StepMetaIdeal.nD Cert.StepMetaIdeal.τ).loc Cert.StepMetaIdeal.main_arg1)
      ∧ r.2.mem ((c.tc : Thread Cert.StepMetaIdeal.nD Cert.StepMetaIdeal.τ).loc Cert.StepMetaIdeal.main_arg2) = m ((c.tc : Thread Cert.StepMetaIdeal.nD Cert.StepMetaIdeal.τ).loc Cert.StepMetaIdeal.main_arg2)
      ∧ r.2.mem ((c.tc : Thread Cert.StepMetaIdeal.nD Cert.StepMetaIdeal.τ).loc Cert.StepMetaIdeal.main_arg3) = m ((c.tc : Thread Cert.StepMetaIdeal.nD Cert.StepMetaIdeal.τ).loc Cert.StepMetaIdeal.main_arg3))
      ∧ r.2.sem = fun _ => 0)

def quiescent_StepMetaRefIdeal [hStepMetaRefIdeal : Cert.StepMetaRefIdeal.Facts] : Prop :=
  ∀ (m : (ℓ : Loc Cert.StepMetaRefIdeal.nD Cert.StepMetaRefIdeal.τ Cert.StepMetaRefIdeal.sig) → Buf (Elt Ideal) ℓ) (g : Dev Cert.StepMetaRefIdeal.nD → PrngReg), Pre_StepMetaRefIdeal m →
    θ_run (Cert.StepMetaRefIdeal.defs (F := Ideal)) (onTc (τ := Cert.StepMetaRefIdeal.τ) (Cert.StepMetaRefIdeal.main (F := Ideal))) ⟨m, fun _ => 0, g⟩ (fun r => (∀ c : Dev Cert.StepMetaRefIdeal.nD,
      r.2.mem ((c.tc : Thread Cert.StepMetaRefIdeal.nD Cert.StepMetaRefIdeal.τ).loc Cert.StepMetaRefIdeal.main_arg0) = m ((c.tc : Thread Cert.StepMetaRefIdeal.nD Cert.StepMetaRefIdeal.τ).loc Cert.StepMetaRefIdeal.main_arg0)
      ∧ r.2.mem ((c.tc : Thread Cert.StepMetaRefIdeal.nD Cert.StepMetaRefIdeal.τ).loc Cert.StepMetaRefIdeal.main_arg1) = m ((c.tc : Thread Cert.StepMetaRefIdeal.nD Cert.StepMetaRefIdeal.τ).loc Cert.StepMetaRefIdeal.main_arg1)
      ∧ r.2.mem ((c.tc : Thread Cert.StepMetaRefIdeal.nD Cert.StepMetaRefIdeal.τ).loc Cert.StepMetaRefIdeal.main_arg2) = m ((c.tc : Thread Cert.StepMetaRefIdeal.nD Cert.StepMetaRefIdeal.τ).loc Cert.StepMetaRefIdeal.main_arg2)
      ∧ r.2.mem ((c.tc : Thread Cert.StepMetaRefIdeal.nD Cert.StepMetaRefIdeal.τ).loc Cert.StepMetaRefIdeal.main_arg3) = m ((c.tc : Thread Cert.StepMetaRefIdeal.nD Cert.StepMetaRefIdeal.τ).loc Cert.StepMetaRefIdeal.main_arg3))
      ∧ r.2.sem = fun _ => 0)

def quiescent_StepNorm [hStepNorm : Cert.StepNorm.Facts] : Prop :=
  ∀ (m : (ℓ : Loc Cert.StepNorm.nD Cert.StepNorm.τ Cert.StepNorm.sig) → Buf (Elt Bits) ℓ) (g : Dev Cert.StepNorm.nD → PrngReg), Pre_StepNorm m →
    θ_run (Cert.StepNorm.defs (F := Bits)) (onTc (τ := Cert.StepNorm.τ) (Cert.StepNorm.main (F := Bits))) ⟨m, fun _ => 0, g⟩ (fun r => (∀ c : Dev Cert.StepNorm.nD,
      r.2.mem ((c.tc : Thread Cert.StepNorm.nD Cert.StepNorm.τ).loc Cert.StepNorm.main_arg0) = m ((c.tc : Thread Cert.StepNorm.nD Cert.StepNorm.τ).loc Cert.StepNorm.main_arg0)
      ∧ r.2.mem ((c.tc : Thread Cert.StepNorm.nD Cert.StepNorm.τ).loc Cert.StepNorm.main_arg1) = m ((c.tc : Thread Cert.StepNorm.nD Cert.StepNorm.τ).loc Cert.StepNorm.main_arg1)
      ∧ r.2.mem ((c.tc : Thread Cert.StepNorm.nD Cert.StepNorm.τ).loc Cert.StepNorm.main_arg2) = m ((c.tc : Thread Cert.StepNorm.nD Cert.StepNorm.τ).loc Cert.StepNorm.main_arg2)
      ∧ r.2.mem ((c.tc : Thread Cert.StepNorm.nD Cert.StepNorm.τ).loc Cert.StepNorm.main_arg3) = m ((c.tc : Thread Cert.StepNorm.nD Cert.StepNorm.τ).loc Cert.StepNorm.main_arg3))
      ∧ r.2.sem = fun _ => 0)

def quiescent_StepNormIdeal [hStepNormIdeal : Cert.StepNormIdeal.Facts] : Prop :=
  ∀ (m : (ℓ : Loc Cert.StepNormIdeal.nD Cert.StepNormIdeal.τ Cert.StepNormIdeal.sig) → Buf (Elt Ideal) ℓ) (g : Dev Cert.StepNormIdeal.nD → PrngReg), Pre_StepNormIdeal m →
    θ_run (Cert.StepNormIdeal.defs (F := Ideal)) (onTc (τ := Cert.StepNormIdeal.τ) (Cert.StepNormIdeal.main (F := Ideal))) ⟨m, fun _ => 0, g⟩ (fun r => (∀ c : Dev Cert.StepNormIdeal.nD,
      r.2.mem ((c.tc : Thread Cert.StepNormIdeal.nD Cert.StepNormIdeal.τ).loc Cert.StepNormIdeal.main_arg0) = m ((c.tc : Thread Cert.StepNormIdeal.nD Cert.StepNormIdeal.τ).loc Cert.StepNormIdeal.main_arg0)
      ∧ r.2.mem ((c.tc : Thread Cert.StepNormIdeal.nD Cert.StepNormIdeal.τ).loc Cert.StepNormIdeal.main_arg1) = m ((c.tc : Thread Cert.StepNormIdeal.nD Cert.StepNormIdeal.τ).loc Cert.StepNormIdeal.main_arg1)
      ∧ r.2.mem ((c.tc : Thread Cert.StepNormIdeal.nD Cert.StepNormIdeal.τ).loc Cert.StepNormIdeal.main_arg2) = m ((c.tc : Thread Cert.StepNormIdeal.nD Cert.StepNormIdeal.τ).loc Cert.StepNormIdeal.main_arg2)
      ∧ r.2.mem ((c.tc : Thread Cert.StepNormIdeal.nD Cert.StepNormIdeal.τ).loc Cert.StepNormIdeal.main_arg3) = m ((c.tc : Thread Cert.StepNormIdeal.nD Cert.StepNormIdeal.τ).loc Cert.StepNormIdeal.main_arg3))
      ∧ r.2.sem = fun _ => 0)

def quiescent_StepNormRefIdeal [hStepNormRefIdeal : Cert.StepNormRefIdeal.Facts] : Prop :=
  ∀ (m : (ℓ : Loc Cert.StepNormRefIdeal.nD Cert.StepNormRefIdeal.τ Cert.StepNormRefIdeal.sig) → Buf (Elt Ideal) ℓ) (g : Dev Cert.StepNormRefIdeal.nD → PrngReg), Pre_StepNormRefIdeal m →
    θ_run (Cert.StepNormRefIdeal.defs (F := Ideal)) (onTc (τ := Cert.StepNormRefIdeal.τ) (Cert.StepNormRefIdeal.main (F := Ideal))) ⟨m, fun _ => 0, g⟩ (fun r => (∀ c : Dev Cert.StepNormRefIdeal.nD,
      r.2.mem ((c.tc : Thread Cert.StepNormRefIdeal.nD Cert.StepNormRefIdeal.τ).loc Cert.StepNormRefIdeal.main_arg0) = m ((c.tc : Thread Cert.StepNormRefIdeal.nD Cert.StepNormRefIdeal.τ).loc Cert.StepNormRefIdeal.main_arg0)
      ∧ r.2.mem ((c.tc : Thread Cert.StepNormRefIdeal.nD Cert.StepNormRefIdeal.τ).loc Cert.StepNormRefIdeal.main_arg1) = m ((c.tc : Thread Cert.StepNormRefIdeal.nD Cert.StepNormRefIdeal.τ).loc Cert.StepNormRefIdeal.main_arg1)
      ∧ r.2.mem ((c.tc : Thread Cert.StepNormRefIdeal.nD Cert.StepNormRefIdeal.τ).loc Cert.StepNormRefIdeal.main_arg2) = m ((c.tc : Thread Cert.StepNormRefIdeal.nD Cert.StepNormRefIdeal.τ).loc Cert.StepNormRefIdeal.main_arg2)
      ∧ r.2.mem ((c.tc : Thread Cert.StepNormRefIdeal.nD Cert.StepNormRefIdeal.τ).loc Cert.StepNormRefIdeal.main_arg3) = m ((c.tc : Thread Cert.StepNormRefIdeal.nD Cert.StepNormRefIdeal.τ).loc Cert.StepNormRefIdeal.main_arg3))
      ∧ r.2.sem = fun _ => 0)

def quiescent_StepWIn [hStepWIn : Cert.StepWIn.Facts] : Prop :=
  ∀ (m : (ℓ : Loc Cert.StepWIn.nD Cert.StepWIn.τ Cert.StepWIn.sig) → Buf (Elt Bits) ℓ) (g : Dev Cert.StepWIn.nD → PrngReg), Pre_StepWIn m →
    θ_run (Cert.StepWIn.defs (F := Bits)) (onTc (τ := Cert.StepWIn.τ) (Cert.StepWIn.main (F := Bits))) ⟨m, fun _ => 0, g⟩ (fun r => (∀ c : Dev Cert.StepWIn.nD,
      r.2.mem ((c.tc : Thread Cert.StepWIn.nD Cert.StepWIn.τ).loc Cert.StepWIn.main_arg0) = m ((c.tc : Thread Cert.StepWIn.nD Cert.StepWIn.τ).loc Cert.StepWIn.main_arg0)
      ∧ r.2.mem ((c.tc : Thread Cert.StepWIn.nD Cert.StepWIn.τ).loc Cert.StepWIn.main_arg1) = m ((c.tc : Thread Cert.StepWIn.nD Cert.StepWIn.τ).loc Cert.StepWIn.main_arg1)
      ∧ r.2.mem ((c.tc : Thread Cert.StepWIn.nD Cert.StepWIn.τ).loc Cert.StepWIn.main_arg2) = m ((c.tc : Thread Cert.StepWIn.nD Cert.StepWIn.τ).loc Cert.StepWIn.main_arg2)
      ∧ r.2.mem ((c.tc : Thread Cert.StepWIn.nD Cert.StepWIn.τ).loc Cert.StepWIn.main_arg3) = m ((c.tc : Thread Cert.StepWIn.nD Cert.StepWIn.τ).loc Cert.StepWIn.main_arg3))
      ∧ r.2.sem = fun _ => 0)

def quiescent_StepWInIdeal [hStepWInIdeal : Cert.StepWInIdeal.Facts] : Prop :=
  ∀ (m : (ℓ : Loc Cert.StepWInIdeal.nD Cert.StepWInIdeal.τ Cert.StepWInIdeal.sig) → Buf (Elt Ideal) ℓ) (g : Dev Cert.StepWInIdeal.nD → PrngReg), Pre_StepWInIdeal m →
    θ_run (Cert.StepWInIdeal.defs (F := Ideal)) (onTc (τ := Cert.StepWInIdeal.τ) (Cert.StepWInIdeal.main (F := Ideal))) ⟨m, fun _ => 0, g⟩ (fun r => (∀ c : Dev Cert.StepWInIdeal.nD,
      r.2.mem ((c.tc : Thread Cert.StepWInIdeal.nD Cert.StepWInIdeal.τ).loc Cert.StepWInIdeal.main_arg0) = m ((c.tc : Thread Cert.StepWInIdeal.nD Cert.StepWInIdeal.τ).loc Cert.StepWInIdeal.main_arg0)
      ∧ r.2.mem ((c.tc : Thread Cert.StepWInIdeal.nD Cert.StepWInIdeal.τ).loc Cert.StepWInIdeal.main_arg1) = m ((c.tc : Thread Cert.StepWInIdeal.nD Cert.StepWInIdeal.τ).loc Cert.StepWInIdeal.main_arg1)
      ∧ r.2.mem ((c.tc : Thread Cert.StepWInIdeal.nD Cert.StepWInIdeal.τ).loc Cert.StepWInIdeal.main_arg2) = m ((c.tc : Thread Cert.StepWInIdeal.nD Cert.StepWInIdeal.τ).loc Cert.StepWInIdeal.main_arg2)
      ∧ r.2.mem ((c.tc : Thread Cert.StepWInIdeal.nD Cert.StepWInIdeal.τ).loc Cert.StepWInIdeal.main_arg3) = m ((c.tc : Thread Cert.StepWInIdeal.nD Cert.StepWInIdeal.τ).loc Cert.StepWInIdeal.main_arg3))
      ∧ r.2.sem = fun _ => 0)

def quiescent_StepWInRefIdeal [hStepWInRefIdeal : Cert.StepWInRefIdeal.Facts] : Prop :=
  ∀ (m : (ℓ : Loc Cert.StepWInRefIdeal.nD Cert.StepWInRefIdeal.τ Cert.StepWInRefIdeal.sig) → Buf (Elt Ideal) ℓ) (g : Dev Cert.StepWInRefIdeal.nD → PrngReg), Pre_StepWInRefIdeal m →
    θ_run (Cert.StepWInRefIdeal.defs (F := Ideal)) (onTc (τ := Cert.StepWInRefIdeal.τ) (Cert.StepWInRefIdeal.main (F := Ideal))) ⟨m, fun _ => 0, g⟩ (fun r => (∀ c : Dev Cert.StepWInRefIdeal.nD,
      r.2.mem ((c.tc : Thread Cert.StepWInRefIdeal.nD Cert.StepWInRefIdeal.τ).loc Cert.StepWInRefIdeal.main_arg0) = m ((c.tc : Thread Cert.StepWInRefIdeal.nD Cert.StepWInRefIdeal.τ).loc Cert.StepWInRefIdeal.main_arg0)
      ∧ r.2.mem ((c.tc : Thread Cert.StepWInRefIdeal.nD Cert.StepWInRefIdeal.τ).loc Cert.StepWInRefIdeal.main_arg1) = m ((c.tc : Thread Cert.StepWInRefIdeal.nD Cert.StepWInRefIdeal.τ).loc Cert.StepWInRefIdeal.main_arg1)
      ∧ r.2.mem ((c.tc : Thread Cert.StepWInRefIdeal.nD Cert.StepWInRefIdeal.τ).loc Cert.StepWInRefIdeal.main_arg2) = m ((c.tc : Thread Cert.StepWInRefIdeal.nD Cert.StepWInRefIdeal.τ).loc Cert.StepWInRefIdeal.main_arg2)
      ∧ r.2.mem ((c.tc : Thread Cert.StepWInRefIdeal.nD Cert.StepWInRefIdeal.τ).loc Cert.StepWInRefIdeal.main_arg3) = m ((c.tc : Thread Cert.StepWInRefIdeal.nD Cert.StepWInRefIdeal.τ).loc Cert.StepWInRefIdeal.main_arg3))
      ∧ r.2.sem = fun _ => 0)

def quiescent_StepConv [hStepConv : Cert.StepConv.Facts] : Prop :=
  ∀ (m : (ℓ : Loc Cert.StepConv.nD Cert.StepConv.τ Cert.StepConv.sig) → Buf (Elt Bits) ℓ) (g : Dev Cert.StepConv.nD → PrngReg), Pre_StepConv m →
    θ_run (Cert.StepConv.defs (F := Bits)) (onTc (τ := Cert.StepConv.τ) (Cert.StepConv.main (F := Bits))) ⟨m, fun _ => 0, g⟩ (fun r => (∀ c : Dev Cert.StepConv.nD,
      r.2.mem ((c.tc : Thread Cert.StepConv.nD Cert.StepConv.τ).loc Cert.StepConv.main_arg0) = m ((c.tc : Thread Cert.StepConv.nD Cert.StepConv.τ).loc Cert.StepConv.main_arg0)
      ∧ r.2.mem ((c.tc : Thread Cert.StepConv.nD Cert.StepConv.τ).loc Cert.StepConv.main_arg1) = m ((c.tc : Thread Cert.StepConv.nD Cert.StepConv.τ).loc Cert.StepConv.main_arg1)
      ∧ r.2.mem ((c.tc : Thread Cert.StepConv.nD Cert.StepConv.τ).loc Cert.StepConv.main_arg2) = m ((c.tc : Thread Cert.StepConv.nD Cert.StepConv.τ).loc Cert.StepConv.main_arg2)
      ∧ r.2.mem ((c.tc : Thread Cert.StepConv.nD Cert.StepConv.τ).loc Cert.StepConv.main_arg3) = m ((c.tc : Thread Cert.StepConv.nD Cert.StepConv.τ).loc Cert.StepConv.main_arg3))
      ∧ r.2.sem = fun _ => 0)

def quiescent_StepConvIdeal [hStepConvIdeal : Cert.StepConvIdeal.Facts] : Prop :=
  ∀ (m : (ℓ : Loc Cert.StepConvIdeal.nD Cert.StepConvIdeal.τ Cert.StepConvIdeal.sig) → Buf (Elt Ideal) ℓ) (g : Dev Cert.StepConvIdeal.nD → PrngReg), Pre_StepConvIdeal m →
    θ_run (Cert.StepConvIdeal.defs (F := Ideal)) (onTc (τ := Cert.StepConvIdeal.τ) (Cert.StepConvIdeal.main (F := Ideal))) ⟨m, fun _ => 0, g⟩ (fun r => (∀ c : Dev Cert.StepConvIdeal.nD,
      r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
      ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
      ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
      ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ r.2.sem = fun _ => 0)

def quiescent_StepConvRefIdeal [hStepConvRefIdeal : Cert.StepConvRefIdeal.Facts] : Prop :=
  ∀ (m : (ℓ : Loc Cert.StepConvRefIdeal.nD Cert.StepConvRefIdeal.τ Cert.StepConvRefIdeal.sig) → Buf (Elt Ideal) ℓ) (g : Dev Cert.StepConvRefIdeal.nD → PrngReg), Pre_StepConvRefIdeal m →
    θ_run (Cert.StepConvRefIdeal.defs (F := Ideal)) (onTc (τ := Cert.StepConvRefIdeal.τ) (Cert.StepConvRefIdeal.main (F := Ideal))) ⟨m, fun _ => 0, g⟩ (fun r => (∀ c : Dev Cert.StepConvRefIdeal.nD,
      r.2.mem ((c.tc : Thread Cert.StepConvRefIdeal.nD Cert.StepConvRefIdeal.τ).loc Cert.StepConvRefIdeal.main_arg0) = m ((c.tc : Thread Cert.StepConvRefIdeal.nD Cert.StepConvRefIdeal.τ).loc Cert.StepConvRefIdeal.main_arg0)
      ∧ r.2.mem ((c.tc : Thread Cert.StepConvRefIdeal.nD Cert.StepConvRefIdeal.τ).loc Cert.StepConvRefIdeal.main_arg1) = m ((c.tc : Thread Cert.StepConvRefIdeal.nD Cert.StepConvRefIdeal.τ).loc Cert.StepConvRefIdeal.main_arg1)
      ∧ r.2.mem ((c.tc : Thread Cert.StepConvRefIdeal.nD Cert.StepConvRefIdeal.τ).loc Cert.StepConvRefIdeal.main_arg2) = m ((c.tc : Thread Cert.StepConvRefIdeal.nD Cert.StepConvRefIdeal.τ).loc Cert.StepConvRefIdeal.main_arg2)
      ∧ r.2.mem ((c.tc : Thread Cert.StepConvRefIdeal.nD Cert.StepConvRefIdeal.τ).loc Cert.StepConvRefIdeal.main_arg3) = m ((c.tc : Thread Cert.StepConvRefIdeal.nD Cert.StepConvRefIdeal.τ).loc Cert.StepConvRefIdeal.main_arg3))
      ∧ r.2.sem = fun _ => 0)

def quiescent_StepRet [hStepRet : Cert.StepRet.Facts] : Prop :=
  ∀ (m : (ℓ : Loc Cert.StepRet.nD Cert.StepRet.τ Cert.StepRet.sig) → Buf (Elt Bits) ℓ) (g : Dev Cert.StepRet.nD → PrngReg), Pre_StepRet m →
    θ_run (Cert.StepRet.defs (F := Bits)) (onTc (τ := Cert.StepRet.τ) (Cert.StepRet.main (F := Bits))) ⟨m, fun _ => 0, g⟩ (fun r => (∀ c : Dev Cert.StepRet.nD,
      r.2.mem ((c.tc : Thread Cert.StepRet.nD Cert.StepRet.τ).loc Cert.StepRet.main_arg0) = m ((c.tc : Thread Cert.StepRet.nD Cert.StepRet.τ).loc Cert.StepRet.main_arg0)
      ∧ r.2.mem ((c.tc : Thread Cert.StepRet.nD Cert.StepRet.τ).loc Cert.StepRet.main_arg1) = m ((c.tc : Thread Cert.StepRet.nD Cert.StepRet.τ).loc Cert.StepRet.main_arg1)
      ∧ r.2.mem ((c.tc : Thread Cert.StepRet.nD Cert.StepRet.τ).loc Cert.StepRet.main_arg2) = m ((c.tc : Thread Cert.StepRet.nD Cert.StepRet.τ).loc Cert.StepRet.main_arg2)
      ∧ r.2.mem ((c.tc : Thread Cert.StepRet.nD Cert.StepRet.τ).loc Cert.StepRet.main_arg3) = m ((c.tc : Thread Cert.StepRet.nD Cert.StepRet.τ).loc Cert.StepRet.main_arg3))
      ∧ r.2.sem = fun _ => 0)

def quiescent_StepRetIdeal [hStepRetIdeal : Cert.StepRetIdeal.Facts] : Prop :=
  ∀ (m : (ℓ : Loc Cert.StepRetIdeal.nD Cert.StepRetIdeal.τ Cert.StepRetIdeal.sig) → Buf (Elt Ideal) ℓ) (g : Dev Cert.StepRetIdeal.nD → PrngReg), Pre_StepRetIdeal m →
    θ_run (Cert.StepRetIdeal.defs (F := Ideal)) (onTc (τ := Cert.StepRetIdeal.τ) (Cert.StepRetIdeal.main (F := Ideal))) ⟨m, fun _ => 0, g⟩ (fun r => (∀ c : Dev Cert.StepRetIdeal.nD,
      r.2.mem ((c.tc : Thread Cert.StepRetIdeal.nD Cert.StepRetIdeal.τ).loc Cert.StepRetIdeal.main_arg0) = m ((c.tc : Thread Cert.StepRetIdeal.nD Cert.StepRetIdeal.τ).loc Cert.StepRetIdeal.main_arg0)
      ∧ r.2.mem ((c.tc : Thread Cert.StepRetIdeal.nD Cert.StepRetIdeal.τ).loc Cert.StepRetIdeal.main_arg1) = m ((c.tc : Thread Cert.StepRetIdeal.nD Cert.StepRetIdeal.τ).loc Cert.StepRetIdeal.main_arg1)
      ∧ r.2.mem ((c.tc : Thread Cert.StepRetIdeal.nD Cert.StepRetIdeal.τ).loc Cert.StepRetIdeal.main_arg2) = m ((c.tc : Thread Cert.StepRetIdeal.nD Cert.StepRetIdeal.τ).loc Cert.StepRetIdeal.main_arg2)
      ∧ r.2.mem ((c.tc : Thread Cert.StepRetIdeal.nD Cert.StepRetIdeal.τ).loc Cert.StepRetIdeal.main_arg3) = m ((c.tc : Thread Cert.StepRetIdeal.nD Cert.StepRetIdeal.τ).loc Cert.StepRetIdeal.main_arg3))
      ∧ r.2.sem = fun _ => 0)

def quiescent_StepRetRefIdeal [hStepRetRefIdeal : Cert.StepRetRefIdeal.Facts] : Prop :=
  ∀ (m : (ℓ : Loc Cert.StepRetRefIdeal.nD Cert.StepRetRefIdeal.τ Cert.StepRetRefIdeal.sig) → Buf (Elt Ideal) ℓ) (g : Dev Cert.StepRetRefIdeal.nD → PrngReg), Pre_StepRetRefIdeal m →
    θ_run (Cert.StepRetRefIdeal.defs (F := Ideal)) (onTc (τ := Cert.StepRetRefIdeal.τ) (Cert.StepRetRefIdeal.main (F := Ideal))) ⟨m, fun _ => 0, g⟩ (fun r => (∀ c : Dev Cert.StepRetRefIdeal.nD,
      r.2.mem ((c.tc : Thread Cert.StepRetRefIdeal.nD Cert.StepRetRefIdeal.τ).loc Cert.StepRetRefIdeal.main_arg0) = m ((c.tc : Thread Cert.StepRetRefIdeal.nD Cert.StepRetRefIdeal.τ).loc Cert.StepRetRefIdeal.main_arg0)
      ∧ r.2.mem ((c.tc : Thread Cert.StepRetRefIdeal.nD Cert.StepRetRefIdeal.τ).loc Cert.StepRetRefIdeal.main_arg1) = m ((c.tc : Thread Cert.StepRetRefIdeal.nD Cert.StepRetRefIdeal.τ).loc Cert.StepRetRefIdeal.main_arg1)
      ∧ r.2.mem ((c.tc : Thread Cert.StepRetRefIdeal.nD Cert.StepRetRefIdeal.τ).loc Cert.StepRetRefIdeal.main_arg2) = m ((c.tc : Thread Cert.StepRetRefIdeal.nD Cert.StepRetRefIdeal.τ).loc Cert.StepRetRefIdeal.main_arg2)
      ∧ r.2.mem ((c.tc : Thread Cert.StepRetRefIdeal.nD Cert.StepRetRefIdeal.τ).loc Cert.StepRetRefIdeal.main_arg3) = m ((c.tc : Thread Cert.StepRetRefIdeal.nD Cert.StepRetRefIdeal.τ).loc Cert.StepRetRefIdeal.main_arg3))
      ∧ r.2.sem = fun _ => 0)

def quiescent_StepWOut [hStepWOut : Cert.StepWOut.Facts] : Prop :=
  ∀ (m : (ℓ : Loc Cert.StepWOut.nD Cert.StepWOut.τ Cert.StepWOut.sig) → Buf (Elt Bits) ℓ) (g : Dev Cert.StepWOut.nD → PrngReg), Pre_StepWOut m →
    θ_run (Cert.StepWOut.defs (F := Bits)) (onTc (τ := Cert.StepWOut.τ) (Cert.StepWOut.main (F := Bits))) ⟨m, fun _ => 0, g⟩ (fun r => (∀ c : Dev Cert.StepWOut.nD,
      r.2.mem ((c.tc : Thread Cert.StepWOut.nD Cert.StepWOut.τ).loc Cert.StepWOut.main_arg0) = m ((c.tc : Thread Cert.StepWOut.nD Cert.StepWOut.τ).loc Cert.StepWOut.main_arg0)
      ∧ r.2.mem ((c.tc : Thread Cert.StepWOut.nD Cert.StepWOut.τ).loc Cert.StepWOut.main_arg1) = m ((c.tc : Thread Cert.StepWOut.nD Cert.StepWOut.τ).loc Cert.StepWOut.main_arg1)
      ∧ r.2.mem ((c.tc : Thread Cert.StepWOut.nD Cert.StepWOut.τ).loc Cert.StepWOut.main_arg2) = m ((c.tc : Thread Cert.StepWOut.nD Cert.StepWOut.τ).loc Cert.StepWOut.main_arg2)
      ∧ r.2.mem ((c.tc : Thread Cert.StepWOut.nD Cert.StepWOut.τ).loc Cert.StepWOut.main_arg3) = m ((c.tc : Thread Cert.StepWOut.nD Cert.StepWOut.τ).loc Cert.StepWOut.main_arg3))
      ∧ r.2.sem = fun _ => 0)

def quiescent_StepWOutIdeal [hStepWOutIdeal : Cert.StepWOutIdeal.Facts] : Prop :=
  ∀ (m : (ℓ : Loc Cert.StepWOutIdeal.nD Cert.StepWOutIdeal.τ Cert.StepWOutIdeal.sig) → Buf (Elt Ideal) ℓ) (g : Dev Cert.StepWOutIdeal.nD → PrngReg), Pre_StepWOutIdeal m →
    θ_run (Cert.StepWOutIdeal.defs (F := Ideal)) (onTc (τ := Cert.StepWOutIdeal.τ) (Cert.StepWOutIdeal.main (F := Ideal))) ⟨m, fun _ => 0, g⟩ (fun r => (∀ c : Dev Cert.StepWOutIdeal.nD,
      r.2.mem ((c.tc : Thread Cert.StepWOutIdeal.nD Cert.StepWOutIdeal.τ).loc Cert.StepWOutIdeal.main_arg0) = m ((c.tc : Thread Cert.StepWOutIdeal.nD Cert.StepWOutIdeal.τ).loc Cert.StepWOutIdeal.main_arg0)
      ∧ r.2.mem ((c.tc : Thread Cert.StepWOutIdeal.nD Cert.StepWOutIdeal.τ).loc Cert.StepWOutIdeal.main_arg1) = m ((c.tc : Thread Cert.StepWOutIdeal.nD Cert.StepWOutIdeal.τ).loc Cert.StepWOutIdeal.main_arg1)
      ∧ r.2.mem ((c.tc : Thread Cert.StepWOutIdeal.nD Cert.StepWOutIdeal.τ).loc Cert.StepWOutIdeal.main_arg2) = m ((c.tc : Thread Cert.StepWOutIdeal.nD Cert.StepWOutIdeal.τ).loc Cert.StepWOutIdeal.main_arg2)
      ∧ r.2.mem ((c.tc : Thread Cert.StepWOutIdeal.nD Cert.StepWOutIdeal.τ).loc Cert.StepWOutIdeal.main_arg3) = m ((c.tc : Thread Cert.StepWOutIdeal.nD Cert.StepWOutIdeal.τ).loc Cert.StepWOutIdeal.main_arg3))
      ∧ r.2.sem = fun _ => 0)

def quiescent_StepWOutRefIdeal [hStepWOutRefIdeal : Cert.StepWOutRefIdeal.Facts] : Prop :=
  ∀ (m : (ℓ : Loc Cert.StepWOutRefIdeal.nD Cert.StepWOutRefIdeal.τ Cert.StepWOutRefIdeal.sig) → Buf (Elt Ideal) ℓ) (g : Dev Cert.StepWOutRefIdeal.nD → PrngReg), Pre_StepWOutRefIdeal m →
    θ_run (Cert.StepWOutRefIdeal.defs (F := Ideal)) (onTc (τ := Cert.StepWOutRefIdeal.τ) (Cert.StepWOutRefIdeal.main (F := Ideal))) ⟨m, fun _ => 0, g⟩ (fun r => (∀ c : Dev Cert.StepWOutRefIdeal.nD,
      r.2.mem ((c.tc : Thread Cert.StepWOutRefIdeal.nD Cert.StepWOutRefIdeal.τ).loc Cert.StepWOutRefIdeal.main_arg0) = m ((c.tc : Thread Cert.StepWOutRefIdeal.nD Cert.StepWOutRefIdeal.τ).loc Cert.StepWOutRefIdeal.main_arg0)
      ∧ r.2.mem ((c.tc : Thread Cert.StepWOutRefIdeal.nD Cert.StepWOutRefIdeal.τ).loc Cert.StepWOutRefIdeal.main_arg1) = m ((c.tc : Thread Cert.StepWOutRefIdeal.nD Cert.StepWOutRefIdeal.τ).loc Cert.StepWOutRefIdeal.main_arg1)
      ∧ r.2.mem ((c.tc : Thread Cert.StepWOutRefIdeal.nD Cert.StepWOutRefIdeal.τ).loc Cert.StepWOutRefIdeal.main_arg2) = m ((c.tc : Thread Cert.StepWOutRefIdeal.nD Cert.StepWOutRefIdeal.τ).loc Cert.StepWOutRefIdeal.main_arg2)
      ∧ r.2.mem ((c.tc : Thread Cert.StepWOutRefIdeal.nD Cert.StepWOutRefIdeal.τ).loc Cert.StepWOutRefIdeal.main_arg3) = m ((c.tc : Thread Cert.StepWOutRefIdeal.nD Cert.StepWOutRefIdeal.τ).loc Cert.StepWOutRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)) →
    ∃ (v0 : (c : Dev Cert.OutLossIdeal.nD) → Buf (Elt Ideal) ((c.tc : Thread Cert.OutLossIdeal.nD Cert.OutLossIdeal.τ).loc Cert.OutLossIdeal.main_v0_0)) (v1 : (c : Dev Cert.OutLossIdeal.nD) → Buf (Elt Ideal) ((c.tc : Thread Cert.OutLossIdeal.nD Cert.OutLossIdeal.τ).loc Cert.OutLossIdeal.main_v0_1)) (v2 : (c : Dev Cert.OutLossIdeal.nD) → Buf (Elt Ideal) ((c.tc : Thread Cert.OutLossIdeal.nD Cert.OutLossIdeal.τ).loc Cert.OutLossIdeal.main_v0_2)) (v3 : (c : Dev Cert.OutLossIdeal.nD) → Buf (Elt Ideal) ((c.tc : Thread Cert.OutLossIdeal.nD Cert.OutLossIdeal.τ).loc Cert.OutLossIdeal.main_v0_3)) (v4 : (c : Dev Cert.OutLossIdeal.nD) → Buf (Elt Ideal) ((c.tc : Thread Cert.OutLossIdeal.nD Cert.OutLossIdeal.τ).loc Cert.OutLossIdeal.main_v0_4)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v0_0) = v0 c
          ∧ r.2.mem ((c.tc : Thread Cert.OutLossIdeal.nD Cert.OutLossIdeal.τ).loc Cert.OutLossIdeal.main_v0_1) = v1 c
          ∧ r.2.mem ((c.tc : Thread Cert.OutLossIdeal.nD Cert.OutLossIdeal.τ).loc Cert.OutLossIdeal.main_v0_2) = v2 c
          ∧ r.2.mem ((c.tc : Thread Cert.OutLossIdeal.nD Cert.OutLossIdeal.τ).loc Cert.OutLossIdeal.main_v0_3) = v3 c
          ∧ r.2.mem ((c.tc : Thread Cert.OutLossIdeal.nD Cert.OutLossIdeal.τ).loc Cert.OutLossIdeal.main_v0_4) = v4 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v40) = v0 c
          ∧ r.2.mem ((c.tc : Thread Cert.OutLossRefIdeal.nD Cert.OutLossRefIdeal.τ).loc Cert.OutLossRefIdeal.main_v42) = v1 c
          ∧ r.2.mem ((c.tc : Thread Cert.OutLossRefIdeal.nD Cert.OutLossRefIdeal.τ).loc Cert.OutLossRefIdeal.main_v45) = v2 c
          ∧ r.2.mem ((c.tc : Thread Cert.OutLossRefIdeal.nD Cert.OutLossRefIdeal.τ).loc Cert.OutLossRefIdeal.main_v28) = v3 c
          ∧ r.2.mem ((c.tc : Thread Cert.OutLossRefIdeal.nD Cert.OutLossRefIdeal.τ).loc Cert.OutLossRefIdeal.main_v46) = v4 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)
      ∧ m' ((c.tc : Thread Cert.InGradRefIdeal.nD Cert.InGradRefIdeal.τ).loc Cert.InGradRefIdeal.main_arg5) = m ((c.tc : Thread Cert.InGradIdeal.nD Cert.InGradIdeal.τ).loc Cert.InGradIdeal.main_arg5)) →
    ∃ (v0 : (c : Dev Cert.InGradIdeal.nD) → Buf (Elt Ideal) ((c.tc : Thread Cert.InGradIdeal.nD Cert.InGradIdeal.τ).loc Cert.InGradIdeal.main_v2_0)) (v1 : (c : Dev Cert.InGradIdeal.nD) → Buf (Elt Ideal) ((c.tc : Thread Cert.InGradIdeal.nD Cert.InGradIdeal.τ).loc Cert.InGradIdeal.main_v2_1)) (v2 : (c : Dev Cert.InGradIdeal.nD) → Buf (Elt Ideal) ((c.tc : Thread Cert.InGradIdeal.nD Cert.InGradIdeal.τ).loc Cert.InGradIdeal.main_v2_2)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v2_0) = v0 c
          ∧ r.2.mem ((c.tc : Thread Cert.InGradIdeal.nD Cert.InGradIdeal.τ).loc Cert.InGradIdeal.main_v2_1) = v1 c
          ∧ r.2.mem ((c.tc : Thread Cert.InGradIdeal.nD Cert.InGradIdeal.τ).loc Cert.InGradIdeal.main_v2_2) = v2 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v35) = v0 c
          ∧ r.2.mem ((c.tc : Thread Cert.InGradRefIdeal.nD Cert.InGradRefIdeal.τ).loc Cert.InGradRefIdeal.main_v36) = v1 c
          ∧ r.2.mem ((c.tc : Thread Cert.InGradRefIdeal.nD Cert.InGradRefIdeal.τ).loc Cert.InGradRefIdeal.main_v21) = v2 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4)
          ∧ r.2.mem ((c.tc : Thread Cert.InGradRefIdeal.nD Cert.InGradRefIdeal.τ).loc Cert.InGradRefIdeal.main_arg5) = m' ((c.tc : Thread Cert.InGradRefIdeal.nD Cert.InGradRefIdeal.τ).loc Cert.InGradRefIdeal.main_arg5))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v0)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v0) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v4) = v0 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def preserves_StepMeta_StepMetaIdeal : Prop :=
  True

def algebraic_StepMetaIdeal_StepMetaRefIdeal [hStepMetaIdeal : Cert.StepMetaIdeal.Facts] [hStepMetaRefIdeal : Cert.StepMetaRefIdeal.Facts] : Prop :=
  ∀ (m : (ℓ : Loc Cert.StepMetaIdeal.nD Cert.StepMetaIdeal.τ Cert.StepMetaIdeal.sig) → Buf (Elt Ideal) ℓ) (g : Dev Cert.StepMetaIdeal.nD → PrngReg)
    (m' : (ℓ : Loc Cert.StepMetaRefIdeal.nD Cert.StepMetaRefIdeal.τ Cert.StepMetaRefIdeal.sig) → Buf (Elt Ideal) ℓ) (g' : Dev Cert.StepMetaRefIdeal.nD → PrngReg), Pre_StepMetaIdeal m →
    (∀ c : Dev Cert.StepMetaIdeal.nD,
      m' ((c.tc : Thread Cert.StepMetaRefIdeal.nD Cert.StepMetaRefIdeal.τ).loc Cert.StepMetaRefIdeal.main_arg0) = m ((c.tc : Thread Cert.StepMetaIdeal.nD Cert.StepMetaIdeal.τ).loc Cert.StepMetaIdeal.main_arg0)
      ∧ m' ((c.tc : Thread Cert.StepMetaRefIdeal.nD Cert.StepMetaRefIdeal.τ).loc Cert.StepMetaRefIdeal.main_arg1) = m ((c.tc : Thread Cert.StepMetaIdeal.nD Cert.StepMetaIdeal.τ).loc Cert.StepMetaIdeal.main_arg1)
      ∧ m' ((c.tc : Thread Cert.StepMetaRefIdeal.nD Cert.StepMetaRefIdeal.τ).loc Cert.StepMetaRefIdeal.main_arg2) = m ((c.tc : Thread Cert.StepMetaIdeal.nD Cert.StepMetaIdeal.τ).loc Cert.StepMetaIdeal.main_arg2)
      ∧ m' ((c.tc : Thread Cert.StepMetaRefIdeal.nD Cert.StepMetaRefIdeal.τ).loc Cert.StepMetaRefIdeal.main_arg3) = m ((c.tc : Thread Cert.StepMetaIdeal.nD Cert.StepMetaIdeal.τ).loc Cert.StepMetaIdeal.main_arg3)) →
    ∃ (v0 : (c : Dev Cert.StepMetaIdeal.nD) → Buf (Elt Ideal) ((c.tc : Thread Cert.StepMetaIdeal.nD Cert.StepMetaIdeal.τ).loc Cert.StepMetaIdeal.main_v0_0)) (v1 : (c : Dev Cert.StepMetaIdeal.nD) → Buf (Elt Ideal) ((c.tc : Thread Cert.StepMetaIdeal.nD Cert.StepMetaIdeal.τ).loc Cert.StepMetaIdeal.main_v0_1)) (v2 : (c : Dev Cert.StepMetaIdeal.nD) → Buf (Elt Ideal) ((c.tc : Thread Cert.StepMetaIdeal.nD Cert.StepMetaIdeal.τ).loc Cert.StepMetaIdeal.main_v0_2)),
      θ_run (Cert.StepMetaIdeal.defs (F := Ideal)) (onTc (τ := Cert.StepMetaIdeal.τ) (Cert.StepMetaIdeal.main (F := Ideal))) ⟨m, fun _ => 0, g⟩ (fun r => ∀ c : Dev Cert.StepMetaIdeal.nD,
          r.2.mem ((c.tc : Thread Cert.StepMetaIdeal.nD Cert.StepMetaIdeal.τ).loc Cert.StepMetaIdeal.main_v0_0) = v0 c
          ∧ r.2.mem ((c.tc : Thread Cert.StepMetaIdeal.nD Cert.StepMetaIdeal.τ).loc Cert.StepMetaIdeal.main_v0_1) = v1 c
          ∧ r.2.mem ((c.tc : Thread Cert.StepMetaIdeal.nD Cert.StepMetaIdeal.τ).loc Cert.StepMetaIdeal.main_v0_2) = v2 c
          ∧ r.2.mem ((c.tc : Thread Cert.StepMetaIdeal.nD Cert.StepMetaIdeal.τ).loc Cert.StepMetaIdeal.main_arg0) = m ((c.tc : Thread Cert.StepMetaIdeal.nD Cert.StepMetaIdeal.τ).loc Cert.StepMetaIdeal.main_arg0)
          ∧ r.2.mem ((c.tc : Thread Cert.StepMetaIdeal.nD Cert.StepMetaIdeal.τ).loc Cert.StepMetaIdeal.main_arg1) = m ((c.tc : Thread Cert.StepMetaIdeal.nD Cert.StepMetaIdeal.τ).loc Cert.StepMetaIdeal.main_arg1)
          ∧ r.2.mem ((c.tc : Thread Cert.StepMetaIdeal.nD Cert.StepMetaIdeal.τ).loc Cert.StepMetaIdeal.main_arg2) = m ((c.tc : Thread Cert.StepMetaIdeal.nD Cert.StepMetaIdeal.τ).loc Cert.StepMetaIdeal.main_arg2)
          ∧ r.2.mem ((c.tc : Thread Cert.StepMetaIdeal.nD Cert.StepMetaIdeal.τ).loc Cert.StepMetaIdeal.main_arg3) = m ((c.tc : Thread Cert.StepMetaIdeal.nD Cert.StepMetaIdeal.τ).loc Cert.StepMetaIdeal.main_arg3))
      ∧ θ_run (Cert.StepMetaRefIdeal.defs (F := Ideal)) (onTc (τ := Cert.StepMetaRefIdeal.τ) (Cert.StepMetaRefIdeal.main (F := Ideal))) ⟨m', fun _ => 0, g'⟩ (fun r => ∀ c : Dev Cert.StepMetaRefIdeal.nD,
          r.2.mem ((c.tc : Thread Cert.StepMetaRefIdeal.nD Cert.StepMetaRefIdeal.τ).loc Cert.StepMetaRefIdeal.main_v23) = v0 c
          ∧ r.2.mem ((c.tc : Thread Cert.StepMetaRefIdeal.nD Cert.StepMetaRefIdeal.τ).loc Cert.StepMetaRefIdeal.main_v4) = v1 c
          ∧ r.2.mem ((c.tc : Thread Cert.StepMetaRefIdeal.nD Cert.StepMetaRefIdeal.τ).loc Cert.StepMetaRefIdeal.main_v10) = v2 c
          ∧ r.2.mem ((c.tc : Thread Cert.StepMetaRefIdeal.nD Cert.StepMetaRefIdeal.τ).loc Cert.StepMetaRefIdeal.main_arg0) = m' ((c.tc : Thread Cert.StepMetaRefIdeal.nD Cert.StepMetaRefIdeal.τ).loc Cert.StepMetaRefIdeal.main_arg0)
          ∧ r.2.mem ((c.tc : Thread Cert.StepMetaRefIdeal.nD Cert.StepMetaRefIdeal.τ).loc Cert.StepMetaRefIdeal.main_arg1) = m' ((c.tc : Thread Cert.StepMetaRefIdeal.nD Cert.StepMetaRefIdeal.τ).loc Cert.StepMetaRefIdeal.main_arg1)
          ∧ r.2.mem ((c.tc : Thread Cert.StepMetaRefIdeal.nD Cert.StepMetaRefIdeal.τ).loc Cert.StepMetaRefIdeal.main_arg2) = m' ((c.tc : Thread Cert.StepMetaRefIdeal.nD Cert.StepMetaRefIdeal.τ).loc Cert.StepMetaRefIdeal.main_arg2)
          ∧ r.2.mem ((c.tc : Thread Cert.StepMetaRefIdeal.nD Cert.StepMetaRefIdeal.τ).loc Cert.StepMetaRefIdeal.main_arg3) = m' ((c.tc : Thread Cert.StepMetaRefIdeal.nD Cert.StepMetaRefIdeal.τ).loc Cert.StepMetaRefIdeal.main_arg3))

def preserves_StepNorm_StepNormIdeal : Prop :=
  True

def algebraic_StepNormIdeal_StepNormRefIdeal [hStepNormIdeal : Cert.StepNormIdeal.Facts] [hStepNormRefIdeal : Cert.StepNormRefIdeal.Facts] : Prop :=
  ∀ (m : (ℓ : Loc Cert.StepNormIdeal.nD Cert.StepNormIdeal.τ Cert.StepNormIdeal.sig) → Buf (Elt Ideal) ℓ) (g : Dev Cert.StepNormIdeal.nD → PrngReg)
    (m' : (ℓ : Loc Cert.StepNormRefIdeal.nD Cert.StepNormRefIdeal.τ Cert.StepNormRefIdeal.sig) → Buf (Elt Ideal) ℓ) (g' : Dev Cert.StepNormRefIdeal.nD → PrngReg), Pre_StepNormIdeal m →
    (∀ c : Dev Cert.StepNormIdeal.nD,
      m' ((c.tc : Thread Cert.StepNormRefIdeal.nD Cert.StepNormRefIdeal.τ).loc Cert.StepNormRefIdeal.main_arg0) = m ((c.tc : Thread Cert.StepNormIdeal.nD Cert.StepNormIdeal.τ).loc Cert.StepNormIdeal.main_arg0)
      ∧ m' ((c.tc : Thread Cert.StepNormRefIdeal.nD Cert.StepNormRefIdeal.τ).loc Cert.StepNormRefIdeal.main_arg1) = m ((c.tc : Thread Cert.StepNormIdeal.nD Cert.StepNormIdeal.τ).loc Cert.StepNormIdeal.main_arg1)
      ∧ m' ((c.tc : Thread Cert.StepNormRefIdeal.nD Cert.StepNormRefIdeal.τ).loc Cert.StepNormRefIdeal.main_arg2) = m ((c.tc : Thread Cert.StepNormIdeal.nD Cert.StepNormIdeal.τ).loc Cert.StepNormIdeal.main_arg2)
      ∧ m' ((c.tc : Thread Cert.StepNormRefIdeal.nD Cert.StepNormRefIdeal.τ).loc Cert.StepNormRefIdeal.main_arg3) = m ((c.tc : Thread Cert.StepNormIdeal.nD Cert.StepNormIdeal.τ).loc Cert.StepNormIdeal.main_arg3)) →
    ∃ (v0 : (c : Dev Cert.StepNormIdeal.nD) → Buf (Elt Ideal) ((c.tc : Thread Cert.StepNormIdeal.nD Cert.StepNormIdeal.τ).loc Cert.StepNormIdeal.main_v0_0)) (v1 : (c : Dev Cert.StepNormIdeal.nD) → Buf (Elt Ideal) ((c.tc : Thread Cert.StepNormIdeal.nD Cert.StepNormIdeal.τ).loc Cert.StepNormIdeal.main_v0_1)) (v2 : (c : Dev Cert.StepNormIdeal.nD) → Buf (Elt Ideal) ((c.tc : Thread Cert.StepNormIdeal.nD Cert.StepNormIdeal.τ).loc Cert.StepNormIdeal.main_v0_2)),
      θ_run (Cert.StepNormIdeal.defs (F := Ideal)) (onTc (τ := Cert.StepNormIdeal.τ) (Cert.StepNormIdeal.main (F := Ideal))) ⟨m, fun _ => 0, g⟩ (fun r => ∀ c : Dev Cert.StepNormIdeal.nD,
          r.2.mem ((c.tc : Thread Cert.StepNormIdeal.nD Cert.StepNormIdeal.τ).loc Cert.StepNormIdeal.main_v0_0) = v0 c
          ∧ r.2.mem ((c.tc : Thread Cert.StepNormIdeal.nD Cert.StepNormIdeal.τ).loc Cert.StepNormIdeal.main_v0_1) = v1 c
          ∧ r.2.mem ((c.tc : Thread Cert.StepNormIdeal.nD Cert.StepNormIdeal.τ).loc Cert.StepNormIdeal.main_v0_2) = v2 c
          ∧ r.2.mem ((c.tc : Thread Cert.StepNormIdeal.nD Cert.StepNormIdeal.τ).loc Cert.StepNormIdeal.main_arg0) = m ((c.tc : Thread Cert.StepNormIdeal.nD Cert.StepNormIdeal.τ).loc Cert.StepNormIdeal.main_arg0)
          ∧ r.2.mem ((c.tc : Thread Cert.StepNormIdeal.nD Cert.StepNormIdeal.τ).loc Cert.StepNormIdeal.main_arg1) = m ((c.tc : Thread Cert.StepNormIdeal.nD Cert.StepNormIdeal.τ).loc Cert.StepNormIdeal.main_arg1)
          ∧ r.2.mem ((c.tc : Thread Cert.StepNormIdeal.nD Cert.StepNormIdeal.τ).loc Cert.StepNormIdeal.main_arg2) = m ((c.tc : Thread Cert.StepNormIdeal.nD Cert.StepNormIdeal.τ).loc Cert.StepNormIdeal.main_arg2)
          ∧ r.2.mem ((c.tc : Thread Cert.StepNormIdeal.nD Cert.StepNormIdeal.τ).loc Cert.StepNormIdeal.main_arg3) = m ((c.tc : Thread Cert.StepNormIdeal.nD Cert.StepNormIdeal.τ).loc Cert.StepNormIdeal.main_arg3))
      ∧ θ_run (Cert.StepNormRefIdeal.defs (F := Ideal)) (onTc (τ := Cert.StepNormRefIdeal.τ) (Cert.StepNormRefIdeal.main (F := Ideal))) ⟨m', fun _ => 0, g'⟩ (fun r => ∀ c : Dev Cert.StepNormRefIdeal.nD,
          r.2.mem ((c.tc : Thread Cert.StepNormRefIdeal.nD Cert.StepNormRefIdeal.τ).loc Cert.StepNormRefIdeal.main_v23) = v0 c
          ∧ r.2.mem ((c.tc : Thread Cert.StepNormRefIdeal.nD Cert.StepNormRefIdeal.τ).loc Cert.StepNormRefIdeal.main_v4) = v1 c
          ∧ r.2.mem ((c.tc : Thread Cert.StepNormRefIdeal.nD Cert.StepNormRefIdeal.τ).loc Cert.StepNormRefIdeal.main_v10) = v2 c
          ∧ r.2.mem ((c.tc : Thread Cert.StepNormRefIdeal.nD Cert.StepNormRefIdeal.τ).loc Cert.StepNormRefIdeal.main_arg0) = m' ((c.tc : Thread Cert.StepNormRefIdeal.nD Cert.StepNormRefIdeal.τ).loc Cert.StepNormRefIdeal.main_arg0)
          ∧ r.2.mem ((c.tc : Thread Cert.StepNormRefIdeal.nD Cert.StepNormRefIdeal.τ).loc Cert.StepNormRefIdeal.main_arg1) = m' ((c.tc : Thread Cert.StepNormRefIdeal.nD Cert.StepNormRefIdeal.τ).loc Cert.StepNormRefIdeal.main_arg1)
          ∧ r.2.mem ((c.tc : Thread Cert.StepNormRefIdeal.nD Cert.StepNormRefIdeal.τ).loc Cert.StepNormRefIdeal.main_arg2) = m' ((c.tc : Thread Cert.StepNormRefIdeal.nD Cert.StepNormRefIdeal.τ).loc Cert.StepNormRefIdeal.main_arg2)
          ∧ r.2.mem ((c.tc : Thread Cert.StepNormRefIdeal.nD Cert.StepNormRefIdeal.τ).loc Cert.StepNormRefIdeal.main_arg3) = m' ((c.tc : Thread Cert.StepNormRefIdeal.nD Cert.StepNormRefIdeal.τ).loc Cert.StepNormRefIdeal.main_arg3))

def preserves_StepWIn_StepWInIdeal : Prop :=
  True

def algebraic_StepWInIdeal_StepWInRefIdeal [hStepWInIdeal : Cert.StepWInIdeal.Facts] [hStepWInRefIdeal : Cert.StepWInRefIdeal.Facts] : Prop :=
  ∀ (m : (ℓ : Loc Cert.StepWInIdeal.nD Cert.StepWInIdeal.τ Cert.StepWInIdeal.sig) → Buf (Elt Ideal) ℓ) (g : Dev Cert.StepWInIdeal.nD → PrngReg)
    (m' : (ℓ : Loc Cert.StepWInRefIdeal.nD Cert.StepWInRefIdeal.τ Cert.StepWInRefIdeal.sig) → Buf (Elt Ideal) ℓ) (g' : Dev Cert.StepWInRefIdeal.nD → PrngReg), Pre_StepWInIdeal m →
    (∀ c : Dev Cert.StepWInIdeal.nD,
      m' ((c.tc : Thread Cert.StepWInRefIdeal.nD Cert.StepWInRefIdeal.τ).loc Cert.StepWInRefIdeal.main_arg0) = m ((c.tc : Thread Cert.StepWInIdeal.nD Cert.StepWInIdeal.τ).loc Cert.StepWInIdeal.main_arg0)
      ∧ m' ((c.tc : Thread Cert.StepWInRefIdeal.nD Cert.StepWInRefIdeal.τ).loc Cert.StepWInRefIdeal.main_arg1) = m ((c.tc : Thread Cert.StepWInIdeal.nD Cert.StepWInIdeal.τ).loc Cert.StepWInIdeal.main_arg1)
      ∧ m' ((c.tc : Thread Cert.StepWInRefIdeal.nD Cert.StepWInRefIdeal.τ).loc Cert.StepWInRefIdeal.main_arg2) = m ((c.tc : Thread Cert.StepWInIdeal.nD Cert.StepWInIdeal.τ).loc Cert.StepWInIdeal.main_arg2)
      ∧ m' ((c.tc : Thread Cert.StepWInRefIdeal.nD Cert.StepWInRefIdeal.τ).loc Cert.StepWInRefIdeal.main_arg3) = m ((c.tc : Thread Cert.StepWInIdeal.nD Cert.StepWInIdeal.τ).loc Cert.StepWInIdeal.main_arg3)) →
    ∃ (v0 : (c : Dev Cert.StepWInIdeal.nD) → Buf (Elt Ideal) ((c.tc : Thread Cert.StepWInIdeal.nD Cert.StepWInIdeal.τ).loc Cert.StepWInIdeal.main_v0_0)) (v1 : (c : Dev Cert.StepWInIdeal.nD) → Buf (Elt Ideal) ((c.tc : Thread Cert.StepWInIdeal.nD Cert.StepWInIdeal.τ).loc Cert.StepWInIdeal.main_v0_1)) (v2 : (c : Dev Cert.StepWInIdeal.nD) → Buf (Elt Ideal) ((c.tc : Thread Cert.StepWInIdeal.nD Cert.StepWInIdeal.τ).loc Cert.StepWInIdeal.main_v0_2)),
      θ_run (Cert.StepWInIdeal.defs (F := Ideal)) (onTc (τ := Cert.StepWInIdeal.τ) (Cert.StepWInIdeal.main (F := Ideal))) ⟨m, fun _ => 0, g⟩ (fun r => ∀ c : Dev Cert.StepWInIdeal.nD,
          r.2.mem ((c.tc : Thread Cert.StepWInIdeal.nD Cert.StepWInIdeal.τ).loc Cert.StepWInIdeal.main_v0_0) = v0 c
          ∧ r.2.mem ((c.tc : Thread Cert.StepWInIdeal.nD Cert.StepWInIdeal.τ).loc Cert.StepWInIdeal.main_v0_1) = v1 c
          ∧ r.2.mem ((c.tc : Thread Cert.StepWInIdeal.nD Cert.StepWInIdeal.τ).loc Cert.StepWInIdeal.main_v0_2) = v2 c
          ∧ r.2.mem ((c.tc : Thread Cert.StepWInIdeal.nD Cert.StepWInIdeal.τ).loc Cert.StepWInIdeal.main_arg0) = m ((c.tc : Thread Cert.StepWInIdeal.nD Cert.StepWInIdeal.τ).loc Cert.StepWInIdeal.main_arg0)
          ∧ r.2.mem ((c.tc : Thread Cert.StepWInIdeal.nD Cert.StepWInIdeal.τ).loc Cert.StepWInIdeal.main_arg1) = m ((c.tc : Thread Cert.StepWInIdeal.nD Cert.StepWInIdeal.τ).loc Cert.StepWInIdeal.main_arg1)
          ∧ r.2.mem ((c.tc : Thread Cert.StepWInIdeal.nD Cert.StepWInIdeal.τ).loc Cert.StepWInIdeal.main_arg2) = m ((c.tc : Thread Cert.StepWInIdeal.nD Cert.StepWInIdeal.τ).loc Cert.StepWInIdeal.main_arg2)
          ∧ r.2.mem ((c.tc : Thread Cert.StepWInIdeal.nD Cert.StepWInIdeal.τ).loc Cert.StepWInIdeal.main_arg3) = m ((c.tc : Thread Cert.StepWInIdeal.nD Cert.StepWInIdeal.τ).loc Cert.StepWInIdeal.main_arg3))
      ∧ θ_run (Cert.StepWInRefIdeal.defs (F := Ideal)) (onTc (τ := Cert.StepWInRefIdeal.τ) (Cert.StepWInRefIdeal.main (F := Ideal))) ⟨m', fun _ => 0, g'⟩ (fun r => ∀ c : Dev Cert.StepWInRefIdeal.nD,
          r.2.mem ((c.tc : Thread Cert.StepWInRefIdeal.nD Cert.StepWInRefIdeal.τ).loc Cert.StepWInRefIdeal.main_v23) = v0 c
          ∧ r.2.mem ((c.tc : Thread Cert.StepWInRefIdeal.nD Cert.StepWInRefIdeal.τ).loc Cert.StepWInRefIdeal.main_v4) = v1 c
          ∧ r.2.mem ((c.tc : Thread Cert.StepWInRefIdeal.nD Cert.StepWInRefIdeal.τ).loc Cert.StepWInRefIdeal.main_v10) = v2 c
          ∧ r.2.mem ((c.tc : Thread Cert.StepWInRefIdeal.nD Cert.StepWInRefIdeal.τ).loc Cert.StepWInRefIdeal.main_arg0) = m' ((c.tc : Thread Cert.StepWInRefIdeal.nD Cert.StepWInRefIdeal.τ).loc Cert.StepWInRefIdeal.main_arg0)
          ∧ r.2.mem ((c.tc : Thread Cert.StepWInRefIdeal.nD Cert.StepWInRefIdeal.τ).loc Cert.StepWInRefIdeal.main_arg1) = m' ((c.tc : Thread Cert.StepWInRefIdeal.nD Cert.StepWInRefIdeal.τ).loc Cert.StepWInRefIdeal.main_arg1)
          ∧ r.2.mem ((c.tc : Thread Cert.StepWInRefIdeal.nD Cert.StepWInRefIdeal.τ).loc Cert.StepWInRefIdeal.main_arg2) = m' ((c.tc : Thread Cert.StepWInRefIdeal.nD Cert.StepWInRefIdeal.τ).loc Cert.StepWInRefIdeal.main_arg2)
          ∧ r.2.mem ((c.tc : Thread Cert.StepWInRefIdeal.nD Cert.StepWInRefIdeal.τ).loc Cert.StepWInRefIdeal.main_arg3) = m' ((c.tc : Thread Cert.StepWInRefIdeal.nD Cert.StepWInRefIdeal.τ).loc Cert.StepWInRefIdeal.main_arg3))

def preserves_StepConv_StepConvIdeal : Prop :=
  True

def algebraic_StepConvIdeal_StepConvRefIdeal [hStepConvIdeal : Cert.StepConvIdeal.Facts] [hStepConvRefIdeal : Cert.StepConvRefIdeal.Facts] : Prop :=
  ∀ (m : (ℓ : Loc Cert.StepConvIdeal.nD Cert.StepConvIdeal.τ Cert.StepConvIdeal.sig) → Buf (Elt Ideal) ℓ) (g : Dev Cert.StepConvIdeal.nD → PrngReg)
    (m' : (ℓ : Loc Cert.StepConvRefIdeal.nD Cert.StepConvRefIdeal.τ Cert.StepConvRefIdeal.sig) → Buf (Elt Ideal) ℓ) (g' : Dev Cert.StepConvRefIdeal.nD → PrngReg), Pre_StepConvIdeal m →
    (∀ c : Dev Cert.StepConvIdeal.nD,
      m' ((c.tc : Thread Cert.StepConvRefIdeal.nD Cert.StepConvRefIdeal.τ).loc Cert.StepConvRefIdeal.main_arg0) = m ((c.tc : Thread Cert.StepConvIdeal.nD Cert.StepConvIdeal.τ).loc Cert.StepConvIdeal.main_arg0)
      ∧ m' ((c.tc : Thread Cert.StepConvRefIdeal.nD Cert.StepConvRefIdeal.τ).loc Cert.StepConvRefIdeal.main_arg1) = m ((c.tc : Thread Cert.StepConvIdeal.nD Cert.StepConvIdeal.τ).loc Cert.StepConvIdeal.main_arg1)
      ∧ m' ((c.tc : Thread Cert.StepConvRefIdeal.nD Cert.StepConvRefIdeal.τ).loc Cert.StepConvRefIdeal.main_arg2) = m ((c.tc : Thread Cert.StepConvIdeal.nD Cert.StepConvIdeal.τ).loc Cert.StepConvIdeal.main_arg2)
      ∧ m' ((c.tc : Thread Cert.StepConvRefIdeal.nD Cert.StepConvRefIdeal.τ).loc Cert.StepConvRefIdeal.main_arg3) = m ((c.tc : Thread Cert.StepConvIdeal.nD Cert.StepConvIdeal.τ).loc Cert.StepConvIdeal.main_arg3)) →
    ∃ (v0 : (c : Dev Cert.StepConvIdeal.nD) → Buf (Elt Ideal) ((c.tc : Thread Cert.StepConvIdeal.nD Cert.StepConvIdeal.τ).loc Cert.StepConvIdeal.main_v0_0)) (v1 : (c : Dev Cert.StepConvIdeal.nD) → Buf (Elt Ideal) ((c.tc : Thread Cert.StepConvIdeal.nD Cert.StepConvIdeal.τ).loc Cert.StepConvIdeal.main_v0_1)) (v2 : (c : Dev Cert.StepConvIdeal.nD) → Buf (Elt Ideal) ((c.tc : Thread Cert.StepConvIdeal.nD Cert.StepConvIdeal.τ).loc Cert.StepConvIdeal.main_v0_2)),
      θ_run (Cert.StepConvIdeal.defs (F := Ideal)) (onTc (τ := Cert.StepConvIdeal.τ) (Cert.StepConvIdeal.main (F := Ideal))) ⟨m, fun _ => 0, g⟩ (fun r => ∀ c : Dev Cert.StepConvIdeal.nD,
          r.2.mem ((c.tc : Thread Cert.StepConvIdeal.nD Cert.StepConvIdeal.τ).loc Cert.StepConvIdeal.main_v0_0) = v0 c
          ∧ r.2.mem ((c.tc : Thread Cert.StepConvIdeal.nD Cert.StepConvIdeal.τ).loc Cert.StepConvIdeal.main_v0_1) = v1 c
          ∧ r.2.mem ((c.tc : Thread Cert.StepConvIdeal.nD Cert.StepConvIdeal.τ).loc Cert.StepConvIdeal.main_v0_2) = v2 c
          ∧ r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
          ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
          ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
          ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ θ_run (Cert.StepConvRefIdeal.defs (F := Ideal)) (onTc (τ := Cert.StepConvRefIdeal.τ) (Cert.StepConvRefIdeal.main (F := Ideal))) ⟨m', fun _ => 0, g'⟩ (fun r => ∀ c : Dev Cert.StepConvRefIdeal.nD,
          r.2.mem ((c.tc : Thread Cert.StepConvRefIdeal.nD Cert.StepConvRefIdeal.τ).loc Cert.StepConvRefIdeal.main_v23) = v0 c
          ∧ r.2.mem ((c.tc : Thread Cert.StepConvRefIdeal.nD Cert.StepConvRefIdeal.τ).loc Cert.StepConvRefIdeal.main_v4) = v1 c
          ∧ r.2.mem ((c.tc : Thread Cert.StepConvRefIdeal.nD Cert.StepConvRefIdeal.τ).loc Cert.StepConvRefIdeal.main_v10) = v2 c
          ∧ r.2.mem ((c.tc : Thread Cert.StepConvRefIdeal.nD Cert.StepConvRefIdeal.τ).loc Cert.StepConvRefIdeal.main_arg0) = m' ((c.tc : Thread Cert.StepConvRefIdeal.nD Cert.StepConvRefIdeal.τ).loc Cert.StepConvRefIdeal.main_arg0)
          ∧ r.2.mem ((c.tc : Thread Cert.StepConvRefIdeal.nD Cert.StepConvRefIdeal.τ).loc Cert.StepConvRefIdeal.main_arg1) = m' ((c.tc : Thread Cert.StepConvRefIdeal.nD Cert.StepConvRefIdeal.τ).loc Cert.StepConvRefIdeal.main_arg1)
          ∧ r.2.mem ((c.tc : Thread Cert.StepConvRefIdeal.nD Cert.StepConvRefIdeal.τ).loc Cert.StepConvRefIdeal.main_arg2) = m' ((c.tc : Thread Cert.StepConvRefIdeal.nD Cert.StepConvRefIdeal.τ).loc Cert.StepConvRefIdeal.main_arg2)
          ∧ r.2.mem ((c.tc : Thread Cert.StepConvRefIdeal.nD Cert.StepConvRefIdeal.τ).loc Cert.StepConvRefIdeal.main_arg3) = m' ((c.tc : Thread Cert.StepConvRefIdeal.nD Cert.StepConvRefIdeal.τ).loc Cert.StepConvRefIdeal.main_arg3))

def preserves_StepRet_StepRetIdeal : Prop :=
  True

def algebraic_StepRetIdeal_StepRetRefIdeal [hStepRetIdeal : Cert.StepRetIdeal.Facts] [hStepRetRefIdeal : Cert.StepRetRefIdeal.Facts] : Prop :=
  ∀ (m : (ℓ : Loc Cert.StepRetIdeal.nD Cert.StepRetIdeal.τ Cert.StepRetIdeal.sig) → Buf (Elt Ideal) ℓ) (g : Dev Cert.StepRetIdeal.nD → PrngReg)
    (m' : (ℓ : Loc Cert.StepRetRefIdeal.nD Cert.StepRetRefIdeal.τ Cert.StepRetRefIdeal.sig) → Buf (Elt Ideal) ℓ) (g' : Dev Cert.StepRetRefIdeal.nD → PrngReg), Pre_StepRetIdeal m →
    (∀ c : Dev Cert.StepRetIdeal.nD,
      m' ((c.tc : Thread Cert.StepRetRefIdeal.nD Cert.StepRetRefIdeal.τ).loc Cert.StepRetRefIdeal.main_arg0) = m ((c.tc : Thread Cert.StepRetIdeal.nD Cert.StepRetIdeal.τ).loc Cert.StepRetIdeal.main_arg0)
      ∧ m' ((c.tc : Thread Cert.StepRetRefIdeal.nD Cert.StepRetRefIdeal.τ).loc Cert.StepRetRefIdeal.main_arg1) = m ((c.tc : Thread Cert.StepRetIdeal.nD Cert.StepRetIdeal.τ).loc Cert.StepRetIdeal.main_arg1)
      ∧ m' ((c.tc : Thread Cert.StepRetRefIdeal.nD Cert.StepRetRefIdeal.τ).loc Cert.StepRetRefIdeal.main_arg2) = m ((c.tc : Thread Cert.StepRetIdeal.nD Cert.StepRetIdeal.τ).loc Cert.StepRetIdeal.main_arg2)
      ∧ m' ((c.tc : Thread Cert.StepRetRefIdeal.nD Cert.StepRetRefIdeal.τ).loc Cert.StepRetRefIdeal.main_arg3) = m ((c.tc : Thread Cert.StepRetIdeal.nD Cert.StepRetIdeal.τ).loc Cert.StepRetIdeal.main_arg3)) →
    ∃ (v0 : (c : Dev Cert.StepRetIdeal.nD) → Buf (Elt Ideal) ((c.tc : Thread Cert.StepRetIdeal.nD Cert.StepRetIdeal.τ).loc Cert.StepRetIdeal.main_v0_0)) (v1 : (c : Dev Cert.StepRetIdeal.nD) → Buf (Elt Ideal) ((c.tc : Thread Cert.StepRetIdeal.nD Cert.StepRetIdeal.τ).loc Cert.StepRetIdeal.main_v0_1)) (v2 : (c : Dev Cert.StepRetIdeal.nD) → Buf (Elt Ideal) ((c.tc : Thread Cert.StepRetIdeal.nD Cert.StepRetIdeal.τ).loc Cert.StepRetIdeal.main_v0_2)),
      θ_run (Cert.StepRetIdeal.defs (F := Ideal)) (onTc (τ := Cert.StepRetIdeal.τ) (Cert.StepRetIdeal.main (F := Ideal))) ⟨m, fun _ => 0, g⟩ (fun r => ∀ c : Dev Cert.StepRetIdeal.nD,
          r.2.mem ((c.tc : Thread Cert.StepRetIdeal.nD Cert.StepRetIdeal.τ).loc Cert.StepRetIdeal.main_v0_0) = v0 c
          ∧ r.2.mem ((c.tc : Thread Cert.StepRetIdeal.nD Cert.StepRetIdeal.τ).loc Cert.StepRetIdeal.main_v0_1) = v1 c
          ∧ r.2.mem ((c.tc : Thread Cert.StepRetIdeal.nD Cert.StepRetIdeal.τ).loc Cert.StepRetIdeal.main_v0_2) = v2 c
          ∧ r.2.mem ((c.tc : Thread Cert.StepRetIdeal.nD Cert.StepRetIdeal.τ).loc Cert.StepRetIdeal.main_arg0) = m ((c.tc : Thread Cert.StepRetIdeal.nD Cert.StepRetIdeal.τ).loc Cert.StepRetIdeal.main_arg0)
          ∧ r.2.mem ((c.tc : Thread Cert.StepRetIdeal.nD Cert.StepRetIdeal.τ).loc Cert.StepRetIdeal.main_arg1) = m ((c.tc : Thread Cert.StepRetIdeal.nD Cert.StepRetIdeal.τ).loc Cert.StepRetIdeal.main_arg1)
          ∧ r.2.mem ((c.tc : Thread Cert.StepRetIdeal.nD Cert.StepRetIdeal.τ).loc Cert.StepRetIdeal.main_arg2) = m ((c.tc : Thread Cert.StepRetIdeal.nD Cert.StepRetIdeal.τ).loc Cert.StepRetIdeal.main_arg2)
          ∧ r.2.mem ((c.tc : Thread Cert.StepRetIdeal.nD Cert.StepRetIdeal.τ).loc Cert.StepRetIdeal.main_arg3) = m ((c.tc : Thread Cert.StepRetIdeal.nD Cert.StepRetIdeal.τ).loc Cert.StepRetIdeal.main_arg3))
      ∧ θ_run (Cert.StepRetRefIdeal.defs (F := Ideal)) (onTc (τ := Cert.StepRetRefIdeal.τ) (Cert.StepRetRefIdeal.main (F := Ideal))) ⟨m', fun _ => 0, g'⟩ (fun r => ∀ c : Dev Cert.StepRetRefIdeal.nD,
          r.2.mem ((c.tc : Thread Cert.StepRetRefIdeal.nD Cert.StepRetRefIdeal.τ).loc Cert.StepRetRefIdeal.main_v23) = v0 c
          ∧ r.2.mem ((c.tc : Thread Cert.StepRetRefIdeal.nD Cert.StepRetRefIdeal.τ).loc Cert.StepRetRefIdeal.main_v4) = v1 c
          ∧ r.2.mem ((c.tc : Thread Cert.StepRetRefIdeal.nD Cert.StepRetRefIdeal.τ).loc Cert.StepRetRefIdeal.main_v10) = v2 c
          ∧ r.2.mem ((c.tc : Thread Cert.StepRetRefIdeal.nD Cert.StepRetRefIdeal.τ).loc Cert.StepRetRefIdeal.main_arg0) = m' ((c.tc : Thread Cert.StepRetRefIdeal.nD Cert.StepRetRefIdeal.τ).loc Cert.StepRetRefIdeal.main_arg0)
          ∧ r.2.mem ((c.tc : Thread Cert.StepRetRefIdeal.nD Cert.StepRetRefIdeal.τ).loc Cert.StepRetRefIdeal.main_arg1) = m' ((c.tc : Thread Cert.StepRetRefIdeal.nD Cert.StepRetRefIdeal.τ).loc Cert.StepRetRefIdeal.main_arg1)
          ∧ r.2.mem ((c.tc : Thread Cert.StepRetRefIdeal.nD Cert.StepRetRefIdeal.τ).loc Cert.StepRetRefIdeal.main_arg2) = m' ((c.tc : Thread Cert.StepRetRefIdeal.nD Cert.StepRetRefIdeal.τ).loc Cert.StepRetRefIdeal.main_arg2)
          ∧ r.2.mem ((c.tc : Thread Cert.StepRetRefIdeal.nD Cert.StepRetRefIdeal.τ).loc Cert.StepRetRefIdeal.main_arg3) = m' ((c.tc : Thread Cert.StepRetRefIdeal.nD Cert.StepRetRefIdeal.τ).loc Cert.StepRetRefIdeal.main_arg3))

def preserves_StepWOut_StepWOutIdeal : Prop :=
  True

def algebraic_StepWOutIdeal_StepWOutRefIdeal [hStepWOutIdeal : Cert.StepWOutIdeal.Facts] [hStepWOutRefIdeal : Cert.StepWOutRefIdeal.Facts] : Prop :=
  ∀ (m : (ℓ : Loc Cert.StepWOutIdeal.nD Cert.StepWOutIdeal.τ Cert.StepWOutIdeal.sig) → Buf (Elt Ideal) ℓ) (g : Dev Cert.StepWOutIdeal.nD → PrngReg)
    (m' : (ℓ : Loc Cert.StepWOutRefIdeal.nD Cert.StepWOutRefIdeal.τ Cert.StepWOutRefIdeal.sig) → Buf (Elt Ideal) ℓ) (g' : Dev Cert.StepWOutRefIdeal.nD → PrngReg), Pre_StepWOutIdeal m →
    (∀ c : Dev Cert.StepWOutIdeal.nD,
      m' ((c.tc : Thread Cert.StepWOutRefIdeal.nD Cert.StepWOutRefIdeal.τ).loc Cert.StepWOutRefIdeal.main_arg0) = m ((c.tc : Thread Cert.StepWOutIdeal.nD Cert.StepWOutIdeal.τ).loc Cert.StepWOutIdeal.main_arg0)
      ∧ m' ((c.tc : Thread Cert.StepWOutRefIdeal.nD Cert.StepWOutRefIdeal.τ).loc Cert.StepWOutRefIdeal.main_arg1) = m ((c.tc : Thread Cert.StepWOutIdeal.nD Cert.StepWOutIdeal.τ).loc Cert.StepWOutIdeal.main_arg1)
      ∧ m' ((c.tc : Thread Cert.StepWOutRefIdeal.nD Cert.StepWOutRefIdeal.τ).loc Cert.StepWOutRefIdeal.main_arg2) = m ((c.tc : Thread Cert.StepWOutIdeal.nD Cert.StepWOutIdeal.τ).loc Cert.StepWOutIdeal.main_arg2)
      ∧ m' ((c.tc : Thread Cert.StepWOutRefIdeal.nD Cert.StepWOutRefIdeal.τ).loc Cert.StepWOutRefIdeal.main_arg3) = m ((c.tc : Thread Cert.StepWOutIdeal.nD Cert.StepWOutIdeal.τ).loc Cert.StepWOutIdeal.main_arg3)) →
    ∃ (v0 : (c : Dev Cert.StepWOutIdeal.nD) → Buf (Elt Ideal) ((c.tc : Thread Cert.StepWOutIdeal.nD Cert.StepWOutIdeal.τ).loc Cert.StepWOutIdeal.main_v0_0)) (v1 : (c : Dev Cert.StepWOutIdeal.nD) → Buf (Elt Ideal) ((c.tc : Thread Cert.StepWOutIdeal.nD Cert.StepWOutIdeal.τ).loc Cert.StepWOutIdeal.main_v0_1)) (v2 : (c : Dev Cert.StepWOutIdeal.nD) → Buf (Elt Ideal) ((c.tc : Thread Cert.StepWOutIdeal.nD Cert.StepWOutIdeal.τ).loc Cert.StepWOutIdeal.main_v0_2)),
      θ_run (Cert.StepWOutIdeal.defs (F := Ideal)) (onTc (τ := Cert.StepWOutIdeal.τ) (Cert.StepWOutIdeal.main (F := Ideal))) ⟨m, fun _ => 0, g⟩ (fun r => ∀ c : Dev Cert.StepWOutIdeal.nD,
          r.2.mem ((c.tc : Thread Cert.StepWOutIdeal.nD Cert.StepWOutIdeal.τ).loc Cert.StepWOutIdeal.main_v0_0) = v0 c
          ∧ r.2.mem ((c.tc : Thread Cert.StepWOutIdeal.nD Cert.StepWOutIdeal.τ).loc Cert.StepWOutIdeal.main_v0_1) = v1 c
          ∧ r.2.mem ((c.tc : Thread Cert.StepWOutIdeal.nD Cert.StepWOutIdeal.τ).loc Cert.StepWOutIdeal.main_v0_2) = v2 c
          ∧ r.2.mem ((c.tc : Thread Cert.StepWOutIdeal.nD Cert.StepWOutIdeal.τ).loc Cert.StepWOutIdeal.main_arg0) = m ((c.tc : Thread Cert.StepWOutIdeal.nD Cert.StepWOutIdeal.τ).loc Cert.StepWOutIdeal.main_arg0)
          ∧ r.2.mem ((c.tc : Thread Cert.StepWOutIdeal.nD Cert.StepWOutIdeal.τ).loc Cert.StepWOutIdeal.main_arg1) = m ((c.tc : Thread Cert.StepWOutIdeal.nD Cert.StepWOutIdeal.τ).loc Cert.StepWOutIdeal.main_arg1)
          ∧ r.2.mem ((c.tc : Thread Cert.StepWOutIdeal.nD Cert.StepWOutIdeal.τ).loc Cert.StepWOutIdeal.main_arg2) = m ((c.tc : Thread Cert.StepWOutIdeal.nD Cert.StepWOutIdeal.τ).loc Cert.StepWOutIdeal.main_arg2)
          ∧ r.2.mem ((c.tc : Thread Cert.StepWOutIdeal.nD Cert.StepWOutIdeal.τ).loc Cert.StepWOutIdeal.main_arg3) = m ((c.tc : Thread Cert.StepWOutIdeal.nD Cert.StepWOutIdeal.τ).loc Cert.StepWOutIdeal.main_arg3))
      ∧ θ_run (Cert.StepWOutRefIdeal.defs (F := Ideal)) (onTc (τ := Cert.StepWOutRefIdeal.τ) (Cert.StepWOutRefIdeal.main (F := Ideal))) ⟨m', fun _ => 0, g'⟩ (fun r => ∀ c : Dev Cert.StepWOutRefIdeal.nD,
          r.2.mem ((c.tc : Thread Cert.StepWOutRefIdeal.nD Cert.StepWOutRefIdeal.τ).loc Cert.StepWOutRefIdeal.main_v23) = v0 c
          ∧ r.2.mem ((c.tc : Thread Cert.StepWOutRefIdeal.nD Cert.StepWOutRefIdeal.τ).loc Cert.StepWOutRefIdeal.main_v4) = v1 c
          ∧ r.2.mem ((c.tc : Thread Cert.StepWOutRefIdeal.nD Cert.StepWOutRefIdeal.τ).loc Cert.StepWOutRefIdeal.main_v10) = v2 c
          ∧ r.2.mem ((c.tc : Thread Cert.StepWOutRefIdeal.nD Cert.StepWOutRefIdeal.τ).loc Cert.StepWOutRefIdeal.main_arg0) = m' ((c.tc : Thread Cert.StepWOutRefIdeal.nD Cert.StepWOutRefIdeal.τ).loc Cert.StepWOutRefIdeal.main_arg0)
          ∧ r.2.mem ((c.tc : Thread Cert.StepWOutRefIdeal.nD Cert.StepWOutRefIdeal.τ).loc Cert.StepWOutRefIdeal.main_arg1) = m' ((c.tc : Thread Cert.StepWOutRefIdeal.nD Cert.StepWOutRefIdeal.τ).loc Cert.StepWOutRefIdeal.main_arg1)
          ∧ r.2.mem ((c.tc : Thread Cert.StepWOutRefIdeal.nD Cert.StepWOutRefIdeal.τ).loc Cert.StepWOutRefIdeal.main_arg2) = m' ((c.tc : Thread Cert.StepWOutRefIdeal.nD Cert.StepWOutRefIdeal.τ).loc Cert.StepWOutRefIdeal.main_arg2)
          ∧ r.2.mem ((c.tc : Thread Cert.StepWOutRefIdeal.nD Cert.StepWOutRefIdeal.τ).loc Cert.StepWOutRefIdeal.main_arg3) = m' ((c.tc : Thread Cert.StepWOutRefIdeal.nD Cert.StepWOutRefIdeal.τ).loc Cert.StepWOutRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v80_1)) (v1 : (c : Dev Cert.MixIdeal.nD) → Buf (Elt Ideal) ((c.tc : Thread Cert.MixIdeal.nD Cert.MixIdeal.τ).loc Cert.MixIdeal.main_v80_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v80_1) = v0 c
          ∧ r.2.mem ((c.tc : Thread Cert.MixIdeal.nD Cert.MixIdeal.τ).loc Cert.MixIdeal.main_v80_2) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_v170) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hOutLoss : Cert.OutLoss.Facts) (hOutLossIdeal : Cert.OutLossIdeal.Facts) (hOutLossRefIdeal : Cert.OutLossRefIdeal.Facts) (hInGrad : Cert.InGrad.Facts) (hInGradIdeal : Cert.InGradIdeal.Facts) (hInGradRefIdeal : Cert.InGradRefIdeal.Facts) (hWGrad : Cert.WGrad.Facts) (hWGradIdeal : Cert.WGradIdeal.Facts) (hWGradRefIdeal : Cert.WGradRefIdeal.Facts) (hStepMeta : Cert.StepMeta.Facts) (hStepMetaIdeal : Cert.StepMetaIdeal.Facts) (hStepMetaRefIdeal : Cert.StepMetaRefIdeal.Facts) (hStepNorm : Cert.StepNorm.Facts) (hStepNormIdeal : Cert.StepNormIdeal.Facts) (hStepNormRefIdeal : Cert.StepNormRefIdeal.Facts) (hStepWIn : Cert.StepWIn.Facts) (hStepWInIdeal : Cert.StepWInIdeal.Facts) (hStepWInRefIdeal : Cert.StepWInRefIdeal.Facts) (hStepConv : Cert.StepConv.Facts) (hStepConvIdeal : Cert.StepConvIdeal.Facts) (hStepConvRefIdeal : Cert.StepConvRefIdeal.Facts) (hStepRet : Cert.StepRet.Facts) (hStepRetIdeal : Cert.StepRetIdeal.Facts) (hStepRetRefIdeal : Cert.StepRetRefIdeal.Facts) (hStepWOut : Cert.StepWOut.Facts) (hStepWOutIdeal : Cert.StepWOutIdeal.Facts) (hStepWOutRefIdeal : Cert.StepWOutRefIdeal.Facts) (hMix : Cert.Mix.Facts) (hMixIdeal : Cert.MixIdeal.Facts) (hMixRefIdeal : Cert.MixRefIdeal.Facts),
    quiescent_OutLoss (hOutLoss := hOutLoss)
    ∧ quiescent_OutLossIdeal (hOutLossIdeal := hOutLossIdeal)
    ∧ quiescent_OutLossRefIdeal (hOutLossRefIdeal := hOutLossRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_StepMeta (hStepMeta := hStepMeta)
    ∧ quiescent_StepMetaIdeal (hStepMetaIdeal := hStepMetaIdeal)
    ∧ quiescent_StepMetaRefIdeal (hStepMetaRefIdeal := hStepMetaRefIdeal)
    ∧ quiescent_StepNorm (hStepNorm := hStepNorm)
    ∧ quiescent_StepNormIdeal (hStepNormIdeal := hStepNormIdeal)
    ∧ quiescent_StepNormRefIdeal (hStepNormRefIdeal := hStepNormRefIdeal)
    ∧ quiescent_StepWIn (hStepWIn := hStepWIn)
    ∧ quiescent_StepWInIdeal (hStepWInIdeal := hStepWInIdeal)
    ∧ quiescent_StepWInRefIdeal (hStepWInRefIdeal := hStepWInRefIdeal)
    ∧ quiescent_StepConv (hStepConv := hStepConv)
    ∧ quiescent_StepConvIdeal (hStepConvIdeal := hStepConvIdeal)
    ∧ quiescent_StepConvRefIdeal (hStepConvRefIdeal := hStepConvRefIdeal)
    ∧ quiescent_StepRet (hStepRet := hStepRet)
    ∧ quiescent_StepRetIdeal (hStepRetIdeal := hStepRetIdeal)
    ∧ quiescent_StepRetRefIdeal (hStepRetRefIdeal := hStepRetRefIdeal)
    ∧ quiescent_StepWOut (hStepWOut := hStepWOut)
    ∧ quiescent_StepWOutIdeal (hStepWOutIdeal := hStepWOutIdeal)
    ∧ quiescent_StepWOutRefIdeal (hStepWOutRefIdeal := hStepWOutRefIdeal)
    ∧ quiescent_Mix (hMix := hMix)
    ∧ quiescent_MixIdeal (hMixIdeal := hMixIdeal)
    ∧ quiescent_MixRefIdeal (hMixRefIdeal := hMixRefIdeal)
    ∧ preserves_OutLoss_OutLossIdeal
    ∧ algebraic_OutLossIdeal_OutLossRefIdeal (hOutLossIdeal := hOutLossIdeal) (hOutLossRefIdeal := hOutLossRefIdeal)
    ∧ preserves_InGrad_InGradIdeal
    ∧ algebraic_InGradIdeal_InGradRefIdeal (hInGradIdeal := hInGradIdeal) (hInGradRefIdeal := hInGradRefIdeal)
    ∧ preserves_WGrad_WGradIdeal
    ∧ algebraic_WGradIdeal_WGradRefIdeal (hWGradIdeal := hWGradIdeal) (hWGradRefIdeal := hWGradRefIdeal)
    ∧ preserves_StepMeta_StepMetaIdeal
    ∧ algebraic_StepMetaIdeal_StepMetaRefIdeal (hStepMetaIdeal := hStepMetaIdeal) (hStepMetaRefIdeal := hStepMetaRefIdeal)
    ∧ preserves_StepNorm_StepNormIdeal
    ∧ algebraic_StepNormIdeal_StepNormRefIdeal (hStepNormIdeal := hStepNormIdeal) (hStepNormRefIdeal := hStepNormRefIdeal)
    ∧ preserves_StepWIn_StepWInIdeal
    ∧ algebraic_StepWInIdeal_StepWInRefIdeal (hStepWInIdeal := hStepWInIdeal) (hStepWInRefIdeal := hStepWInRefIdeal)
    ∧ preserves_StepConv_StepConvIdeal
    ∧ algebraic_StepConvIdeal_StepConvRefIdeal (hStepConvIdeal := hStepConvIdeal) (hStepConvRefIdeal := hStepConvRefIdeal)
    ∧ preserves_StepRet_StepRetIdeal
    ∧ algebraic_StepRetIdeal_StepRetRefIdeal (hStepRetIdeal := hStepRetIdeal) (hStepRetRefIdeal := hStepRetRefIdeal)
    ∧ preserves_StepWOut_StepWOutIdeal
    ∧ algebraic_StepWOutIdeal_StepWOutRefIdeal (hStepWOutIdeal := hStepWOutIdeal) (hStepWOutRefIdeal := hStepWOutRefIdeal)
    ∧ preserves_Mix_MixIdeal
    ∧ algebraic_MixIdeal_MixRefIdeal (hMixIdeal := hMixIdeal) (hMixRefIdeal := hMixRefIdeal)
-- ==== OutLoss.lean ====
abbrev S8192x1024 : Shape := ⟨2, ![8192, 1024]⟩
abbrev S8704x1024 : Shape := ⟨2, ![8704, 1024]⟩
abbrev S1024x1024 : Shape := ⟨2, ![1024, 1024]⟩
abbrev S1x1024 : Shape := ⟨2, ![1, 1024]⟩
abbrev S2x4x128x1024 : Shape := ⟨4, ![2, 4, 128, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1x128x1024 : Shape := ⟨4, ![1, 1, 128, 1024]⟩
abbrev S128x1024 : Shape := ⟨2, ![128, 1024]⟩
abbrev S1 : Shape := ⟨1, ![1]⟩
abbrev S1x1 : Shape := ⟨2, ![1, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8704x1024, .bf16⟩
  | .hbm, ⟨2, _⟩ => ⟨S1024x1024, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S2x4x128x1024, .f32⟩
  | .hbm, ⟨8, _⟩ => ⟨S1x1024, .f32⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S2x4x128x1024, .f32⟩
  | .local _ .vmem, ⟨13, _⟩ => ⟨S1x1024, .f32⟩
  | .local _ .vmem, ⟨14, _⟩ => ⟨S1x128, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v115 : BitVec 1 := Scalar.cmpi .eq arg0 c15_i32
  let v116 : BitVec 32 := Scalar.extui v115
  let c0_i32_95 : BitVec 32 := 0#32
  let v117 : BitVec 1 := Scalar.cmpi .ne v116 c0_i32_95
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x4x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutLossRefIdeal.lean ====
abbrev S8192x1024 : Shape := ⟨2, ![8192, 1024]⟩
abbrev S8704x1024 : Shape := ⟨2, ![8704, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x2x128x1024 : Shape := ⟨4, ![4, 2, 128, 1024]⟩
abbrev S2x4x128x1024 : Shape := ⟨4, ![2, 4, 128, 1024]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8704x1024, .bf16⟩
  | .hbm, ⟨2, _⟩ => ⟨S1024x1024, .bf16⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1024x1024, .f32⟩
  | .hbm, ⟨60, _⟩ => ⟨S4x2x128x1024, .f32⟩
  | .hbm, ⟨61, _⟩ => ⟨S2x4x128x1024, .f32⟩
  | .hbm, ⟨62, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== InGrad.lean ====
abbrev S8704x4096 : Shape := ⟨2, ![8704, 4096]⟩
abbrev S4x1024x1024 : Shape := ⟨3, ![4, 1024, 1024]⟩
abbrev S8192x1024 : Shape := ⟨2, ![8192, 1024]⟩
abbrev S16x1024 : Shape := ⟨2, ![16, 1024]⟩
abbrev S1x1024 : Shape := ⟨2, ![1, 1024]⟩
abbrev S_ : Shape := ⟨0, ![]⟩
abbrev S496x1024 : Shape := ⟨2, ![496, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8704x4096, .bf16⟩
  | .hbm, ⟨1, _⟩ => ⟨S4x1024x1024, .bf16⟩
  | .hbm, ⟨2, _⟩ => ⟨S8192x1024, .f32⟩
  | .hbm, ⟨3, _⟩ => ⟨S16x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S496x1024, .f32⟩
  | .hbm, ⟨8, _⟩ => ⟨S512x1024, .f32⟩
  | .hbm, ⟨9, _⟩ => ⟨S8192x1024, .f32⟩
  | .hbm, ⟨10, _⟩ => ⟨S16x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S16x1024, .f32⟩
  | .local _ .vmem, ⟨12, _⟩ => ⟨S1x1024, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_39 : BitVec 32 := 0#32
  let v63 : BitVec 1 := Scalar.cmpi .ne v62 c0_i32_39
  v63

def cc0_transform_0 (i : grid0.Coords) : Fin 2 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c16_i32 : BitVec 32 := 16#32
  let v2 : BitVec 32 := Scalar.select v0 c16_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InGradRefIdeal.lean ====
abbrev S8704x4096 : Shape := ⟨2, ![8704, 4096]⟩
abbrev S4x1024x1024 : Shape := ⟨3, ![4, 1024, 1024]⟩
abbrev S8192x1024 : Shape := ⟨2, ![8192, 1024]⟩
abbrev S16x1024 : Shape := ⟨2, ![16, 1024]⟩
abbrev S1x1024 : Shape := ⟨2, ![1, 1024]⟩
abbrev S1024x4x1024 : Shape := ⟨3, ![1024, 4, 1024]⟩
abbrev S1024x4096 : Shape := ⟨2, ![1024, 4096]⟩
abbrev S16x4096 : Shape := ⟨2, ![16, 4096]⟩
abbrev S8192x4096 : Shape := ⟨2, ![8192, 4096]⟩
abbrev S8208x4096 : Shape := ⟨2, ![8208, 4096]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4x1024x1024, .bf16⟩
  | .hbm, ⟨2, _⟩ => ⟨S8192x1024, .f32⟩
  | .hbm, ⟨3, _⟩ => ⟨S16x1024, .f32⟩
  | .hbm, ⟨4, _⟩ => ⟨S1x1024, .f32⟩
  | .hbm, ⟨5, _⟩ => ⟨S8192x1024, .f32⟩
  | .hbm, ⟨6, _⟩ => ⟨S8704x4096, .f32⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S16x4096, .f32⟩
  | .hbm, ⟨11, _⟩ => ⟨S8192x4096, .f32⟩
  | .hbm, ⟨12, _⟩ => ⟨S8208x4096, .f32⟩
  | .hbm, ⟨13, _⟩ => ⟨S8208x1024, .f32⟩
  | .hbm, ⟨14, _⟩ => ⟨S8208x1024, .f32⟩
  | .hbm, ⟨15, _⟩ => ⟨S8208x1024, .f32⟩
  | .hbm, ⟨16, _⟩ => ⟨S_, .f32⟩
  | .hbm, ⟨17, _⟩ => ⟨S8208, .f32⟩
  | .hbm, ⟨18, _⟩ => ⟨S8208x1, .f32⟩
  | .hbm, ⟨19, _⟩ => ⟨S_, .f32⟩
  | .hbm, ⟨20, _⟩ => ⟨S8208x1, .f32⟩
  | .hbm, ⟨21, _⟩ => ⟨S8208x1, .f32⟩
  | .hbm, ⟨22, _⟩ => ⟨S_, .f32⟩
  | .hbm, ⟨23, _⟩ => ⟨S8208x1, .f32⟩
  | .hbm, ⟨24, _⟩ => ⟨S8208x1, .f32⟩
  | .hbm, ⟨25, _⟩ => ⟨S8208x1, .f32⟩
  | .hbm, ⟨26, _⟩ => ⟨S8208x1024, .f32⟩
  | .hbm, ⟨27, _⟩ => ⟨S8208x1024, .f32⟩
  | .hbm, ⟨28, _⟩ => ⟨S8208x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S8208, .f32⟩
  | .hbm, ⟨37, _⟩ => ⟨S8208x1, .f32⟩
  | .hbm, ⟨38, _⟩ => ⟨S_, .f32⟩
  | .hbm, ⟨39, _⟩ => ⟨S8208x1, .f32⟩
  | .hbm, ⟨40, _⟩ => ⟨S8208x1, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1024, .f32⟩
  | .hbm, ⟨45, _⟩ => ⟨S8208x1024, .f32⟩
  | .hbm, ⟨46, _⟩ => ⟨S8192x1024, .f32⟩
  | .hbm, ⟨47, _⟩ => ⟨S8192x1024, .f32⟩
  | .hbm, ⟨48, _⟩ => ⟨S16x1024, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== WGrad.lean ====
abbrev S1024x8704 : Shape := ⟨2, ![1024, 8704]⟩
abbrev S8704x4096 : Shape := ⟨2, ![8704, 4096]⟩
abbrev S2x4x512x1024 : Shape := ⟨4, ![2, 4, 512, 1024]⟩
abbrev S1024x512 : Shape := ⟨2, ![1024, 512]⟩
abbrev S512x1024 : Shape := ⟨2, ![512, 1024]⟩
abbrev S2x1x512x1024 : Shape := ⟨4, ![2, 1, 512, 1024]⟩
abbrev S2x512x1024 : Shape := ⟨3, ![2, 512, 1024]⟩
abbrev S1x1x512x1024 : Shape := ⟨4, ![1, 1, 512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x8704, .bf16⟩
  | .hbm, ⟨1, _⟩ => ⟨S8704x4096, .bf16⟩
  | .hbm, ⟨2, _⟩ => ⟨S2x4x512x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S2x1x512x1024, .f32⟩
  | .local _ .vmem, ⟨5, _⟩ => ⟨S2x1x512x1024, .f32⟩
  | _, _ => ⟨S1024x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WGradRefIdeal.lean ====
abbrev S1024x8704 : Shape := ⟨2, ![1024, 8704]⟩
abbrev S8704x4096 : Shape := ⟨2, ![8704, 4096]⟩
abbrev S1024x4096 : Shape := ⟨2, ![1024, 4096]⟩
abbrev S2x512x4x1024 : Shape := ⟨4, ![2, 512, 4, 1024]⟩
abbrev S2x4x512x1024 : Shape := ⟨4, ![2, 4, 512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x8704, .bf16⟩
  | .hbm, ⟨1, _⟩ => ⟨S8704x4096, .bf16⟩
  | .hbm, ⟨2, _⟩ => ⟨S1024x8704, .f32⟩
  | .hbm, ⟨3, _⟩ => ⟨S8704x4096, .f32⟩
  | .hbm, ⟨4, _⟩ => ⟨S1024x4096, .f32⟩
  | .hbm, ⟨5, _⟩ => ⟨S2x512x4x1024, .f32⟩
  | .hbm, ⟨6, _⟩ => ⟨S2x4x512x1024, .f32⟩
  | _, _ => ⟨S1024x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== StepMeta.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepMetaRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepWIn.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepWInRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConv.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvRefIdeal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepRet.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepRetRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepWOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepWOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Mix.lean ====
abbrev S8704x4096 : Shape := ⟨2, ![8704, 4096]⟩
abbrev S8192x1024 : Shape := ⟨2, ![8192, 1024]⟩
abbrev S8704x512 : Shape := ⟨2, ![8704, 512]⟩
abbrev S68x4x128x128 : Shape := ⟨4, ![68, 4, 128, 128]⟩
abbrev S3x512 : Shape := ⟨2, ![3, 512]⟩
abbrev S1x512 : Shape := ⟨2, ![1, 512]⟩
abbrev S_ : Shape := ⟨0, ![]⟩
abbrev S5x512 : Shape := ⟨2, ![5, 512]⟩
abbrev S8x512 : Shape := ⟨2, ![8, 512]⟩
abbrev S8704 : Shape := ⟨1, ![8704]⟩
abbrev S64 : Shape := ⟨1, ![64]⟩
abbrev S8704x1 : Shape := ⟨2, ![8704, 1]⟩
abbrev S1x64 : Shape := ⟨2, ![1, 64]⟩
abbrev S8704x64 : Shape := ⟨2, ![8704, 64]⟩
abbrev S8704x128 : Shape := ⟨2, ![8704, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x8x128 : Shape := ⟨3, ![4, 8, 128]⟩
abbrev S512x4096 : Shape := ⟨2, ![512, 4096]⟩
abbrev S512x1024 : Shape := ⟨2, ![512, 1024]⟩
abbrev S512x512 : Shape := ⟨2, ![512, 512]⟩
abbrev S4x4x128x128 : Shape := ⟨4, ![4, 4, 128, 128]⟩
abbrev S512x128 : Shape := ⟨2, ![512, 128]⟩
abbrev S512 : Shape := ⟨1, ![512]⟩
abbrev S1x1x128x128 : Shape := ⟨4, ![1, 1, 128, 128]⟩
abbrev S1x1x128 : Shape := ⟨3, ![1, 1, 128]⟩

abbrev nBuf : Space → Nat
  | .hbm => 108
  | .vmem => 25
  | .smem => 0
  | _ => 0

abbrev bufTy : (tb : Table) → Fin (tcTables nBuf tb) → BufTy
  | .hbm, ⟨0, _⟩ => ⟨S8704x4096, .bf16⟩
  | .hbm, ⟨1, _⟩ => ⟨S8192x1024, .bf16⟩
  | .hbm, ⟨2, _⟩ => ⟨S8704x512, .bf16⟩
  | .hbm, ⟨3, _⟩ => ⟨S68x4x128x128, .bf16⟩
  | .hbm, ⟨4, _⟩ => ⟨S3x512, .f32⟩
  | .hbm, ⟨5, _⟩ => ⟨S1x512, .f32⟩
  | .hbm, ⟨6, _⟩ => ⟨S_, .f32⟩
  | .hbm, ⟨7, _⟩ => ⟨S5x512, .f32⟩
  | .hbm, ⟨8, _⟩ => ⟨S8x512, .f32⟩
  | .hbm, ⟨9, _⟩ => ⟨S8704, .i32⟩
  | .hbm, ⟨10, _⟩ => ⟨S_, .i32⟩
  | .hbm, ⟨11, _⟩ => ⟨S8704, .i32⟩
  | .hbm, ⟨12, _⟩ => ⟨S8704, .i1⟩
  | .hbm, ⟨13, _⟩ => ⟨S_, .i32⟩
  | .hbm, ⟨14, _⟩ => ⟨S8704, .i32⟩
  | .hbm, ⟨15, _⟩ => ⟨S8704, .i32⟩
  | .hbm, ⟨16, _⟩ => ⟨S_, .i32⟩
  | .hbm, ⟨17, _⟩ => ⟨S8704, .i32⟩
  | .hbm, ⟨18, _⟩ => ⟨S8704, .i32⟩
  | .hbm, ⟨19, _⟩ => ⟨S_, .i32⟩
  | .hbm, ⟨20, _⟩ => ⟨S8704, .i32⟩
  | .hbm, ⟨21, _⟩ => ⟨S8704, .i32⟩
  | .hbm, ⟨22, _⟩ => ⟨S8704, .i32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S8704, .f32⟩
  | .hbm, ⟨34, _⟩ => ⟨S8704x1, .f32⟩
  | .hbm, ⟨35, _⟩ => ⟨S1x64, .f32⟩
  | .hbm, ⟨36, _⟩ => ⟨S8704x64, .f32⟩
  | .hbm, ⟨37, _⟩ => ⟨S8704x64, .f32⟩
  | .hbm, ⟨38, _⟩ => ⟨S8704x64, .f32⟩
  | .hbm, ⟨39, _⟩ => ⟨S8704x64, .f32⟩
  | .hbm, ⟨40, _⟩ => ⟨S8704x64, .f32⟩
  | .hbm, ⟨41, _⟩ => ⟨S8704x128, .f32⟩
  | .hbm, ⟨42, _⟩ => ⟨S8704x64, .f32⟩
  | .hbm, ⟨43, _⟩ => ⟨S8704x128, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S128, .f32⟩
  | .hbm, ⟨56, _⟩ => ⟨S128x1, .f32⟩
  | .hbm, ⟨57, _⟩ => ⟨S1x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S_, .f32⟩
  | .hbm, ⟨63, _⟩ => ⟨S1x128x128, .f32⟩
  | .hbm, ⟨64, _⟩ => ⟨S1x128x128, .i1⟩
  | .hbm, ⟨65, _⟩ => ⟨S1x128x128, .f32⟩
  | .hbm, ⟨66, _⟩ => ⟨S4x1x1, .f32⟩
  | .hbm, ⟨67, _⟩ => ⟨S4x128x128, .f32⟩
  | .hbm, ⟨68, _⟩ => ⟨S4x128x128, .f32⟩
  | .hbm, ⟨69, _⟩ => ⟨S4x128x128, .f32⟩
  | .hbm, ⟨70, _⟩ => ⟨S4x128x128, .f32⟩
  | .hbm, ⟨71, _⟩ => ⟨S_, .f32⟩
  | .hbm, ⟨72, _⟩ => ⟨S_, .f32⟩
  | .hbm, ⟨73, _⟩ => ⟨S4x128x128, .i1⟩
  | .hbm, ⟨74, _⟩ => ⟨S4x128x128, .f32⟩
  | .hbm, ⟨75, _⟩ => ⟨S4x128x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S4x1, .f32⟩
  | .hbm, ⟨81, _⟩ => ⟨S4x128, .f32⟩
  | .hbm, ⟨82, _⟩ => ⟨S4x128, .f32⟩
  | .hbm, ⟨83, _⟩ => ⟨S4x128, .f32⟩
  | .hbm, ⟨84, _⟩ => ⟨S4x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S4x1, .f32⟩
  | .hbm, ⟨90, _⟩ => ⟨S4x128, .f32⟩
  | .hbm, ⟨91, _⟩ => ⟨S4x128, .f32⟩
  | .hbm, ⟨92, _⟩ => ⟨S4x128, .f32⟩
  | .hbm, ⟨93, _⟩ => ⟨S4x128, .f32⟩
  | .hbm, ⟨94, _⟩ => ⟨S_, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S4x128x1, .f32⟩
  | .hbm, ⟨99, _⟩ => ⟨S4x128x128, .f32⟩
  | .hbm, ⟨100, _⟩ => ⟨S4x128x1, .f32⟩
  | .hbm, ⟨101, _⟩ => ⟨S4x128x128, .f32⟩
  | .hbm, ⟨102, _⟩ => ⟨S4x1x1, .f32⟩
  | .hbm, ⟨103, _⟩ => ⟨S4x8x128, .f32⟩
  | .hbm, ⟨104, _⟩ => ⟨S4x128x128, .f32⟩
  | .hbm, ⟨105, _⟩ => ⟨S8704x4096, .bf16⟩
  | .hbm, ⟨106, _⟩ => ⟨S8x512, .f32⟩
  | .hbm, ⟨107, _⟩ => ⟨S1x512, .f32⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S4x4x128x128, .bf16⟩
  | .local _ .vmem, ⟨7, _⟩ => ⟨S4x4x128x128, .bf16⟩
  | .local _ .vmem, ⟨8, _⟩ => ⟨S8x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4x128x128, .f32⟩
  | .local _ .vmem, ⟨15, _⟩ => ⟨S4x128x128, .f32⟩
  | .local _ .vmem, ⟨16, _⟩ => ⟨S4x128x128, .f32⟩
  | .local _ .vmem, ⟨17, _⟩ => ⟨S4x128x128, .f32⟩
  | .local _ .vmem, ⟨18, _⟩ => ⟨S4x8x128, .f32⟩
  | .local _ .vmem, ⟨19, _⟩ => ⟨S512x4096, .bf16⟩
  | .local _ .vmem, ⟨20, _⟩ => ⟨S512x4096, .bf16⟩
  | .local _ .vmem, ⟨21, _⟩ => ⟨S8x512, .f32⟩
  | .local _ .vmem, ⟨22, _⟩ => ⟨S1x512, .f32⟩
  | .local _ .vmem, ⟨23, _⟩ => ⟨S4x128x128, .f32⟩
  | .local _ .vmem, ⟨24, _⟩ => ⟨S8x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80_0 : Ref sig .tc := ⟨.hbm, 105, rfl⟩
abbrev main_v80_1 : Ref sig .tc := ⟨.hbm, 106, rfl⟩
abbrev main_v80_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 1 := Scalar.cmpi .eq arg0 c16_i32
  let c15_i32 : BitVec 32 := 15#32
  let v1 : BitVec 32 := Scalar.subi c15_i32 arg0
  let c16_i32_0 : BitVec 32 := 16#32
  let v2 : BitVec 32 := Scalar.select v0 c16_i32_0 v1
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let c16_i32 : BitVec 32 := 16#32
  let v0 : BitVec 1 := Scalar.cmpi .eq arg0 c16_i32
  let c15_i32 : BitVec 32 := 15#32
  let v1 : BitVec 32 := Scalar.subi c15_i32 arg0
  let c16_i32_0 : BitVec 32 := 16#32
  let v2 : BitVec 32 := Scalar.select v0 c16_i32_0 v1
  let c15_i32_1 : BitVec 32 := 15#32
  let v3 : BitVec 32 := Scalar.minsi v2 c15_i32_1
  let c0_i32 : BitVec 32 := 0#32
  let c0_i32_2 : BitVec 32 := 0#32
  ![v3.toNat, c0_i32.toNat]

def cc0_transform_2 (i : grid0.Coords) : Fin 2 → Nat :=
  let arg0 : BitVec 32 := BitVec.ofNat 32 (i 0).val
  let c16_i32 : BitVec 32 := 16#32
  let v0 : BitVec 1 := Scalar.cmpi .eq arg0 c16_i32
  let c15_i32 : BitVec 32 := 15#32
  let v1 : BitVec 32 := Scalar.subi c15_i32 arg0
  let c16_i32_0 : BitVec 32 := 16#32
  let v2 : BitVec 32 := Scalar.select v0 c16_i32_0 v1
  let c0_i32 : BitVec 32 := 0#32
  let c0_i32_1 : BitVec 32 := 0#32
  ![v2.toNat, c0_i32.toNat]

def cc0_transform_3 (i : grid0.Coords) : Fin 4 → Nat :=
  let arg0 : BitVec 32 := BitVec.ofNat 32 (i 0).val
  let c16_i32 : BitVec 32 := 16#32
  let v0 : BitVec 1 := Scalar.cmpi .eq arg0 c16_i32
  let c15_i32 : BitVec 32 := 15#32
  let v1 : BitVec 32 := Scalar.subi c15_i32 arg0
  let c16_i32_0 : BitVec 32 := 16#32
  let v2 : BitVec 32 := Scalar.select v0 c16_i32_0 v1
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 1 := Scalar.cmpi .eq arg0 c16_i32
  let c15_i32 : BitVec 32 := 15#32
  let v1 : BitVec 32 := Scalar.subi c15_i32 arg0
  let c16_i32_0 : BitVec 32 := 16#32
  let v2 : BitVec 32 := Scalar.select v0 c16_i32_0 v1
  let c0_i32 : BitVec 32 := 0#32
  let c0_i32_1 : BitVec 32 := 0#32
  ![v2.toNat, c0_i32.toNat]

def cc0_transform_7 (i : grid0.Coords) : Fin 2 → Nat :=
  let arg0 : BitVec 32 := BitVec.ofNat 32 (i 0).val
  let c16_i32 : BitVec 32 := 16#32
  let v0 : BitVec 1 := Scalar.cmpi .eq arg0 c16_i32
  let c15_i32 : BitVec 32 := 15#32
  let v1 : BitVec 32 := Scalar.subi c15_i32 arg0
  let c16_i32_0 : BitVec 32 := 16#32
  let v2 : BitVec 32 := Scalar.select v0 c16_i32_0 v1
  let c0_i32 : BitVec 32 := 0#32
  let c0_i32_1 : BitVec 32 := 0#32
  ![v2.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c16_i32 : BitVec 32 := 16#32
  let v0 : BitVec 1 := Scalar.cmpi .eq arg0 c16_i32
  let c15_i32 : BitVec 32 := 15#32
  let v1 : BitVec 32 := Scalar.subi c15_i32 arg0
  let c16_i32_0 : BitVec 32 := 16#32
  let v2 : BitVec 32 := Scalar.select v0 c16_i32_0 v1
  let c0_i32 : BitVec 32 := 0#32
  let c0_i32_1 : BitVec 32 := 0#32
  ![v2.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixRefIdeal.lean ====
abbrev S8704x4096 : Shape := ⟨2, ![8704, 4096]⟩
abbrev S8192x1024 : Shape := ⟨2, ![8192, 1024]⟩
abbrev S8704x512 : Shape := ⟨2, ![8704, 512]⟩
abbrev S68x4x128x128 : Shape := ⟨4, ![68, 4, 128, 128]⟩
abbrev S3x512 : Shape := ⟨2, ![3, 512]⟩
abbrev S1x512 : Shape := ⟨2, ![1, 512]⟩
abbrev S16x4096 : Shape := ⟨2, ![16, 4096]⟩
abbrev S8192x4096 : Shape := ⟨2, ![8192, 4096]⟩
abbrev S8208x4096 : Shape := ⟨2, ![8208, 4096]⟩
abbrev S8208x512 : Shape := ⟨2, ![8208, 512]⟩
abbrev S_ : Shape := ⟨0, ![]⟩
abbrev S16x512 : Shape := ⟨2, ![16, 512]⟩
abbrev S8192x512 : Shape := ⟨2, ![8192, 512]⟩
abbrev S2x512 : Shape := ⟨2, ![2, 512]⟩
abbrev S8210x512 : Shape := ⟨2, ![8210, 512]⟩
abbrev S512 : Shape := ⟨1, ![512]⟩
abbrev S5x512 : Shape := ⟨2, ![5, 512]⟩
abbrev S8x512 : Shape := ⟨2, ![8, 512]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S64x128x1x64 : Shape := ⟨4, ![64, 128, 1, 64]⟩
abbrev S64x128x4x128 : Shape := ⟨4, ![64, 128, 4, 128]⟩
abbrev S64x128x4x64 : Shape := ⟨4, ![64, 128, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S64x4x128x128 : Shape := ⟨4, ![64, 4, 128, 128]⟩
abbrev S1x4x128x128 : Shape := ⟨4, ![1, 4, 128, 128]⟩
abbrev S128x4 : Shape := ⟨2, ![128, 4]⟩
abbrev S1x128x4x1 : Shape := ⟨4, ![1, 128, 4, 1]⟩
abbrev S64x4x128 : Shape := ⟨3, ![64, 4, 128]⟩
abbrev S64x4x128x1 : Shape := ⟨4, ![64, 4, 128, 1]⟩

abbrev nBuf : Space → Nat
  | .hbm => 207
  | .vmem => 0
  | .smem => 0
  | _ => 0

abbrev hbmTy0_0 (i : Nat) : BufTy := match i % 128 with
  | 0 => ⟨S8704x4096, .bf16⟩
  | 1 => ⟨S8192x1024, .bf16⟩
  | 2 => ⟨S8704x512, .bf16⟩
  | 3 => ⟨S68x4x128x128, .bf16⟩
  | 4 => ⟨S3x512, .f32⟩
  | 5 => ⟨S1x512, .f32⟩
  | 6 => ⟨S8704x4096, .f32⟩
  | 7 => ⟨S16x4096, .f32⟩
  | 8 => ⟨S8192x4096, .f32⟩
  | 9 => ⟨S8208x4096, .f32⟩
  | 10 => ⟨S8208x512, .f32⟩
  | 11 => ⟨S8208x512, .f32⟩
  | 12 => ⟨S8208x512, .f32⟩
  | 13 => ⟨S8208x512, .f32⟩
  | 14 => ⟨S8208x512, .f32⟩
  | 15 => ⟨S8208x512, .f32⟩
  | 16 => ⟨S8208x512, .f32⟩
  | 17 => ⟨S8208x512, .f32⟩
  | 18 => ⟨S8192x1024, .f32⟩
  | 19 => ⟨S_, .f32⟩
  | 20 => ⟨S16x512, .f32⟩
  | 21 => ⟨S8192x512, .f32⟩
  | 22 => ⟨S8208x512, .f32⟩
  | 23 => ⟨S8208x512, .f32⟩
  | 24 => ⟨S8208x512, .f32⟩
  | 25 => ⟨S8208x512, .f32⟩
  | 26 => ⟨S8208x512, .f32⟩
  | 27 => ⟨S_, .f32⟩
  | 28 => ⟨S8208x512, .f32⟩
  | 29 => ⟨S8208x512, .f32⟩
  | 30 => ⟨S_, .f32⟩
  | 31 => ⟨S8208x512, .f32⟩
  | 32 => ⟨S8208x512, .f32⟩
  | 33 => ⟨S8208x512, .f32⟩
  | 34 => ⟨S8208x512, .f32⟩
  | 35 => ⟨S_, .f32⟩
  | 36 => ⟨S2x512, .f32⟩
  | 37 => ⟨S8210x512, .f32⟩
  | 38 => ⟨S8208x512, .f32⟩
  | 39 => ⟨S8208x512, .f32⟩
  | 40 => ⟨S_, .f32⟩
  | 41 => ⟨S512, .f32⟩
  | 42 => ⟨S1x512, .f32⟩
  | 43 => ⟨S8208x512, .f32⟩
  | 44 => ⟨S8208x512, .f32⟩
  | 45 => ⟨S_, .f32⟩
  | 46 => ⟨S512, .f32⟩
  | 47 => ⟨S1x512, .f32⟩
  | 48 => ⟨S8208x512, .f32⟩
  | 49 => ⟨S8208x512, .f32⟩
  | 50 => ⟨S_, .f32⟩
  | 51 => ⟨S512, .f32⟩
  | 52 => ⟨S1x512, .f32⟩
  | 53 => ⟨S_, .f32⟩
  | 54 => ⟨S5x512, .f32⟩
  | 55 => ⟨S8x512, .f32⟩
  | 56 => ⟨S8192, .i32⟩
  | 57 => ⟨S_, .i32⟩
  | 58 => ⟨S8192, .i32⟩
  | 59 => ⟨S8192, .i32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S8192, .f32⟩
  | 71 => ⟨S8192x1, .f32⟩
  | 72 => ⟨S1x64, .f32⟩
  | 73 => ⟨S8192x64, .f32⟩
  | 74 => ⟨S8192x64, .f32⟩
  | 75 => ⟨S8192x64, .f32⟩
  | 76 => ⟨S64x128x1x64, .f32⟩
  | 77 => ⟨S64x128x1x64, .f32⟩
  | 78 => ⟨S64x128x1x64, .f32⟩
  | 79 => ⟨S8192x512, .f32⟩
  | 80 => ⟨S64x128x4x128, .f32⟩
  | 81 => ⟨S64x128x4x64, .f32⟩
  | 82 => ⟨S64x128x4x64, .f32⟩
  | 83 => ⟨S64x128x4x64, .f32⟩
  | 84 => ⟨S64x128x4x64, .f32⟩
  | 85 => ⟨S64x128x4x64, .f32⟩
  | 86 => ⟨S64x128x4x64, .f32⟩
  | 87 => ⟨S64x128x4x64, .f32⟩
  | 88 => ⟨S64x128x4x64, .f32⟩
  | 89 => ⟨S64x128x4x64, .f32⟩
  | 90 => ⟨S64x128x4x64, .f32⟩
  | 91 => ⟨S64x128x4x64, .f32⟩
  | 92 => ⟨S64x128x4x64, .f32⟩
  | 93 => ⟨S64x128x4x128, .f32⟩
  | 94 => ⟨S_, .f32⟩
  | 95 => ⟨S64x128x4x128, .f32⟩
  | 96 => ⟨S64x128x4x128, .f32⟩
  | 97 => ⟨S8192x512, .f32⟩
  | 98 => ⟨S64x128x4x128, .f32⟩
  | 99 => ⟨S64x128x4x64, .f32⟩
  | 100 => ⟨S64x128x4x64, .f32⟩
  | 101 => ⟨S64x128x4x64, .f32⟩
  | 102 => ⟨S64x128x4x64, .f32⟩
  | 103 => ⟨S64x128x4x64, .f32⟩
  | 104 => ⟨S64x128x4x64, .f32⟩
  | 105 => ⟨S64x128x4x64, .f32⟩
  | 106 => ⟨S64x128x4x64, .f32⟩
  | 107 => ⟨S64x128x4x64, .f32⟩
  | 108 => ⟨S64x128x4x64, .f32⟩
  | 109 => ⟨S64x128x4x64, .f32⟩
  | 110 => ⟨S64x128x4x64, .f32⟩
  | 111 => ⟨S64x128x4x128, .f32⟩
  | 112 => ⟨S8192x512, .f32⟩
  | 113 => ⟨S64x128x4x128, .f32⟩
  | 114 => ⟨S4, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S_, .f32⟩
  | 122 => ⟨S4, .f32⟩
  | 123 => ⟨S4, .f32⟩
  | 124 => ⟨S4, .f32⟩
  | 125 => ⟨S128, .f32⟩
  | 126 => ⟨S128x1, .f32⟩
  | 127 => ⟨S1x128, .f32⟩
  | _ => ⟨S8704x4096, .bf16⟩

abbrev hbmTy0_1 (i : Nat) : BufTy := match i % 128 with
  | 0 => ⟨S128x128, .f32⟩
  | 1 => ⟨S128x128, .f32⟩
  | 2 => ⟨S128x128, .f32⟩
  | 3 => ⟨S1x128x128, .f32⟩
  | 4 => ⟨S_, .f32⟩
  | 5 => ⟨S1x128x128, .f32⟩
  | 6 => ⟨S1x128x128, .i1⟩
  | 7 => ⟨S1x128x128, .f32⟩
  | 8 => ⟨S4x1x1, .f32⟩
  | 9 => ⟨S4x128x128, .f32⟩
  | 10 => ⟨S4x128x128, .f32⟩
  | 11 => ⟨S4x128x128, .f32⟩
  | 12 => ⟨S4x128x128, .f32⟩
  | 13 => ⟨S_, .f32⟩
  | 14 => ⟨S_, .f32⟩
  | 15 => ⟨S4x128x128, .i1⟩
  | 16 => ⟨S4x128x128, .f32⟩
  | 17 => ⟨S4x128x128, .f32⟩
  | 18 => ⟨S_, .f32⟩
  | 19 => ⟨S128, .f32⟩
  | 20 => ⟨S128, .f32⟩
  | 21 => ⟨S1x128, .f32⟩
  | 22 => ⟨S4x1, .f32⟩
  | 23 => ⟨S4x128, .f32⟩
  | 24 => ⟨S4x128, .f32⟩
  | 25 => ⟨S4x128, .f32⟩
  | 26 => ⟨S4x128, .f32⟩
  | 27 => ⟨S64x4x128x128, .f32⟩
  | 28 => ⟨S1x4x128x128, .f32⟩
  | 29 => ⟨S64x4x128x128, .f32⟩
  | 30 => ⟨S64x4x128x128, .f32⟩
  | 31 => ⟨S64x4x128x128, .f32⟩
  | 32 => ⟨S128x4, .f32⟩
  | 33 => ⟨S1x128x4x1, .f32⟩
  | 34 => ⟨S64x128x4x128, .f32⟩
  | 35 => ⟨S64x128x4x128, .f32⟩
  | 36 => ⟨S64x4x128x128, .bf16⟩
  | 37 => ⟨S64x4x128x128, .f32⟩
  | 38 => ⟨S64x4x128x128, .f32⟩
  | 39 => ⟨S64x4x128x128, .f32⟩
  | 40 => ⟨S_, .f32⟩
  | 41 => ⟨S64x4x128, .f32⟩
  | 42 => ⟨S64x4x128x1, .f32⟩
  | 43 => ⟨S_, .f32⟩
  | 44 => ⟨S64x4x128x1, .f32⟩
  | 45 => ⟨S64x4x128x1, .f32⟩
  | 46 => ⟨S64x4x128x128, .f32⟩
  | 47 => ⟨S64x4x128x128, .f32⟩
  | 48 => ⟨S64x4x128x128, .f32⟩
  | 49 => ⟨S_, .f32⟩
  | 50 => ⟨S64x4x128, .f32⟩
  | 51 => ⟨S64x4x128x1, .f32⟩
  | 52 => ⟨S_, .f32⟩
  | 53 => ⟨S64x4x128x1, .f32⟩
  | 54 => ⟨S64x4x128x1, .f32⟩
  | 55 => ⟨S_, .f32⟩
  | 56 => ⟨S64x4x128x1, .f32⟩
  | 57 => ⟨S64x4x128x1, .f32⟩
  | 58 => ⟨S64x4x128x1, .f32⟩
  | 59 => ⟨S64x4x128x128, .f32⟩
  | 60 => ⟨S64x4x128x128, .f32⟩
  | 61 => ⟨S8192x512, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S8192x512, .f32⟩
  | 73 => ⟨S64x128x4x128, .f32⟩
  | 74 => ⟨S8192x512, .f32⟩
  | 75 => ⟨S8192x512, .f32⟩
  | 76 => ⟨S_, .f32⟩
  | 77 => ⟨S512, .f32⟩
  | 78 => ⟨S1x512, .f32⟩
  | _ => ⟨S8704x4096, .bf16⟩

abbrev hbmTy (i : Nat) : BufTy := match i / 128 with
  | 0 => hbmTy0_0 i
  | 1 => hbmTy0_1 i
  | _ => ⟨S8704x4096, .bf16⟩

abbrev bufTy : (tb : Table) → Fin (tcTables nBuf tb) → BufTy
  | .hbm, ⟨i, _⟩ => hbmTy i
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_10 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_11 : Ref sig .tc := ⟨.hbm, 115, rfl⟩
abbrev main_v96 : Ref sig .tc := ⟨.hbm, 116, rfl⟩
abbrev main_v97 : Ref sig .tc := ⟨.hbm, 117, rfl⟩
abbrev main_cst_12 : Ref sig .tc := ⟨.hbm, 118, rfl⟩
abbrev main_v98 : Ref sig .tc := ⟨.hbm, 119, rfl⟩
abbrev main_v99 : Ref sig .tc := ⟨.hbm, 120, rfl⟩
abbrev main_cst_13 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_14 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_15 : Ref sig .tc := ⟨.hbm, 141, rfl⟩
abbrev main_call0_v0 : Ref sig .tc := ⟨.hbm, 142, rfl⟩
abbrev main_call0_v1 : Ref sig .tc := ⟨.hbm, 143, rfl⟩
abbrev main_call0_v2 : Ref sig .tc := ⟨.hbm, 144, rfl⟩
abbrev main_v118 : Ref sig .tc := ⟨.hbm, 145, rfl⟩
abbrev main_cst_16 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_17 : Ref sig .tc := ⟨.hbm, 168, rfl⟩
abbrev main_v140 : Ref sig .tc := ⟨.hbm, 169, rfl⟩
abbrev main_v141 : Ref sig .tc := ⟨.hbm, 170, rfl⟩
abbrev main_cst_18 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_19 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_cst_21 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_cst_22 : Ref sig .tc := ⟨.hbm, 193, rfl⟩
abbrev main_v160 : Ref sig .tc := ⟨.hbm, 194, rfl⟩
abbrev main_v161 : Ref sig .tc := ⟨.hbm, 195, rfl⟩
abbrev main_cst_23 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_24 : Ref sig .tc := ⟨.hbm, 204, rfl⟩
abbrev main_v169 : Ref sig .tc := ⟨.hbm, 205, rfl⟩
abbrev main_v170 : Ref sig .tc := ⟨.hbm, 206, rfl⟩

abbrev nD : Nat := 1
abbrev τ : Topo := Topo.v7x

variable {F : FTy → Type} [FloatOps F]
-- ==== Proof.Shared.lean ====
/-
  What the value proofs share: the constants as numbers, and three facts about stores, indices and sums.
-/
module

public import proofs.«01_k».proof.Defs
public import Idealize.ShloMosaic.Lib.Pipeline.Value
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Proof.Shared

/-- The constant that is the width, as a real number. -/
theorem c1024 : Ideal.ofBits .f32 1149239296#32 = ((1024 : ℝ) : EReal) := by simp [Ideal.ofBits, Ideal.ieee, -EReal.coe_mul]; norm_num
/-- The constant that is its inverse, as a real number. -/
theorem cinv : Ideal.ofBits .f32 981467136#32 = ((1 / 1024 : ℝ) : EReal) := by simp [Ideal.ofBits, Ideal.ieee, -EReal.coe_mul]; norm_num
/-- The constant that is a half, as a real number. -/
theorem chalf : Ideal.ofBits .f32 0x3F000000#32 = ((1 / 2 : ℝ) : EReal) := by simp [Ideal.ofBits, Ideal.ieee, -EReal.coe_mul]; norm_num
/-- The constant that is half the inverse of the width, as a real number. -/
theorem cinv2 : Ideal.ofBits .f32 0x3A000000#32 = ((1 / 2048 : ℝ) : EReal) := by simp [Ideal.ofBits, Ideal.ieee, -EReal.coe_mul]; norm_num

/-- What older stores left is not seen where newer ones cover. -/
theorem canon_drop {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], y, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem p _ hm, View.canon_cons_of_not_mem p _ hm]
      refine canon_drop L' L y ?_
      obtain ⟨q, hq, hs⟩ := hy
      rcases List.mem_cons.mp hq with rfl | h
      · exact absurd hs hm
      · exact ⟨q, h, hs⟩

/-- An index of a matrix is its two coordinates. -/
theorem eta2 {a b : ℕ} (j : (⟨2, ![a, b]⟩ : Shape).Idx) : j = ix2 (j 0 : Fin a) (j 1 : Fin b) := by
  blk_ext

/-- A positive number may be taken out of a finite sum of extended reals. -/
theorem sum_mul_pos {ι : Type*} (s : Finset ι) (f : ι → EReal) {x : ℝ} (hx : 0 ≤ x) : ∑ i ∈ s, f i * (x : EReal) = (∑ i ∈ s, f i) * (x : EReal) := by
  classical
  induction s using Finset.induction_on with
  | empty => simp
  | insert a s ha ih =>
    rw [Finset.sum_insert ha, Finset.sum_insert ha, ih, EReal.right_distrib_of_nonneg_of_ne_top (by exact_mod_cast hx) (EReal.coe_ne_top x)]

end Cert.Proof.Shared

end
-- ==== Proof.OutLossValue.lean ====
/-
  The output projection, the loss and their derivatives: what the kernel leaves is what the reference computes.
-/
module

public import proofs.«01_k».proof.Proof.Gen.OutLoss.Frame
public import proofs.«01_k».proof.Proof.Gen.OutLossIdeal.Frame
public import proofs.«01_k».proof.Proof.Gen.OutLossRefIdeal.Run
public import proofs.«01_k».proof.Proof.Shared
public import Idealize.ShloMosaic.Lib.Pipeline.Value
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! ## The reference's lines, one name for each -/

namespace Cert.OutLossRefIdeal.Lines

open Cert.OutLossRefIdeal Cert.OutLossRefIdeal.Gen

variable (X : FVec Ideal S8192x1024 .f32) (M : FVec Ideal S8704x1024 .bf16) (W : FVec Ideal S1024x1024 .bf16)
  (G : FVec Ideal S1x1024 .f32) (T : FVec Ideal S8192x1024 .f32)

/-- The first 8192 rows of the mixed activations, widened. -/
def MX : FVec Ideal S8192x1024 .f32 := extf .f32 (extractStridedSlice S8192x1024 ![0, 0] M slices_S8704x1024_S8192x1024_0_0) bitsLt_bf16_f32
/-- `h2 = x + mixed @ w_out`. -/
def H2 : FVec Ideal S8192x1024 .f32 :=
  addf X (Host.dotGeneral dot_S8192x1024_S1024x1024_S8192x1024_1_0_0_1_n_n none (MX M) (extf .f32 W bitsLt_bf16_f32))
/-- The reciprocal root mean square of each row. -/
def RS : FVec Ideal S8192x1 .f32 :=
  Host.rsqrt (addf (Host.divf (broadcastInDim S8192x1 ![0] bcast_S8192_S8192x1_0 (Host.reduceAdd (mulf (H2 X M W) (H2 X M W)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))
/-- The normalised rows. -/
def YH : FVec Ideal S8192x1024 .f32 := mulf (H2 X M W) (broadcastInDim S8192x1024 ![0, 1] bcast_S8192x1_S8192x1024_0_1 (RS X M W))
/-- The error against the target. -/
def ER : FVec Ideal S8192x1024 .f32 := subf (mulf (YH X M W) (broadcastInDim S8192x1024 ![0, 1] bcast_S1x1024_S8192x1024_0_1 G)) T
/-- The loss's derivative by the output. -/
def DY : FVec Ideal S8192x1024 .f32 := Host.divf (ER X M W G T) (broadcastInDim S8192x1024 ![] bcast_S_S8192x1024 (constant S_ .f32 0x44800000#32))
/-- … by the normalised rows. -/
def DYH : FVec Ideal S8192x1024 .f32 := mulf (DY X M W G T) (broadcastInDim S8192x1024 ![0, 1] bcast_S1x1024_S8192x1024_0_1 G)
/-- … by the rows before the norm. -/
def DH2 : FVec Ideal S8192x1024 .f32 :=
  mulf (broadcastInDim S8192x1024 ![0, 1] bcast_S8192x1_S8192x1024_0_1 (RS X M W)) (subf (DYH X M W G T) (mulf (YH X M W) (broadcastInDim S8192x1024 ![0, 1] bcast_S8192x1_S8192x1024_0_1 (Host.divf (broadcastInDim S8192x1 ![0] bcast_S8192_S8192x1_0 (Host.reduceAdd (mulf (DYH X M W G T) (YH X M W)) (constant S_ .f32 0x00000000#32) reducesTo_S8192x1024_S8192_d1 h_S_)) (broadcastInDim S8192x1 ![] bcast_S_S8192x1 (constant S_ .f32 0x44800000#32))))))
/-- … by the mixed activations. -/
def DMX : FVec Ideal S8192x1024 .bf16 :=
  truncf .bf16 (Host.dotGeneral dot_S8192x1024_S1024x1024_S8192x1024_1_1_0_0_n_n none (DH2 X M W G T) (extf .f32 W bitsLt_bf16_f32)) bitsLt_bf16_f32
/-- … by the output projection, in the order in which the chips share it. -/
def GWO : FVec Ideal S2x4x128x1024 .f32 :=
  transpose S2x4x128x1024 [1, 0, 2, 3] (shapeCast _ (Host.dotGeneral dot_S8192x1024_S8192x1024_S1024x1024_0_0_1_1_n_n none (MX M) (DH2 X M W G T)) shapeCasts_S1024x1024_S4x2x128x1024) transposes_S4x2x128x1024_S2x4x128x1024_1_0_2_3
/-- … by the final norm's gain. -/
def GFG : FVec Ideal S1x1024 .f32 :=
  broadcastInDim S1x1024 ![1] bcast_S1024_S1x1024_1 (Host.reduceAdd (mulf (DY X M W G T) (YH X M W)) (constant S_ .f32 0x00000000#32) reducesTo_S8192x1024_S1024_d0 h_S_)
/-- The loss, in every lane of a row. -/
def LOSS : FVec Ideal S1x128 .f32 :=
  broadcastInDim S1x128 ![] bcast_S_S1x128 (mulf (constant S_ .f32 0x3F000000#32) (Host.reduceAdd (Host.divf (Host.reduceAdd (mulf (ER X M W G T) (ER X M W G T)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

end Cert.OutLossRefIdeal.Lines

namespace Cert.OutLossIdeal.Tile

open Cert.OutLossIdeal Cert.OutLossIdeal.Gen Cert.OutLossRefIdeal.Lines Cert.Proof.Shared

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0, 0, 0]
    ∧ win0_8.index t = ![0, 0] ∧ win0_9.index t = ![0, 0] ∧ t.val < 16 := (by decide +kernel : ∀ t : Fin grid0.N, _)

abbrev X (c : Dev nD) : FVec Ideal S8192x1024 .f32 := m ((c : Thread nD τ).loc main_arg0)
abbrev M (c : Dev nD) : FVec Ideal S8704x1024 .bf16 := m ((c : Thread nD τ).loc main_arg1)
abbrev W (c : Dev nD) : FVec Ideal S1024x1024 .bf16 := m ((c : Thread nD τ).loc main_arg2)
abbrev G (c : Dev nD) : FVec Ideal S1x1024 .f32 := m ((c : Thread nD τ).loc main_arg3)
abbrev T (c : Dev nD) : FVec Ideal S8192x1024 .f32 := m ((c : Thread nD τ).loc main_arg4)

/-- Row `r` of tile `t`. -/
def row (t : Fin cfg0.N) (r : Fin 512) : Fin 8192 := ⟨512 * t.val + r.val, by have := (idx t).2.2.2.2.2.2.2.2.2.2; omega⟩

theorem h2 (c : Dev nD) (t : Fin cfg0.N) (r : Fin 512) (n : Fin 1024) :
    k0_pay9 (F := Ideal) (iblk m c 1 t) (iblk m c 0 t) (iblk m c 2 t) (ix2 r n) = H2 (X m c) (M m c) (W m c) (ix2 (row t r) n) := by
  pointwise [k0_pay9, H2, MX]
  blk_point [iblk, V, idx t, row]

theorem rs (c : Dev nD) (t : Fin cfg0.N) (r : Fin 512) (n : Fin 1) :
    k0_pay10 (F := Ideal) (iblk m c 1 t) (iblk m c 0 t) (iblk m c 2 t) (ix2 r n) = RS (X m c) (M m c) (W m c) (ix2 (row t r) n) := by
  pointwise [k0_pay10, RS]
  simp only [h2]

theorem yh (c : Dev nD) (t : Fin cfg0.N) (r : Fin 512) (n : Fin 1024) :
    k0_pay11 (F := Ideal) (iblk m c 1 t) (iblk m c 0 t) (iblk m c 2 t) (ix2 r n) = YH (X m c) (M m c) (W m c) (ix2 (row t r) n) := by
  pointwise [k0_pay11, YH]
  simp only [h2, rs]

theorem er (c : Dev nD) (t : Fin cfg0.N) (r : Fin 512) (n : Fin 1024) :
    k0_pay12 (F := Ideal) (iblk m c 1 t) (iblk m c 0 t) (iblk m c 2 t) (iblk m c 3 t) (iblk m c 4 t) (ix2 r n) = ER (X m c) (M m c) (W m c) (G m c) (T m c) (ix2 (row t r) n) := by
  pointwise [k0_pay12, ER]
  simp only [yh]
  blk_point [iblk, V, idx t, row]

theorem dy (c : Dev nD) (t : Fin cfg0.N) (r : Fin 512) (n : Fin 1024) :
    k0_pay14 (F := Ideal) (iblk m c 1 t) (iblk m c 0 t) (iblk m c 2 t) (iblk m c 3 t) (iblk m c 4 t) (ix2 r n) = DY (X m c) (M m c) (W m c) (G m c) (T m c) (ix2 (row t r) n) := by
  pointwise [k0_pay14, DY]
  simp only [er]
  rw [c1024, cinv, Ideal.div_coe (by norm_num)]

theorem dh2 (c : Dev nD) (t : Fin cfg0.N) (r : Fin 512) (n : Fin 1024) :
    k0_pay16 (F := Ideal) (k0_pay10 (iblk m c 1 t) (iblk m c 0 t) (iblk m c 2 t)) (k0_pay11 (iblk m c 1 t) (iblk m c 0 t) (iblk m c 2 t)) (iblk m c 3 t) (k0_pay14 (iblk m c 1 t) (iblk m c 0 t) (iblk m c 2 t) (iblk m c 3 t) (iblk m c 4 t)) (ix2 r n) = DH2 (X m c) (M m c) (W m c) (G m c) (T m c) (ix2 (row t r) n) := by
  pointwise [k0_pay16, DH2, DYH]
  simp only [dy, yh, rs]
  blk_point [iblk, V, idx t, row]

theorem dmx (c : Dev nD) (t : Fin cfg0.N) (r : Fin 512) (n : Fin 1024) :
    k0_pay18 (F := Ideal) (k0_pay10 (iblk m c 1 t) (iblk m c 0 t) (iblk m c 2 t)) (k0_pay11 (iblk m c 1 t) (iblk m c 0 t) (iblk m c 2 t)) (iblk m c 3 t) (k0_pay14 (iblk m c 1 t) (iblk m c 0 t) (iblk m c 2 t) (iblk m c 3 t) (iblk m c 4 t)) (iblk m c 2 t) (ix2 r n) = DMX (X m c) (M m c) (W m c) (G m c) (T m c) (ix2 (row t r) n) := by
  pointwise [k0_pay18, k0_pay17, DMX]
  simp only [dh2]
  blk_point [iblk, V, idx t, row]

theorem out5 (c : Dev nD) (t : Fin cfg0.N) (j : S512x1024.Idx) :
    (outsAt0 m c t.val t.isLt).1 j = DH2 (X m c) (M m c) (W m c) (G m c) (T m c) (ix2 (row t (j 0)) (j 1)) := by
  by_cases h0 : t.val % 16 = 0
  · have h1 : ¬t.val % 16 = 15 := by omega
    rw [outsAt0_A m c t h0 h1]
    frame_out
    exact (congrArg _ (eta2 j)).trans (dh2 m c t (j 0) (j 1))
  · by_cases h1 : t.val % 16 = 15
    · rw [outsAt0_C m c t h0 h1]
      frame_out
      exact (congrArg _ (eta2 j)).trans (dh2 m c t (j 0) (j 1))
    · rw [outsAt0_B m c t h0 h1]
      frame_out
      exact (congrArg _ (eta2 j)).trans (dh2 m c t (j 0) (j 1))

theorem out6 (c : Dev nD) (t : Fin cfg0.N) (j : S512x1024.Idx) :
    (outsAt0 m c t.val t.isLt).2.1 j = DMX (X m c) (M m c) (W m c) (G m c) (T m c) (ix2 (row t (j 0)) (j 1)) := by
  by_cases h0 : t.val % 16 = 0
  · have h1 : ¬t.val % 16 = 15 := by omega
    rw [outsAt0_A m c t h0 h1]
    frame_out
    exact (congrArg _ (eta2 j)).trans (dmx m c t (j 0) (j 1))
  · by_cases h1 : t.val % 16 = 15
    · rw [outsAt0_C m c t h0 h1]
      frame_out
      exact (congrArg _ (eta2 j)).trans (dmx m c t (j 0) (j 1))
    · rw [outsAt0_B m c t h0 h1]
      frame_out
      exact (congrArg _ (eta2 j)).trans (dmx m c t (j 0) (j 1))

theorem gw (c : Dev nD) (t : Fin cfg0.N) (p n : Fin 1024) :
    k0_pay19 (F := Ideal) (iblk m c 1 t) (k0_pay10 (iblk m c 1 t) (iblk m c 0 t) (iblk m c 2 t)) (k0_pay11 (iblk m c 1 t) (iblk m c 0 t) (iblk m c 2 t)) (iblk m c 3 t) (k0_pay14 (iblk m c 1 t) (iblk m c 0 t) (iblk m c 2 t) (iblk m c 3 t) (iblk m c 4 t)) (ix2 p n) = ∑ k : Fin 512, MX (M m c) (ix2 (row t k) p) * DH2 (X m c) (M m c) (W m c) (G m c) (T m c) (ix2 (row t k) n) := by
  pointwise [k0_pay19, k0_pay17, MX]
  simp only [dh2]
  blk_point [iblk, V, idx t, row]

/-- One tile's part of the output projection's gradient. -/
def part7 (c : Dev nD) (t : Fin cfg0.N) (j : S2x4x128x1024.Idx) : EReal :=
  ∑ k : Fin 512, MX (M m c) (ix2 (row t k) (⟨256 * (j 1).val + 128 * (j 0).val + (j 2).val, by idx_bounds; omega⟩ : Fin 1024)) * DH2 (X m c) (M m c) (W m c) (G m c) (T m c) (ix2 (row t k) (j 3 : Fin 1024))
/-- … of the gain's gradient. -/
def part8 (c : Dev nD) (t : Fin cfg0.N) (j : S1x1024.Idx) : EReal :=
  ∑ k : Fin 512, DY (X m c) (M m c) (W m c) (G m c) (T m c) (ix2 (row t k) (j 1 : Fin 1024)) * YH (X m c) (M m c) (W m c) (ix2 (row t k) (j 1 : Fin 1024))
/-- … of the squared error's column sums. -/
def partL (c : Dev nD) (t : Fin cfg0.N) (j : S1x1024.Idx) : EReal :=
  ∑ k : Fin 512, ER (X m c) (M m c) (W m c) (G m c) (T m c) (ix2 (row t k) (j 1 : Fin 1024)) * ER (X m c) (M m c) (W m c) (G m c) (T m c) (ix2 (row t k) (j 1 : Fin 1024))

theorem step8 (c : Dev nD) (t : Fin cfg0.N) (h0 : ¬t.val % 16 = 0) (j : S1x1024.Idx) :
    (outsAt0 m c t.val t.isLt).2.2.2.1 j = (outsAt0 m c (t.val - 1) (Nat.lt_of_le_of_lt (Nat.sub_le _ _) t.isLt)).2.2.2.1 j + part8 m c t j := by
  by_cases h1 : t.val % 16 = 15
  · rw [outsAt0_C m c t h0 h1]
    frame_out
    idx_vars j
    pointwise [k0_pay15, part8]
    simp only [dy, yh]
  · rw [outsAt0_B m c t h0 h1]
    frame_out
    idx_vars j
    pointwise [k0_pay15, part8]
    simp only [dy, yh]

theorem stepL (c : Dev nD) (t : Fin cfg0.N) (h0 : ¬t.val % 16 = 0) (j : S1x1024.Idx) :
    (outsAt0 m c t.val t.isLt).2.2.2.2.2 j = (outsAt0 m c (t.val - 1) (Nat.lt_of_le_of_lt (Nat.sub_le _ _) t.isLt)).2.2.2.2.2 j + partL m c t j := by
  by_cases h1 : t.val % 16 = 15
  · rw [outsAt0_C m c t h0 h1]
    frame_out
    simp only [read_unread_whole]
    idx_vars j
    pointwise [k0_pay13, partL]
    simp only [er]
  · rw [outsAt0_B m c t h0 h1]
    frame_out
    simp only [read_unread_whole]
    idx_vars j
    pointwise [k0_pay13, partL]
    simp only [er]

theorem init8 (c : Dev nD) (t : Fin cfg0.N) (h0 : t.val % 16 = 0) (j : S1x1024.Idx) :
    (outsAt0 m c t.val t.isLt).2.2.2.1 j = (0 : EReal) + part8 m c t j := by
  rw [outsAt0_A m c t h0 (by omega)]
  frame_out
  idx_vars j
  pointwise [k0_pay15, part8, k0_pay7]
  simp only [dy, yh]

theorem initL (c : Dev nD) (t : Fin cfg0.N) (h0 : t.val % 16 = 0) (j : S1x1024.Idx) :
    (outsAt0 m c t.val t.isLt).2.2.2.2.2 j = (0 : EReal) + partL m c t j := by
  rw [outsAt0_A m c t h0 (by omega)]
  frame_out
  idx_vars j
  pointwise [k0_pay13, partL, k0_pay8]
  simp only [er]

theorem step7 (c : Dev nD) (t : Fin cfg0.N) (h0 : ¬t.val % 16 = 0) (j : S2x4x128x1024.Idx) :
    (outsAt0 m c t.val t.isLt).2.2.1 j = (outsAt0 m c (t.val - 1) (Nat.lt_of_le_of_lt (Nat.sub_le _ _) t.isLt)).2.2.1 j + part7 m c t j := by
  by_cases h1 : t.val % 16 = 15
  · rw [outsAt0_C m c t h0 h1]
    frame_out
    canon_tiles u h
    all_goals (idx_vars u; pointwise [k0_pay1, k0_pay2, k0_pay3, k0_pay4, k0_pay6, k0_pay20, k0_pay21, k0_pay22, k0_pay23, k0_pay24, part7]; simp only [gw]; blk_point [])
  · rw [outsAt0_B m c t h0 h1]
    frame_out
    canon_tiles u h
    all_goals (idx_vars u; pointwise [k0_pay1, k0_pay2, k0_pay3, k0_pay4, k0_pay6, k0_pay20, k0_pay21, k0_pay22, k0_pay23, k0_pay24, part7]; simp only [gw]; blk_point [])

theorem init7 (c : Dev nD) (t : Fin cfg0.N) (h0 : t.val % 16 = 0) (j : S2x4x128x1024.Idx) :
    (outsAt0 m c t.val t.isLt).2.2.1 j = (0 : EReal) + part7 m c t j := by
  rw [outsAt0_A m c t h0 (by omega)]
  frame_open
  simp (disch := decide) only [↓ View.readCov_skip, ↓ View.readCov_cons_toLoadRect, ↓ View.readCov_fill]
  frame_out
  refine (canon_drop [_] [_, _, _, _, _, _, _, _] j (View.cover_of_tiledL _ ![1, 1, 128, 1024] (by rfl) j)).trans ?_
  clear h0
  canon_tiles u h
  all_goals (idx_vars u; pointwise [k0_pay1, k0_pay2, k0_pay3, k0_pay4, k0_pay6, k0_pay20, k0_pay21, k0_pay22, k0_pay23, k0_pay24, part7]; simp only [gw]; blk_point [])

theorem out9 (c : Dev nD) (t : Fin cfg0.N) (h1 : t.val % 16 = 15) (j : S1x128.Idx) :
    (outsAt0 m c t.val t.isLt).2.2.2.2.1 j = (∑ n : Fin 1024, (outsAt0 m c t.val t.isLt).2.2.2.2.2 (ix2 0 n)) * Ideal.ofBits .f32 0x3A000000#32 := by
  rw [outsAt0_C m c t (by omega) h1]
  frame_out
  idx_vars j
  pointwise [k0_pay5]

theorem arr5 (c : Dev nD) : (dats m 0 c).arrAt 5 (cfgs 0).N = DH2 (X m c) (M m c) (W m c) (G m c) (T m c) := by
  refine (dats m 0 c).arrAt_eq_of_covers 5 _ (by decide +kernel) fun t hf y => ?_
  blk_simp
  rw [after0_5, out5]
  blk_ext [idx t, row]

theorem arr6 (c : Dev nD) : (dats m 0 c).arrAt 6 (cfgs 0).N = DMX (X m c) (M m c) (W m c) (G m c) (T m c) := by
  refine (dats m 0 c).arrAt_eq_of_covers 6 _ (by decide +kernel) fun t hf y => ?_
  blk_simp
  rw [after0_6, out6]
  blk_ext [idx t, row]

theorem arr7 (c : Dev nD) : (dats m 0 c).arrAt 7 (cfgs 0).N = GWO (X m c) (M m c) (W m c) (G m c) (T m c) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => (0 : EReal)) (part7 m c)
    (fun t h j => init7 m c t h j) (fun t h j => step7 m c t h j) (le_of_eq N_0) t0_15 rfl j, zero_add]
  pointwise [part7, GWO]
  refine Fin.sum_mul_add_congr fun s k hl => ?_
  blk_point [row]

theorem arr8 (c : Dev nD) : (dats m 0 c).arrAt 8 (cfgs 0).N = GFG (X m c) (M m c) (W m c) (G m c) (T m c) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => (0 : EReal)) (part8 m c)
    (fun t h j => init8 m c t h j) (fun t h j => step8 m c t h j) (le_of_eq N_0) t0_15 rfl j, zero_add]
  pointwise [part8, GFG]
  refine Fin.sum_mul_add_congr fun s k hl => ?_
  blk_point [row]

theorem arr9 (c : Dev nD) : (dats m 0 c).arrAt 9 (cfgs 0).N = LOSS (X m c) (M m c) (W m c) (G m c) (T m c) := by
  refine (dats m 0 c).arrAt_eq_of_after_last 9 t0_15 (by decide +kernel) _ fun j => ?_
  blk_simp
  rw [after0_9, out9 m c t0_15 (by rfl)]
  have hL : ∀ n : Fin 1024, (outsAt0 m c t0_15.val t0_15.isLt).2.2.2.2.2 (ix2 (0 : Fin 1) n) = ∑ R : Fin 8192, ER (X m c) (M m c) (W m c) (G m c) (T m c) (ix2 R n) * ER (X m c) (M m c) (W m c) (G m c) (T m c) (ix2 R n) := fun n => by
    rw [Pipeline.eq_sum_fin_of_reset_step_apply_last (fun n h => (outsAt0 m c n h).2.2.2.2.2) 16 (fun _ => (0 : EReal)) (partL m c)
      (fun t h j => initL m c t h j) (fun t h j => stepL m c t h j) (le_of_eq N_0) t0_15 rfl (ix2 (0 : Fin 1) n), zero_add]
    refine Fin.sum_mul_add_congr fun s k hl => ?_
    blk_point [row]
  simp only [hL]
  pointwise [LOSS]
  rw [Finset.sum_comm]
  simp only [c1024, Ideal.div_coe (show (1024 : ℝ) ≠ 0 by norm_num)]
  rw [sum_mul_pos Finset.univ _ (show (0 : ℝ) ≤ 1 / 1024 by norm_num), chalf, cinv2, mul_comm ((1 / 2 : ℝ) : EReal), mul_assoc, ← EReal.coe_mul]
  norm_num

/-- Every run leaves the results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0_0) = DH2 (m ((c : Thread nD τ).loc main_arg0)) (m ((c : Thread nD τ).loc main_arg1)) (m ((c : Thread nD τ).loc main_arg2)) (m ((c : Thread nD τ).loc main_arg3)) (m ((c : Thread nD τ).loc main_arg4)) ∧
      r.2.mem ((c : Thread nD τ).loc main_v0_1) = DMX (m ((c : Thread nD τ).loc main_arg0)) (m ((c : Thread nD τ).loc main_arg1)) (m ((c : Thread nD τ).loc main_arg2)) (m ((c : Thread nD τ).loc main_arg3)) (m ((c : Thread nD τ).loc main_arg4)) ∧
      r.2.mem ((c : Thread nD τ).loc main_v0_2) = GWO (m ((c : Thread nD τ).loc main_arg0)) (m ((c : Thread nD τ).loc main_arg1)) (m ((c : Thread nD τ).loc main_arg2)) (m ((c : Thread nD τ).loc main_arg3)) (m ((c : Thread nD τ).loc main_arg4)) ∧
      r.2.mem ((c : Thread nD τ).loc main_v0_3) = GFG (m ((c : Thread nD τ).loc main_arg0)) (m ((c : Thread nD τ).loc main_arg1)) (m ((c : Thread nD τ).loc main_arg2)) (m ((c : Thread nD τ).loc main_arg3)) (m ((c : Thread nD τ).loc main_arg4)) ∧
      r.2.mem ((c : Thread nD τ).loc main_v0_4) = LOSS (m ((c : Thread nD τ).loc main_arg0)) (m ((c : Thread nD τ).loc main_arg1)) (m ((c : Thread nD τ).loc main_arg2)) (m ((c : Thread nD τ).loc main_arg3)) (m ((c : Thread nD τ).loc main_arg4)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4)) :=
  (θ_run defs _ _).mono (fun r h c => ⟨((h c).1 5).trans (arr5 m c),
      ((h c).1 6).trans (arr6 m c),
      ((h c).1 7).trans (arr7 m c),
      ((h c).1 8).trans (arr8 m c),
      ((h c).1 9).trans (arr9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.OutLossIdeal.Tile

namespace Cert.Proof.OutLossClaims

theorem frame_kernel : Cert.quiescent_OutLoss := fun m ρ _ => Cert.OutLoss.Gen.frame m ρ

theorem frame_ideal : Cert.quiescent_OutLossIdeal := fun m ρ _ => Cert.OutLossIdeal.Gen.frame m ρ

theorem frame_reference : Cert.quiescent_OutLossRefIdeal := fun m ρ _ =>
  (θ_run Cert.OutLossRefIdeal.defs _ _).mono (fun r h => ⟨fun c => (h c).2.2.2.2.2, sem_eq_zero_of_no_sems (by decide) r.2⟩)
    (Cert.OutLossRefIdeal.Value.run (F := Ideal) m ρ)

theorem preserves : Cert.preserves_OutLoss_OutLossIdeal := trivial

/-- At the extended reals, from arguments that agree, kernel and reference end with the same results. -/
theorem algebraic : Cert.algebraic_OutLossIdeal_OutLossRefIdeal := by
  intro m ρ m' ρ' _ hag
  refine ⟨fun c => Cert.OutLossRefIdeal.Lines.DH2 (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)),
    fun c => Cert.OutLossRefIdeal.Lines.DMX (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)),
    fun c => Cert.OutLossRefIdeal.Lines.GWO (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)),
    fun c => Cert.OutLossRefIdeal.Lines.GFG (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)),
    fun c => Cert.OutLossRefIdeal.Lines.LOSS (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)), ?_, ?_⟩
  · exact Cert.OutLossIdeal.Tile.run m ρ
  · refine (θ_run Cert.OutLossRefIdeal.defs _ _).mono (fun r h c => ?_) (Cert.OutLossRefIdeal.Value.run (F := Ideal) m' ρ')
    replace h := h c
    obtain ⟨h0, h1, h2, h3, h4, hr⟩ := h
    obtain ⟨a0, a1, a2, a3, a4⟩ := hag c
    refine ⟨h0.trans ?_, h1.trans ?_, h2.trans ?_, h3.trans ?_, h4.trans ?_, hr⟩ <;> clear h0 h1 h2 h3 h4 hr <;> beta_reduce <;> rw [← a0, ← a1, ← a2, ← a3, ← a4] <;> rfl

end Cert.Proof.OutLossClaims

end
-- ==== Proof.InGradRun.lean ====
/-
  The gradient by the input rows: every run of the pipelined kernel, with what each grid point leaves in each
  output's buffer. The meta tokens' block is stored at the first point alone; the later points leave it untouched, and
  the last writes it back.
-/
module

public import proofs.«01_k».proof.Proof.Gen.InGradIdeal.Frame
public import proofs.«01_k».proof.Proof.Gen.InGradIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.InGradIdeal.Run

open Cert.InGradIdeal Cert.InGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, and the buffers -/

/-- The condition under which the gain's gradient is zeroed. -/
abbrev cond0_0 (i : grid0.Coords) : Prop := (Scalar.cmpi .ne (Scalar.extui (Scalar.cmpi .eq (BitVec.ofNat 32 (i 0).val) 0#32)) 0#32) = 1#1
/-- The condition under which the meta tokens' block is stored. -/
abbrev cond0_1 (i : grid0.Coords) : Prop := k0_cond2 i = 1#1

theorem hcond0_0 (t : Fin cfg0.N) : cond0_0 (grid0.coords t) ↔ t.val % 17 = 0 := by
  have ht : t.val < 17 := Nat.lt_of_lt_of_eq t.isLt N_0
  have e0 : (grid0.coords t 0).val = t.val / 1 % 17 := Pipeline.Grid.coords_val t 0 (by decide) rfl
  simp only [cond0_0, e0]
  word_cmp

theorem hcond0_1 (t : Fin cfg0.N) : cond0_1 (grid0.coords t) ↔ t.val % 17 = 0 := by
  have ht : t.val < 17 := Nat.lt_of_lt_of_eq t.isLt N_0
  have e0 : (grid0.coords t 0).val = t.val / 1 % 17 := Pipeline.Grid.coords_val t 0 (by decide) rfl
  simp only [cond0_1, k0_cond2, e0]
  word_cmp

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_8 : ∀ t : Fin cfg0.N, cfg0.idle 8 (grid0.coords t) = false := fun _ => rfl
/-- The meta tokens' block is stored at the first point, -/
theorem liveAt0_7 (t : Fin cfg0.N) (h : t.val % 17 = 0) : cfg0.idle 7 (grid0.coords t) = false :=
  (by decide +kernel : ∀ t : Fin grid0.N, t.val % 17 = 0 → cfg0.idle 7 (grid0.coords t) = false) t h
/-- and left alone at every other. -/
theorem idleAt0_7 (t : Fin cfg0.N) (h : ¬t.val % 17 = 0) : cfg0.idle 7 (grid0.coords t) = true :=
  (by decide +kernel : ∀ t : Fin grid0.N, ¬t.val % 17 = 0 → cfg0.idle 7 (grid0.coords t) = true) t h
/-- Its buffer is one and the same at all points. -/
theorem fresh0_7 (t : Fin cfg0.N) (h : ¬t.val % 17 = 0) : cfg0.fresh 7 t.val = false :=
  (by decide +kernel : ∀ t : Fin grid0.N, ¬t.val % 17 = 0 → cfg0.fresh 7 t.val = false) t h

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev VO0_6 : View sig .tc .vmem S512x1024 .f32 := (Memref.whole cc0_stg6_0 : Memref sig .tc .vmem S512x1024 .f32).view
abbrev VO0_7 : View sig .tc .vmem S16x1024 .f32 := (Memref.whole cc0_stg7_0 : Memref sig .tc .vmem S16x1024 .f32).view
abbrev VO0_8 : View sig .tc .vmem S1x1024 .f32 := (Memref.whole cc0_stg8_0 : Memref sig .tc .vmem S1x1024 .f32).view

/-! ## The body, in the two cases -/

set_option maxHeartbeats 1000000 in
/-- At the first point: on inputs at their contents and outputs at anything, the body leaves the inputs as they were and
    its stores in the three outputs; the pieces are what the run finds. -/
def kernelRun0_A (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : cond0_0 i) (hc1 : cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) :
    Σ' (L6 : List (View.Piece (Elt F) S512x1024 .f32)),
    Σ' (L7 : List (View.Piece (Elt F) S16x1024 .f32)),
    { L8 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_b1a_inproj_bwd_x i arg1 harg1 arg2 harg2 arg3 harg3 arg4 harg4 arg5 harg5 arg6 harg6 arg7 harg7 arg8 harg8 arg9 harg9) K } := by
  refine ⟨?_, ?_, ?_, fun E K => ?run⟩
  case run =>
    simp only [cc0_b1a_inproj_bwd_x_eq_skeleton]; unfold cc0_b1a_inproj_bwd_x_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    iexists _; iexact H8

set_option maxHeartbeats 1000000 in
/-- At any later point: the gain's gradient is read before it is stored; the meta tokens' block is not touched. -/
def kernelRun0_B (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : ¬cond0_0 i) (hc1 : ¬cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (xo8 : Vec F S1x1024 .f32) :
    Σ' (L6 : List (View.Piece (Elt F) S512x1024 .f32)),
    { L8 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg9.view.loc (c : Thread nD τ) ↦[arg9.view.set]{fullShare} arg9.view.writes (Elt F) f L8)) -∗ K ⟨⟩))
          ⊢ wp frame (wpE (defs₀ (F := F)) Variants.none c none) E (cc0_b1a_inproj_bwd_x i arg1 harg1 arg2 harg2 arg3 harg3 arg4 harg4 arg5 harg5 arg6 harg6 arg7 harg7 arg8 harg8 arg9 harg9) K } := by
  refine ⟨?_, ?_, fun E K => ?run⟩
  case run =>
    simp only [cc0_b1a_inproj_bwd_x_eq_skeleton]; unfold cc0_b1a_inproj_bwd_x_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    iexists _; iexact H8

theorem cover0_A_6 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : cond0_0 i) (hc1 : cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (y : S512x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).1 S512x1024.size (by sl_kernel_rfl) y

/-- What is left in output 6's buffer. -/
def out0_A_6 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : cond0_0 i) (hc1 : cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) : Vec F S512x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4 x5).1)

theorem cover0_A_7 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : cond0_0 i) (hc1 : cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (y : S16x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).2.1 S16x1024.size (by sl_kernel_rfl) y

/-- What is left in output 7's buffer. -/
def out0_A_7 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : cond0_0 i) (hc1 : cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) : Vec F S16x1024 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5).2.1)

theorem cover0_A_8 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : cond0_0 i) (hc1 : cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (y : S1x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledBy (kernelRun0_A c i arg1 harg1 arg2 harg2 arg3 harg3 arg4 harg4 arg5 harg5 arg6 harg6 arg7 harg7 arg8 harg8 arg9 harg9 hc0 hc1 x0 x1 x2 x3 x4 x5).2.2.1 S1x1024.size (by sl_kernel_rfl) y

/-- What is left in output 8's buffer. -/
def out0_A_8 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : cond0_0 i) (hc1 : cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) : Vec F S1x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 hc1 x0 x1 x2 x3 x4 x5).2.2.1)

theorem cover0_B_6 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : ¬cond0_0 i) (hc1 : ¬cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (xo8 : Vec F S1x1024 .f32) (y : S512x1024.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xo8).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xo8).1 S512x1024.size (by sl_kernel_rfl) y

/-- What is left in output 6's buffer. -/
def out0_B_6 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : ¬cond0_0 i) (hc1 : ¬cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (xo8 : Vec F S1x1024 .f32) : Vec F S512x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 x5 xo8).1)

theorem cover0_B_8 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : ¬cond0_0 i) (hc1 : ¬cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (xo8 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xo8).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xo8).2.1 S1x1024.size (by sl_kernel_rfl) y

/-- What is left in output 8's buffer. -/
def out0_B_8 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x1024 .f32) (harg8 : arg8.IsWhole) (arg9 : Memref sig .tc .vmem S1x1024 .f32) (harg9 : arg9.IsWhole) (hc0 : ¬cond0_0 i) (hc1 : ¬cond0_1 i)
    (x0 : Vec F S512x4096 .bf16) (x1 : Vec F S4x1024x1024 .bf16) (x2 : Vec F S512x1024 .f32) (x3 : Vec F S512x1024 .f32) (x4 : Vec F S1x1024 .f32) (x5 : Vec F S512x1024 .f32) (xo8 : Vec F S1x1024 .f32) : Vec F S1x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 hc1 x0 x1 x2 x3 x4 x5 xo8).2.1)

/-! ## What the outputs hold after each point -/

/-- The rows' gradient, the meta tokens' and the gain's, after the body at position `n`. -/
def outsAt0 (c : Dev nD) : (n : ℕ) → n < cfg0.N → Vec F S512x1024 .f32 × Vec F S16x1024 .f32 × Vec F S1x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 17 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) ((hcond0_1 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h0 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2,
      (outsAt0 c n (Nat.lt_of_succ_lt hn)).2.1,
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h0 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- What the point before left. -/
abbrev prev0 (c : Dev nD) (t : Fin cfg0.N) : Vec F S512x1024 .f32 × Vec F S16x1024 .f32 × Vec F S1x1024 .f32 :=
  outsAt0 m c (t.val - 1) (Nat.lt_of_le_of_lt (Nat.sub_le _ _) t.isLt)

theorem outsAt0_A (c : Dev nD) (t : Fin cfg0.N) (h0 : t.val % 17 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) ((hcond0_1 t).mpr h0) (iblk m c 0 t) (iblk m c 1 t) (iblk m c 2 t) (iblk m c 3 t) (iblk m c 4 t) (iblk m c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) ((hcond0_1 t).mpr h0) (iblk m c 0 t) (iblk m c 1 t) (iblk m c 2 t) (iblk m c 3 t) (iblk m c 4 t) (iblk m c 5 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) ((hcond0_1 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg0.N) (h0 : ¬t.val % 17 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h0 ((hcond0_1 t).mp h)) (iblk m c 0 t) (iblk m c 1 t) (iblk m c 2 t) (iblk m c 3 t) (iblk m c 4 t) (iblk m c 5 t) (prev0 m c t).2.2,
      (prev0 m c t).2.1,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h0 ((hcond0_1 t).mp h)) (iblk m c 0 t) (iblk m c 1 t) (iblk m c 2 t) (iblk m c 3 t) (iblk m c 4 t) (iblk m c 5 t) (prev0 m c t).2.2) := by
  obtain ⟨n, hn⟩ := t
  cases n with
  | zero => exact (by exfalso; (try dsimp only at h0); exact absurd (Nat.zero_mod _) h0)
  | succ n => exact (dif_neg h0).trans rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The gain's gradient is found as the point before left it. -/
theorem before0_8 (c : Dev nD) (t : Fin cfg0.N) (h0 : ¬t.val % 17 = 0) (d) : (dats m 0 c).before 8 t d = (prev0 m c t).2.2 := by
  have hN : t.val < 17 := lt_of_lt_of_eq t.isLt (show cfg0.N = 17 from N_0)
  rw [Dat.before_out_kept _ 8 rfl t (by omega) (Bool.eq_false_iff.mpr fun h => by have := (flush0_8 _).mp h; dsimp only at this; omega)
    (fun _ => rfl) (fun _ _ => rfl)]
  dsimp only [dats]

/-- After the first point the meta tokens' block stays as it is. -/
theorem carry0_7 (c : Dev nD) (t : Fin cfg0.N) (h0 : ¬t.val % 17 = 0) : (outsAt0 m c t.val t.isLt).2.1 = (prev0 m c t).2.1 := by
  rw [outsAt0_B m c t h0]

/-- So it is found as it will be left. -/
theorem before0_7 (c : Dev nD) (t : Fin cfg0.N) (h0 : ¬t.val % 17 = 0) (d) : (dats m 0 c).before 7 t d = (dats m 0 c).after 7 t := by
  rw [(dats m 0 c).before_out_traj 7 rfl (fun _ _ => rfl) (fun s hs _ _ => ?_) t.val t rfl d, fresh0_7 t h0, if_neg Bool.false_ne_true, after0_7, after0_7]
  · exact (carry0_7 m c t h0).symm
  · have hN : s.val < 17 := lt_of_lt_of_eq s.isLt (show cfg0.N = 17 from N_0)
    rw [after0_7, after0_7]
    exact carry0_7 m c s (by omega)

/-- Untouched, it is what a later point has to leave. -/
theorem leaves0_7 (c : Dev nD) (t : Fin cfg0.N) (h0 : ¬t.val % 17 = 0) (d) :
    owns (c : Thread nD τ) (ms0_7 t) fullShare ((dats m 0 c).before 7 t d) ⊢ (dats (F := F) m 0 c).leavesExact 7 t := by
  by_cases hf : (cfg0.win 7).flush t = true
  · rw [show (dats m 0 c).leavesExact 7 t = owns (c : Thread nD τ) (ms0_7 t) fullShare ((dats m 0 c).after 7 t) from by
      unfold Dat.leavesExact; rw [idleAt0_7 t h0, hf], before0_7 m c t h0]
  · rw [Dat.leavesExact_idle (dats m 0 c) 7 t (idleAt0_7 t h0) (Bool.eq_false_iff.mpr hf)]
    iintro H
    iexists _; iexact H

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  by_cases h0 : t.val % 17 = 0
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t h0], after0_7]
    rw [show (dats m 0 c).leavesExact 8 t = owns (c : Thread nD τ) (ms0_8 t) fullShare ((dats m 0 c).after 8 t) from by
      unfold Dat.leavesExact; rw [liveAt0_8 t], after0_8]
    rw [outsAt0_A m c t h0]
    unfold out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) ((hcond0_1 t).mpr h0) (iblk m c 0 t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _ _)
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 8 t = owns (c : Thread nD τ) (ms0_8 t) fullShare ((dats m 0 c).after 8 t) from by
      unfold Dat.leavesExact; rw [liveAt0_8 t], after0_8]
    rw [outsAt0_B m c t h0]
    simp only [before0_8 m c t h0]
    unfold out0_B_6 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (fun h => h0 ((hcond0_1 t).mp h)) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H8]; · iexact H8
    iintro ⟨H0, H1, H2, H3, H4, H5, ⟨%e6, H6⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · iapply (leaves0_7 m c t h0 d7); iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with each array at what the points left in it. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends, the arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.InGradIdeal.Run

end
-- ==== Proof.InGradClaims.lean ====
/-
  The derivative back through the input projection and the first norm: what the kernel leaves is what the reference
  computes. The kernel's rows are 17 tiles of 512: the first holds 496 rows of padding and the 16 meta tokens, the others
  the sequence. Counted from the end of the padding they are the reference's 8208 rows, in order.
-/
module

public import proofs.«01_k».proof.Proof.InGradRun
public import proofs.«01_k».proof.Proof.Gen.InGrad.Launch
public import proofs.«01_k».proof.Proof.Gen.InGradRefIdeal.Run
public import proofs.«01_k».proof.Proof.Shared
public import Idealize.ShloMosaic.Lib.Pipeline.Value
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! ## The reference's lines, one name for each -/

namespace Cert.InGradRefIdeal.Lines

open Cert.InGradRefIdeal Cert.InGradRefIdeal.Gen

variable (P : FVec Ideal S8704x4096 .bf16) (W : FVec Ideal S4x1024x1024 .bf16) (X : FVec Ideal S8192x1024 .f32)
  (MT : FVec Ideal S16x1024 .f32) (G : FVec Ideal S1x1024 .f32) (D2 : FVec Ideal S8192x1024 .f32)

/-- The projection's derivative, the meta tokens' rows first. -/
def DP : FVec Ideal S8208x4096 .f32 :=
  concatenate S8208x4096 0 [⟨S16x4096, extractStridedSlice S16x4096 ![8688, 0] (extf .f32 P bitsLt_bf16_f32) slices_S8704x4096_S16x4096_8688_0⟩, ⟨S8192x4096, extractStridedSlice S8192x4096 ![0, 0] (extf .f32 P bitsLt_bf16_f32) slices_S8704x4096_S8192x4096_0_0⟩] concatenates_S16x4096_S8192x4096_S8208x4096_d0
/-- The gathered projection weight, its four slabs of columns side by side. -/
def WI : FVec Ideal S1024x4096 .f32 :=
  shapeCast S1024x4096 (transpose S1024x4x1024 [1, 0, 2] (extf .f32 W bitsLt_bf16_f32) transposes_S4x1024x1024_S1024x4x1024_1_0_2) shapeCasts_S1024x4x1024_S1024x4096
/-- The rows: the meta tokens and the sequence. -/
def H : FVec Ideal S8208x1024 .f32 := concatenate S8208x1024 0 [⟨S16x1024, MT⟩, ⟨S8192x1024, X⟩] concatenates_S16x1024_S8192x1024_S8208x1024_d0
/-- The derivative by the scaled normalised rows. -/
def DHN : FVec Ideal S8208x1024 .f32 := Host.dotGeneral dot_S8208x4096_S1024x4096_S8208x1024_1_1_0_0_n_n none (DP P) (WI W)
/-- The reciprocal root mean square of each row. -/
def RS : FVec Ideal S8208x1 .f32 :=
  Host.rsqrt (addf (Host.divf (broadcastInDim S8208x1 ![0] bcast_S8208_S8208x1_0 (Host.reduceAdd (mulf (H X MT) (H X MT)) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x358637BD#32)))
/-- The normalised rows. -/
def XH : FVec Ideal S8208x1024 .f32 := mulf (H X MT) (broadcastInDim S8208x1024 ![0, 1] bcast_S8208x1_S8208x1024_0_1 (RS X MT))
/-- The derivative by the norm's gain. -/
def GG : FVec Ideal S1x1024 .f32 :=
  broadcastInDim S1x1024 ![1] bcast_S1024_S1x1024_1 (Host.reduceAdd (mulf (DHN P W) (XH X MT)) (constant S_ .f32 0x00000000#32) reducesTo_S8208x1024_S1024_d0 h_S_)
/-- The derivative by the normalised rows. -/
def DXH : FVec Ideal S8208x1024 .f32 := mulf (DHN P W) (broadcastInDim S8208x1024 ![0, 1] bcast_S1x1024_S8208x1024_0_1 G)
/-- The derivative by the rows. -/
def DH : FVec Ideal S8208x1024 .f32 :=
  mulf (broadcastInDim S8208x1024 ![0, 1] bcast_S8208x1_S8208x1024_0_1 (RS X MT)) (subf (DXH P W G) (mulf (XH X MT) (broadcastInDim S8208x1024 ![0, 1] bcast_S8208x1_S8208x1024_0_1 (Host.divf (broadcastInDim S8208x1 ![0] bcast_S8208_S8208x1_0 (Host.reduceAdd (mulf (DXH P W G) (XH X MT)) (constant S_ .f32 0x00000000#32) reducesTo_S8208x1024_S8208_d1 h_S_)) (broadcastInDim S8208x1 ![] bcast_S_S8208x1 (constant S_ .f32 0x44800000#32))))))
/-- The derivative by the sequence: the later rows, and what comes past the block. -/
def GX : FVec Ideal S8192x1024 .f32 := addf (extractStridedSlice S8192x1024 ![16, 0] (DH P W X MT G) slices_S8208x1024_S8192x1024_16_0) D2
/-- The derivative by the meta tokens: the first 16 rows. -/
def GM : FVec Ideal S16x1024 .f32 := extractStridedSlice S16x1024 ![0, 0] (DH P W X MT G) slices_S8208x1024_S16x1024_0_0

end Cert.InGradRefIdeal.Lines

namespace Cert.InGradIdeal.Tile

open Cert.InGradIdeal Cert.InGradIdeal.Gen Cert.InGradIdeal.Run Cert.InGradRefIdeal.Lines Cert.Proof.Shared

variable (m : (ℓ : Loc nD τ sig) → Buf (Elt Ideal) ℓ)

theorem idx : ∀ t : Fin cfg0.N, win0_0.index t = ![if t.val = 0 then 16 else t.val - 1, 0] ∧ win0_1.index t = ![0, 0, 0] ∧ win0_2.index t = ![t.val - 1, 0] ∧ win0_3.index t = ![0, 0]
    ∧ win0_4.index t = ![0, 0] ∧ win0_5.index t = ![t.val - 1, 0] ∧ win0_6.index t = ![t.val - 1, 0] ∧ win0_7.index t = ![0, 0]
    ∧ win0_8.index t = ![0, 0] ∧ t.val < 17 := (by decide +kernel : ∀ t : Fin grid0.N, _)

abbrev P (c : Dev nD) : FVec Ideal S8704x4096 .bf16 := m ((c : Thread nD τ).loc main_arg0)
abbrev W (c : Dev nD) : FVec Ideal S4x1024x1024 .bf16 := m ((c : Thread nD τ).loc main_arg1)
abbrev X (c : Dev nD) : FVec Ideal S8192x1024 .f32 := m ((c : Thread nD τ).loc main_arg2)
abbrev MT (c : Dev nD) : FVec Ideal S16x1024 .f32 := m ((c : Thread nD τ).loc main_arg3)
abbrev G (c : Dev nD) : FVec Ideal S1x1024 .f32 := m ((c : Thread nD τ).loc main_arg4)
abbrev D2 (c : Dev nD) : FVec Ideal S8192x1024 .f32 := m ((c : Thread nD τ).loc main_arg5)

/-- The last point. -/
abbrev last : Fin cfg0.N := ⟨16, by decide⟩

theorem lt17 (t : Fin cfg0.N) : t.val < 17 := Nat.lt_of_lt_of_eq t.isLt N_0

/-- Row `r` of tile `t` in the reference's count. -/
def row (t : Fin cfg0.N) (r : Fin 512) (h : 496 ≤ 512 * t.val + r.val) : Fin 8208 :=
  ⟨512 * t.val + r.val - 496, by have := lt17 t; have := r.isLt; omega⟩

/-- The word that says whether a point is the first. -/
theorem first (t : Fin cfg0.N) (h : t.val = 0) : Scalar.cmpi .eq (BitVec.ofNat 32 (grid0.coords t 0).val) 0#32 = 1#1 := by
  have e0 : (grid0.coords t 0).val = t.val / 1 % 17 := Pipeline.Grid.coords_val t 0 (by decide) rfl
  have ht := lt17 t
  simp only [e0]
  word_cmp
theorem later (t : Fin cfg0.N) (h : ¬t.val = 0) : Scalar.cmpi .eq (BitVec.ofNat 32 (grid0.coords t 0).val) 0#32 = 0#1 := by
  have e0 : (grid0.coords t 0).val = t.val / 1 % 17 := Pipeline.Grid.coords_val t 0 (by decide) rfl
  have ht := lt17 t
  simp only [e0]
  word_cmp

/-- The tile's rows before the norm. -/
def hT (c : Dev nD) (t : Fin cfg0.N) : FVec Ideal S512x1024 .f32 := k0_pay9 (F := Ideal) (grid0.coords t) (iblk m c 3 t) (iblk m c 2 t)
/-- Their squares. -/
def qT (c : Dev nD) (t : Fin cfg0.N) : FVec Ideal S512x1024 .f32 := k0_pay10 (F := Ideal) (grid0.coords t) (iblk m c 3 t) (iblk m c 2 t)
/-- The tile's derivative by the scaled normalised rows. -/
def dT (c : Dev nD) (t : Fin cfg0.N) : FVec Ideal S512x1024 .f32 := k0_pay8 (F := Ideal)
    (View.ld (iblk m c 0 t) (Rect.unit ![0, 0] ![512, 1024] inb_S512x4096_S512x1024_0_0)) (View.ld (iblk m c 1 t) (Rect.unit ![0, 0, 0] ![1, 1024, 1024] inb_S4x1024x1024_S1x1024x1024_0_0_0))
    (View.ld (iblk m c 0 t) (Rect.unit ![0, 1024] ![512, 1024] inb_S512x4096_S512x1024_0_1024)) (View.ld (iblk m c 1 t) (Rect.unit ![1, 0, 0] ![1, 1024, 1024] inb_S4x1024x1024_S1x1024x1024_1_0_0))
    (View.ld (iblk m c 0 t) (Rect.unit ![0, 2048] ![512, 1024] inb_S512x4096_S512x1024_0_2048)) (View.ld (iblk m c 1 t) (Rect.unit ![2, 0, 0] ![1, 1024, 1024] inb_S4x1024x1024_S1x1024x1024_2_0_0))
    (View.ld (iblk m c 0 t) (Rect.unit ![0, 3072] ![512, 1024] inb_S512x4096_S512x1024_0_3072)) (View.ld (iblk m c 1 t) (Rect.unit ![3, 0, 0] ![1, 1024, 1024] inb_S4x1024x1024_S1x1024x1024_3_0_0))

/-- In the first tile the rows are the padded meta tokens, -/
theorem h_first (c : Dev nD) (t : Fin cfg0.N) (h0 : t.val = 0) : hT m c t = (iblk m c 3 t : FVec Ideal S512x1024 .f32) := by
  funext j
  idx_vars j
  pointwise [hT, k0_pay9]
  rw [first t h0]
  rfl
/-- in the later tiles the sequence's. -/
theorem h_later (c : Dev nD) (t : Fin cfg0.N) (h0 : ¬t.val = 0) : hT m c t = (iblk m c 2 t : FVec Ideal S512x1024 .f32) := by
  funext j
  idx_vars j
  pointwise [hT, k0_pay9]
  rw [later t h0]
  rfl

/-- The padded meta tokens: 496 rows of zeros, then the tokens. -/
theorem V_tile (c : Dev nD) : (V m c main_v1 : FVec Ideal S512x1024 .f32) =
    concatenate S512x1024 0 [⟨S496x1024, broadcastInDim S496x1024 ![] bcast_S_S496x1024 (constant (F := Ideal) S_ .f32 0x00000000#32)⟩, ⟨S16x1024, MT m c⟩] concatenates_S496x1024_S16x1024_S512x1024_d0 := by
  after_results_simp <;> rfl

theorem tile_apply (c : Dev nD) (t : Fin cfg0.N) (r : Fin 512) (n : Fin 1024) :
    (iblk m c 3 t : FVec Ideal S512x1024 .f32) (ix2 r n) = if h : r.val < 496 then (0 : EReal) else MT m c (ix2 (⟨r.val - 496, by omega⟩ : Fin 16) n) := by
  have e : (iblk m c 3 t : FVec Ideal S512x1024 .f32) (ix2 r n) = (V m c main_v1 : FVec Ideal S512x1024 .f32) (ix2 r n) := by
    blk_point [iblk, idx t]
  rw [e, V_tile]
  pointwise []

/-- The padding is zero. -/
theorem h_pad (c : Dev nD) (t : Fin cfg0.N) (r : Fin 512) (hr : ¬496 ≤ 512 * t.val + r.val) (n : Fin 1024) : hT m c t (ix2 r n) = (0 : EReal) := by
  rw [h_first m c t (by omega), tile_apply, dif_pos (by omega)]

/-- The other rows are the reference's. -/
theorem h_row (c : Dev nD) (t : Fin cfg0.N) (r : Fin 512) (hr : 496 ≤ 512 * t.val + r.val) (n : Fin 1024) :
    hT m c t (ix2 r n) = H (X m c) (MT m c) (ix2 (row t r hr) n) := by
  by_cases h0 : t.val = 0
  · rw [h_first m c t h0, tile_apply, dif_neg (by omega)]
    pointwise [H]
    rw [dif_pos (show (row t r hr).val < 16 by simp only [row]; omega)]
    blk_point [row]
  · rw [h_later m c t h0]
    pointwise [H]
    rw [dif_neg (show ¬(row t r hr).val < 16 by simp only [row]; omega)]
    blk_point [iblk, V, idx t, row]

theorem q_row (c : Dev nD) (t : Fin cfg0.N) (r : Fin 512) (n : Fin 1024) : qT m c t (ix2 r n) = hT m c t (ix2 r n) * hT m c t (ix2 r n) := by
  pointwise [qT, hT, k0_pay10]

theorem rs_row (c : Dev nD) (t : Fin cfg0.N) (r : Fin 512) (hr : 496 ≤ 512 * t.val + r.val) (n : Fin 1) :
    k0_pay1 (qT m c t) (ix2 r n) = RS (X m c) (MT m c) (ix2 (row t r hr) n) := by
  pointwise [k0_pay1, RS]
  simp only [q_row, h_row m c t r hr]

theorem xh_row (c : Dev nD) (t : Fin cfg0.N) (r : Fin 512) (hr : 496 ≤ 512 * t.val + r.val) (n : Fin 1024) :
    k0_pay2 (hT m c t) (qT m c t) (ix2 r n) = XH (X m c) (MT m c) (ix2 (row t r hr) n) := by
  pointwise [k0_pay2, XH]
  simp only [h_row m c t r hr, rs_row m c t r hr]

theorem xh_pad (c : Dev nD) (t : Fin cfg0.N) (r : Fin 512) (hr : ¬496 ≤ 512 * t.val + r.val) (n : Fin 1024) :
    k0_pay2 (hT m c t) (qT m c t) (ix2 r n) = (0 : EReal) := by
  pointwise [k0_pay2]
  rw [h_pad m c t r hr, zero_mul]

/-- One of the reference's rows of the projection's derivative, as the tile has it. -/
theorem dp_row (c : Dev nD) (t : Fin cfg0.N) (r : Fin 512) (hr : 496 ≤ 512 * t.val + r.val) (k : Fin 4096) :
    (iblk m c 0 t : FVec Ideal S512x4096 .bf16) (ix2 r k) = DP (P m c) (ix2 (row t r hr) k) := by
  by_cases h0 : t.val = 0
  · pointwise [DP]
    rw [dif_pos (show (row t r hr).val < 16 by simp only [row]; omega)]
    blk_point [iblk, V, idx t, row, h0]
    rw [if_pos trivial]; omega
  · pointwise [DP]
    rw [dif_neg (show ¬(row t r hr).val < 16 by simp only [row]; omega)]
    blk_point [iblk, V, idx t, row, h0]
    rw [if_neg not_false]; omega

theorem w_apply (c : Dev nD) (t : Fin cfg0.N) (s : Fin 4) (n k : Fin 1024) :
    (iblk m c 1 t : FVec Ideal S4x1024x1024 .bf16) (ix3 s n k) = W m c (ix3 s n k) := by
  blk_point [iblk, V, idx t]

theorem g_apply (c : Dev nD) (t : Fin cfg0.N) (z : Fin 1) (n : Fin 1024) :
    (iblk m c 4 t : FVec Ideal S1x1024 .f32) (ix2 z n) = G m c (ix2 z n) := by
  blk_point [iblk, V, idx t]

/-- The four products over a slab of columns each are one product over all the columns. -/
theorem dhn_row (c : Dev nD) (t : Fin cfg0.N) (r : Fin 512) (hr : 496 ≤ 512 * t.val + r.val) (n : Fin 1024) :
    dT m c t (ix2 r n) = DHN (P m c) (W m c) (ix2 (row t r hr) n) := by
  pointwise [dT, k0_pay8, DHN, WI]
  refine Eq.trans ?_ (Fin.sum_mul_add_congr (S := 4) (n := 1024) (F := fun s k => DP (P m c) (ix2 (row t r hr) (⟨s.val * 1024 + k.val, by omega⟩ : Fin 4096)) * W m c (ix3 s n k)) fun s k hl => ?_)
  · rw [Fin.sum_univ_four]
    simp only [dp_row m c t r hr, w_apply]
    refine congrArg₂ (· + ·) (congrArg₂ (· + ·) (congrArg₂ (· + ·) ?_ ?_) ?_) ?_ <;> refine Finset.sum_congr rfl fun k _ => ?_ <;> blk_point []
  · blk_point []

theorem dh_row (c : Dev nD) (t : Fin cfg0.N) (r : Fin 512) (hr : 496 ≤ 512 * t.val + r.val) (n : Fin 1024) :
    k0_pay4 (dT m c t) (hT m c t) (qT m c t) (iblk m c 4 t) (ix2 r n) = DH (P m c) (W m c) (X m c) (MT m c) (G m c) (ix2 (row t r hr) n) := by
  pointwise [k0_pay4, DH, DXH]
  simp only [dhn_row m c t r hr, xh_row m c t r hr, rs_row m c t r hr, g_apply]

/-- A row of the sequence in its tile. -/
def seqRow (t : Fin cfg0.N) (r : Fin 512) : Fin 8192 := ⟨512 * (t.val - 1) + r.val, by have := lt17 t; have := r.isLt; omega⟩

theorem out6 (c : Dev nD) (t : Fin cfg0.N) (h0 : ¬t.val % 17 = 0) (j : S512x1024.Idx) :
    (outsAt0 m c t.val t.isLt).1 j = GX (P m c) (W m c) (X m c) (MT m c) (G m c) (D2 m c) (ix2 (seqRow t (j 0)) (j 1)) := by
  have hN := lt17 t
  have ht : ¬t.val = 0 := by omega
  rw [outsAt0_B m c t h0]
  frame_out
  change k0_pay5 _ (dT m c t) (hT m c t) (qT m c t) (iblk m c 4 t) (iblk m c 5 t) j = _
  idx_vars j
  have hr : 496 ≤ 512 * t.val + j0.val := by omega
  pointwise [k0_pay5, GX]
  rw [later t ht]
  rw [dh_row m c t j0 hr]
  refine congrArg₂ (· + ·) (congrArg (fun R : Fin 8208 => DH (P m c) (W m c) (X m c) (MT m c) (G m c) (ix2 R j1)) (Fin.ext (by simp only [row, seqRow]; omega))) ?_
  change (iblk m c 5 t : FVec Ideal S512x1024 .f32) (ix2 j0 j1) = _
  blk_point [iblk, V, idx t, seqRow]

theorem out7 (c : Dev nD) (t : Fin cfg0.N) (h0 : t.val % 17 = 0) (j : S16x1024.Idx) :
    (outsAt0 m c t.val t.isLt).2.1 j = GM (P m c) (W m c) (X m c) (MT m c) (G m c) j := by
  have hN := lt17 t
  have ht : t.val = 0 := by omega
  rw [outsAt0_A m c t h0]
  frame_out
  change k0_pay6 (dT m c t) (hT m c t) (qT m c t) (iblk m c 4 t) j = _
  idx_vars j
  pointwise [k0_pay6, GM]
  exact (dh_row m c t (⟨496 + j0.val, by omega⟩ : Fin 512) (by dsimp only; omega) j1).trans
    (congrArg (fun R : Fin 8208 => DH (P m c) (W m c) (X m c) (MT m c) (G m c) (ix2 R j1)) (Fin.ext (by simp only [row]; omega)))

/-- The later points leave the meta tokens' block as the first stored it. -/
theorem kept7 (c : Dev nD) : ∀ (n : ℕ) (h : n < cfg0.N), (outsAt0 m c n h).2.1 = (outsAt0 m c 0 (Nat.zero_lt_of_lt h)).2.1
  | 0, _ => rfl
  | n + 1, h => (carry0_7 m c ⟨n + 1, h⟩ (by have := lt17 ⟨n + 1, h⟩; dsimp only at this ⊢; omega)).trans (kept7 c n (Nat.lt_of_succ_lt h))

/-- One padded row's part of the gain's gradient. -/
def term (c : Dev nD) (n : Fin 1024) (v : Fin 8704) : EReal :=
  if h : 496 ≤ v.val then DHN (P m c) (W m c) (ix2 (⟨v.val - 496, by omega⟩ : Fin 8208) n) * XH (X m c) (MT m c) (ix2 (⟨v.val - 496, by omega⟩ : Fin 8208) n) else 0
/-- One tile's part. -/
def part8 (c : Dev nD) (t : Fin cfg0.N) (j : S1x1024.Idx) : EReal :=
  ∑ k : Fin 512, term m c (j 1 : Fin 1024) ⟨512 * t.val + k.val, by have := lt17 t; omega⟩

theorem term_row (c : Dev nD) (t : Fin cfg0.N) (r : Fin 512) (n : Fin 1024) :
    dT m c t (ix2 r n) * k0_pay2 (hT m c t) (qT m c t) (ix2 r n) = term m c n ⟨512 * t.val + r.val, by have := lt17 t; omega⟩ := by
  by_cases hr : 496 ≤ 512 * t.val + r.val
  · rw [dhn_row m c t r hr, xh_row m c t r hr, term, dif_pos hr]
    rfl
  · rw [xh_pad m c t r hr, term, dif_neg hr, mul_zero]

theorem step8 (c : Dev nD) (t : Fin cfg0.N) (h0 : ¬t.val % 17 = 0) (j : S1x1024.Idx) :
    (outsAt0 m c t.val t.isLt).2.2 j = (outsAt0 m c (t.val - 1) (Nat.lt_of_le_of_lt (Nat.sub_le _ _) t.isLt)).2.2 j + part8 m c t j := by
  rw [outsAt0_B m c t h0]
  frame_out
  change k0_pay3 (dT m c t) (hT m c t) (qT m c t) (prev0 m c t).2.2 j = _
  idx_vars j
  pointwise [k0_pay3, part8]
  simp only [term_row]

theorem init8 (c : Dev nD) (t : Fin cfg0.N) (h0 : t.val % 17 = 0) (j : S1x1024.Idx) :
    (outsAt0 m c t.val t.isLt).2.2 j = (0 : EReal) + part8 m c t j := by
  rw [outsAt0_A m c t h0]
  frame_out
  change k0_pay3 (dT m c t) (hT m c t) (qT m c t) (k0_pay7 (F := Ideal)) j = _
  idx_vars j
  pointwise [k0_pay3, part8, k0_pay7]
  simp only [term_row]

theorem arr6 (c : Dev nD) : (dats m 0 c).arrAt 6 (cfgs 0).N = GX (P m c) (W m c) (X m c) (MT m c) (G m c) (D2 m c) := by
  refine (dats m 0 c).arrAt_eq_of_covers 6 _ (by decide +kernel) fun t hf y => ?_
  blk_simp
  rw [after0_6, out6 m c t ((by decide +kernel : ∀ t : Fin grid0.N, (cfg0.win 6).flush t = true → ¬t.val % 17 = 0) t hf)]
  blk_ext [idx t, seqRow]

theorem arr7 (c : Dev nD) : (dats m 0 c).arrAt 7 (cfgs 0).N = GM (P m c) (W m c) (X m c) (MT m c) (G m c) := by
  refine (dats m 0 c).arrAt_eq_of_after_last 7 last (by decide +kernel) _ fun j => ?_
  blk_simp
  rw [after0_7, kept7]
  exact out7 m c ⟨0, lt_of_lt_of_eq (by decide) N_0.symm⟩ (Nat.zero_mod _) j

theorem sum_term (c : Dev nD) (n : Fin 1024) : ∑ v : Fin 8704, term m c n v = ∑ R : Fin 8208, DHN (P m c) (W m c) (ix2 R n) * XH (X m c) (MT m c) (ix2 R n) := by
  refine (Fin.sum_univ_add (a := 496) (b := 8208) (term m c n)).trans ?_
  rw [Finset.sum_eq_zero fun i _ => ?_, zero_add]
  · refine Finset.sum_congr rfl fun R _ => ?_
    have e : (⟨(Fin.natAdd 496 R).val - 496, by simp only [Fin.val_natAdd]; omega⟩ : Fin 8208) = R := Fin.ext (by simp only [Fin.val_natAdd]; omega)
    rw [term, dif_pos (by simp only [Fin.val_natAdd]; omega), e]
  · rw [term, dif_neg (by simp only [Fin.val_castAdd]; omega)]

theorem arr8 (c : Dev nD) : (dats m 0 c).arrAt 8 (cfgs 0).N = GG (P m c) (W m c) (X m c) (MT m c) := by
  refine (dats m 0 c).arrAt_eq_of_after_last 8 last (by decide +kernel) _ fun j => ?_
  blk_simp
  rw [after0_8, Pipeline.eq_sum_fin_of_reset_step_apply_last (fun n h => (outsAt0 m c n h).2.2) 17 (fun _ => (0 : EReal)) (part8 m c)
    (fun t h j => init8 m c t h j) (fun t h j => step8 m c t h j) (le_of_eq N_0) last rfl j, zero_add]
  pointwise [part8, GG]
  refine Eq.trans ?_ (sum_term m c (j 1 : Fin 1024))
  refine Fin.sum_mul_add_congr fun s k hl => ?_
  exact congrArg (term m c (j 1 : Fin 1024)) (Fin.ext (by dsimp only; omega))

/-- Every run leaves the results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v2_0) = GX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ∧
      r.2.mem ((c : Thread nD τ).loc main_v2_1) = GM (m ((c : Thread nD τ).loc main_arg0)) (m ((c : Thread nD τ).loc main_arg1)) (m ((c : Thread nD τ).loc main_arg2)) (m ((c : Thread nD τ).loc main_arg3)) (m ((c : Thread nD τ).loc main_arg4)) ∧
      r.2.mem ((c : Thread nD τ).loc main_v2_2) = GG (m ((c : Thread nD τ).loc main_arg0)) (m ((c : Thread nD τ).loc main_arg1)) (m ((c : Thread nD τ).loc main_arg2)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5)) :=
  (θ_run defs _ _).mono (fun r h c => ⟨((h c).1 6).trans (arr6 m c),
      ((h c).1 7).trans (arr7 m c),
      ((h c).1 8).trans (arr8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

end Cert.InGradIdeal.Tile

namespace Cert.Proof.InGradClaims

/-- The two programs have the same text: the same table of bodies … -/
theorem bodies_eq : Cert.InGrad.defs₀ (F := Bits) = Cert.InGradIdeal.defs₀ (F := Bits) := by
  refine congrArg Defs.onTc (funext fun l => ?_)
  match l with
  | 0 => exact rfl

/-- … and, with the pipeline's own entries, the same table of the whole program. -/
theorem table_eq : Cert.InGrad.defs (F := Bits) = Cert.InGradIdeal.defs (F := Bits) :=
  congrArg (Pipeline.defs Cert.InGradIdeal.pcfgs) bodies_eq

theorem frame_kernel : Cert.quiescent_InGrad := fun m ρ _ => by
  have h := Cert.InGradIdeal.Run.frame (F := Bits) m ρ
  rw [← table_eq] at h
  exact h

theorem frame_ideal : Cert.quiescent_InGradIdeal := fun m ρ _ => Cert.InGradIdeal.Run.frame m ρ

theorem frame_reference : Cert.quiescent_InGradRefIdeal := fun m ρ _ =>
  (θ_run Cert.InGradRefIdeal.defs _ _).mono (fun r h => ⟨fun c => (h c).2.2.2, sem_eq_zero_of_no_sems (by decide) r.2⟩)
    (Cert.InGradRefIdeal.Value.run (F := Ideal) m ρ)

theorem preserves : Cert.preserves_InGrad_InGradIdeal := trivial

/-- At the extended reals, from arguments that agree, kernel and reference end with the same results. -/
theorem algebraic : Cert.algebraic_InGradIdeal_InGradRefIdeal := by
  intro m ρ m' ρ' _ hag
  refine ⟨fun c => Cert.InGradRefIdeal.Lines.GX (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)),
    fun c => Cert.InGradRefIdeal.Lines.GM (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)),
    fun c => Cert.InGradRefIdeal.Lines.GG (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)), ?_, ?_⟩
  · exact Cert.InGradIdeal.Tile.run m ρ
  · refine (θ_run Cert.InGradRefIdeal.defs _ _).mono (fun r h c => ?_) (Cert.InGradRefIdeal.Value.run (F := Ideal) m' ρ')
    replace h := h c
    obtain ⟨h0, h1, h2, hr⟩ := h
    obtain ⟨a0, a1, a2, a3, a4, a5⟩ := hag c
    refine ⟨h0.trans ?_, h1.trans ?_, h2.trans ?_, hr⟩ <;> clear h0 h1 h2 hr <;> beta_reduce
    · rw [← a0, ← a1, ← a2, ← a3, ← a4, ← a5]; rfl
    · rw [← a0, ← a1, ← a2, ← a3, ← a4]; rfl
    · rw [← a0, ← a1, ← a2, ← a3]; rfl

end Cert.Proof.InGradClaims

end
-- ==== Proof.WGradValue.lean ====
/-
  The gradient of the input projection: the kernel's accumulated tiles are the one product of the reference.
-/
module

public import proofs.«01_k».proof.Proof.Gen.WGrad.Frame
public import proofs.«01_k».proof.Proof.Gen.WGradIdeal.Frame
public import proofs.«01_k».proof.Proof.Gen.WGradRefIdeal.Run
public import proofs.«01_k».proof.Proof.Shared
public import Idealize.ShloMosaic.Lib.Pipeline.Value
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.WGradIdeal.Sums

open Cert.WGradIdeal Cert.WGradIdeal.Gen Cert.Proof.Shared

variable (m : (ℓ : Loc nD τ sig) → Buf (Elt Ideal) ℓ)
/-- One tile's part of the gradient. -/
def part (x : FVec Ideal S1024x512 .bf16) (y : FVec Ideal S512x1024 .bf16) (j : S2x1x512x1024.Idx) : EReal :=
  ∑ k : Fin 512, x (ix2 (⟨512 * (j 0).val + (j 2).val, by idx_bounds; omega⟩ : Fin 1024) k) * y (ix2 k (j 3 : Fin 1024))

/-- A later tile adds its part to what the tile before left. -/
theorem out_B (c : Dev nD) (i : grid0.Coords) (a1 : Memref sig .tc .vmem S1024x512 .bf16) (h1 : a1.IsWhole)
    (a2 : Memref sig .tc .vmem S512x1024 .bf16) (h2 : a2.IsWhole) (a3 : Memref sig .tc .vmem S2x1x512x1024 .f32) (h3 : a3.IsWhole)
    (hc : ¬cond0_0 i) (x : FVec Ideal S1024x512 .bf16) (y : FVec Ideal S512x1024 .bf16) (o : FVec Ideal S2x1x512x1024 .f32) (j : S2x1x512x1024.Idx) :
    out0_B_2 (F := Ideal) c i a1 h1 a2 h2 a3 h3 hc x y o j = o j + part x y j := by
  frame_out
  canon_tiles u h
  all_goals (open_payloads; pointwise [part]; blk_point [])

/-- The first tile of a block starts from zero. -/
theorem out_A (c : Dev nD) (i : grid0.Coords) (a1 : Memref sig .tc .vmem S1024x512 .bf16) (h1 : a1.IsWhole)
    (a2 : Memref sig .tc .vmem S512x1024 .bf16) (h2 : a2.IsWhole) (a3 : Memref sig .tc .vmem S2x1x512x1024 .f32) (h3 : a3.IsWhole)
    (hc : cond0_0 i) (x : FVec Ideal S1024x512 .bf16) (y : FVec Ideal S512x1024 .bf16) (j : S2x1x512x1024.Idx) :
    out0_A_2 (F := Ideal) c i a1 h1 a2 h2 a3 h3 hc x y j = (0 : EReal) + part x y j := by
  frame_open
  simp (disch := decide) only [↓ View.readCov_skip, ↓ View.readCov_cons_toLoadRect, ↓ View.readCov_fill]
  frame_out
  refine (canon_drop [_] [_, _] j (View.cover_of_tiledL _ ![1, 1, 512, 1024] (by rfl) j)).trans ?_
  canon_tiles u h
  all_goals (open_payloads; pointwise [part]; blk_point [])

/-- Which block of each array a grid point holds. -/
theorem idx : ∀ t : Fin cfg0.N, win0_0.index t = ![0, t.val % 17] ∧ win0_1.index t = ![t.val % 17, t.val / 17]
    ∧ win0_2.index t = ![0, t.val / 17, 0, 0] := (by decide +kernel : ∀ t : Fin grid0.N, _)

/-- The reference's result over the two matrices. -/
abbrev REF (X : FVec Ideal S1024x8704 .bf16) (Y : FVec Ideal S8704x4096 .bf16) : FVec Ideal S2x4x512x1024 .f32 :=
  transpose Cert.WGradRefIdeal.S2x4x512x1024 [0, 2, 1, 3] (shapeCast _ (Host.dotGeneral Cert.WGradRefIdeal.dot_S1024x8704_S8704x4096_S1024x4096_1_0_0_1_n_n none (extf .f32 X Cert.WGradRefIdeal.Gen.bitsLt_bf16_f32) (extf .f32 Y Cert.WGradRefIdeal.Gen.bitsLt_bf16_f32)) Cert.WGradRefIdeal.Gen.shapeCasts_S1024x4096_S2x512x4x1024) Cert.WGradRefIdeal.Gen.transposes_S2x512x4x1024_S2x4x512x1024_0_2_1_3

/-- The output array after the last grid point is the product of the two whole matrices. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 17 (fun _ => 0) _
    (fun t h j => by rw [outsAt0_A m c t h, out_A]) (fun t h j => by rw [outsAt0_B m c t h, out_B])
    t ((flush0_2 t).mp hf) _, zero_add]
  pointwise [part, REF]
  refine Fin.sum_mul_add_congr fun s k hl => ?_
  blk_point [iblk, V, idx t, idx ⟨_, Pipeline.run_point_lt_of_flush t ((flush0_2 t).mp hf) s⟩]

/-- Every run leaves the results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0) = REF (m ((c : Thread nD τ).loc main_arg0)) (m ((c : Thread nD τ).loc main_arg1)) ∧
      r.2.mem ((c : Thread nD τ).loc main_arg0) = m ((c : Thread nD τ).loc main_arg0) ∧
      r.2.mem ((c : Thread nD τ).loc main_arg1) = m ((c : Thread nD τ).loc main_arg1)) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.WGradIdeal.Sums

namespace Cert.Proof.WGradClaims

theorem frame_kernel : Cert.quiescent_WGrad := fun m ρ _ => Cert.WGrad.Gen.frame m ρ

theorem frame_ideal : Cert.quiescent_WGradIdeal := fun m ρ _ => Cert.WGradIdeal.Gen.frame m ρ

theorem frame_reference : Cert.quiescent_WGradRefIdeal := fun m ρ _ =>
  (θ_run Cert.WGradRefIdeal.defs _ _).mono (fun r h => ⟨fun c => (h c).2, sem_eq_zero_of_no_sems (by decide) r.2⟩)
    (Cert.WGradRefIdeal.Value.run (F := Ideal) m ρ)

theorem preserves : Cert.preserves_WGrad_WGradIdeal := trivial

/-- At the extended reals, from arguments that agree, kernel and reference end with the same results. -/
theorem algebraic : Cert.algebraic_WGradIdeal_WGradRefIdeal := by
  intro m ρ m' ρ' _ hag
  refine ⟨fun c => Cert.WGradIdeal.Sums.REF (m ((c.tc : Thread Cert.WGradIdeal.nD Cert.WGradIdeal.τ).loc Cert.WGradIdeal.main_arg0)) (m ((c.tc : Thread Cert.WGradIdeal.nD Cert.WGradIdeal.τ).loc Cert.WGradIdeal.main_arg1)), ?_, ?_⟩
  · exact Cert.WGradIdeal.Sums.run m ρ
  · refine (θ_run Cert.WGradRefIdeal.defs _ _).mono (fun r h c => ?_) (Cert.WGradRefIdeal.Value.run (F := Ideal) m' ρ')
    replace h := h c
    obtain ⟨h0, hr⟩ := h
    obtain ⟨a0, a1⟩ := hag c
    refine ⟨h0.trans ?_, hr⟩ <;> clear h0 hr <;> beta_reduce <;> rw [← a0, ← a1] <;> rfl

end Cert.Proof.WGradClaims

end
-- ==== Proof.StepMetaUpdate.lean ====
/-
  One step of the optimiser on the share of the meta tokens: what the kernel leaves, and that the reference leaves the same.
-/
module

public import proofs.«01_k».proof.Defs
public import proofs.«01_k».proof.Proof.Gen.StepMeta.Frame
public import proofs.«01_k».proof.Proof.Gen.StepMetaIdeal.Frame
public import proofs.«01_k».proof.Proof.Gen.StepMetaRefIdeal.Run
public import Idealize.ShloMosaic.Lib.Pipeline.Value
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.StepMetaRefIdeal.Lines

open Cert.StepMetaRefIdeal Cert.StepMetaRefIdeal.Gen

/-- The update of the parameter, as the reference forms it. -/
noncomputable def STEP (W0 G0 M0 V0 : FVec Ideal S16x256 .f32) : FVec Ideal S16x256 .f32 := mulf (broadcastInDim S16x256 ![] bcast_S_S16x256 (constant S_ .f32 0xBA83126F#32)) (addf (Host.divf (Host.divf (addf (mulf (broadcastInDim S16x256 ![] bcast_S_S16x256 (constant S_ .f32 0x3F666666#32)) M0) (mulf (broadcastInDim S16x256 ![] bcast_S_S16x256 (constant S_ .f32 0x3DCCCCCD#32)) G0)) (broadcastInDim S16x256 ![] bcast_S_S16x256 (constant S_ .f32 0x3F26BD02#32))) (addf (Host.sqrt (Host.divf (addf (mulf (broadcastInDim S16x256 ![] bcast_S_S16x256 (constant S_ .f32 0x3F7FBE77#32)) V0) (mulf (broadcastInDim S16x256 ![] bcast_S_S16x256 (constant S_ .f32 0x3A83126F#32)) (mulf G0 G0))) (broadcastInDim S16x256 ![] bcast_S_S16x256 (constant S_ .f32 0x3C231ACC#32)))) (broadcastInDim S16x256 ![] bcast_S_S16x256 (constant S_ .f32 0x322BCC77#32)))) (mulf (broadcastInDim S16x256 ![] bcast_S_S16x256 (constant S_ .f32 0x3C23D70A#32)) W0))

/-- The new first moment. -/
noncomputable def MEAN (W0 G0 M0 V0 : FVec Ideal S16x256 .f32) : FVec Ideal S16x256 .f32 := addf (mulf (broadcastInDim S16x256 ![] bcast_S_S16x256 (constant S_ .f32 0x3F666666#32)) M0) (mulf (broadcastInDim S16x256 ![] bcast_S_S16x256 (constant S_ .f32 0x3DCCCCCD#32)) G0)

/-- The new second moment. -/
noncomputable def SQUARE (W0 G0 M0 V0 : FVec Ideal S16x256 .f32) : FVec Ideal S16x256 .f32 := addf (mulf (broadcastInDim S16x256 ![] bcast_S_S16x256 (constant S_ .f32 0x3F7FBE77#32)) V0) (mulf (broadcastInDim S16x256 ![] bcast_S_S16x256 (constant S_ .f32 0x3A83126F#32)) (mulf G0 G0))

end Cert.StepMetaRefIdeal.Lines

namespace Cert.StepMetaIdeal.Update

open Cert.StepMetaIdeal Cert.StepMetaIdeal.Gen Cert.StepMetaRefIdeal.Lines

variable (m : (ℓ : Loc nD τ sig) → Buf (Elt Ideal) ℓ)

/-- Every array is cut into bands of rows, one band to a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The array of updates after the last grid point. -/
theorem arr4 (c : Dev nD) : (dats m 0 c).arrAt 4 (cfgs 0).N = STEP (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay3, k0_pay1, k0_pay2, STEP]
  blk_point [iblk, V, idx t]

/-- The array of first moments after the last grid point. -/
theorem arr5 (c : Dev nD) : (dats m 0 c).arrAt 5 (cfgs 0).N = MEAN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay1, MEAN]
  blk_point [iblk, V, idx t]

/-- The array of second moments after the last grid point. -/
theorem arr6 (c : Dev nD) : (dats m 0 c).arrAt 6 (cfgs 0).N = SQUARE (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  pointwise [k0_pay2, SQUARE]
  blk_point [iblk, V, idx t]

/-- Every run leaves the three results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0_0) = STEP (m ((c : Thread nD τ).loc main_arg0)) (m ((c : Thread nD τ).loc main_arg1)) (m ((c : Thread nD τ).loc main_arg2)) (m ((c : Thread nD τ).loc main_arg3)) ∧
      r.2.mem ((c : Thread nD τ).loc main_v0_1) = MEAN (m ((c : Thread nD τ).loc main_arg0)) (m ((c : Thread nD τ).loc main_arg1)) (m ((c : Thread nD τ).loc main_arg2)) (m ((c : Thread nD τ).loc main_arg3)) ∧
      r.2.mem ((c : Thread nD τ).loc main_v0_2) = SQUARE (m ((c : Thread nD τ).loc main_arg0)) (m ((c : Thread nD τ).loc main_arg1)) (m ((c : Thread nD τ).loc main_arg2)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3)) :=
  (θ_run defs _ _).mono (fun r h c => ⟨((h c).1 4).trans (arr4 m c),
      ((h c).1 5).trans (arr5 m c),
      ((h c).1 6).trans (arr6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.StepMetaIdeal.Update

namespace Cert.Proof.StepMetaClaims

theorem frame_kernel : Cert.quiescent_StepMeta := fun m ρ _ => Cert.StepMeta.Gen.frame m ρ

theorem frame_ideal : Cert.quiescent_StepMetaIdeal := fun m ρ _ => Cert.StepMetaIdeal.Gen.frame m ρ

theorem frame_reference : Cert.quiescent_StepMetaRefIdeal := fun m ρ _ =>
  (θ_run Cert.StepMetaRefIdeal.defs _ _).mono (fun r h => ⟨fun c => (h c).2.2.2, sem_eq_zero_of_no_sems (by decide) r.2⟩)
    (Cert.StepMetaRefIdeal.Value.run (F := Ideal) m ρ)

theorem preserves : Cert.preserves_StepMeta_StepMetaIdeal := trivial

/-- At the extended reals, from arguments that agree, kernel and reference end with the same three results. -/
theorem algebraic : Cert.algebraic_StepMetaIdeal_StepMetaRefIdeal := by
  intro m ρ m' ρ' _ hag
  refine ⟨fun c => Cert.StepMetaRefIdeal.Lines.STEP (m ((c.tc : Thread Cert.StepMetaIdeal.nD Cert.StepMetaIdeal.τ).loc Cert.StepMetaIdeal.main_arg0)) (m ((c.tc : Thread Cert.StepMetaIdeal.nD Cert.StepMetaIdeal.τ).loc Cert.StepMetaIdeal.main_arg1)) (m ((c.tc : Thread Cert.StepMetaIdeal.nD Cert.StepMetaIdeal.τ).loc Cert.StepMetaIdeal.main_arg2)) (m ((c.tc : Thread Cert.StepMetaIdeal.nD Cert.StepMetaIdeal.τ).loc Cert.StepMetaIdeal.main_arg3)),
    fun c => Cert.StepMetaRefIdeal.Lines.MEAN (m ((c.tc : Thread Cert.StepMetaIdeal.nD Cert.StepMetaIdeal.τ).loc Cert.StepMetaIdeal.main_arg0)) (m ((c.tc : Thread Cert.StepMetaIdeal.nD Cert.StepMetaIdeal.τ).loc Cert.StepMetaIdeal.main_arg1)) (m ((c.tc : Thread Cert.StepMetaIdeal.nD Cert.StepMetaIdeal.τ).loc Cert.StepMetaIdeal.main_arg2)) (m ((c.tc : Thread Cert.StepMetaIdeal.nD Cert.StepMetaIdeal.τ).loc Cert.StepMetaIdeal.main_arg3)),
    fun c => Cert.StepMetaRefIdeal.Lines.SQUARE (m ((c.tc : Thread Cert.StepMetaIdeal.nD Cert.StepMetaIdeal.τ).loc Cert.StepMetaIdeal.main_arg0)) (m ((c.tc : Thread Cert.StepMetaIdeal.nD Cert.StepMetaIdeal.τ).loc Cert.StepMetaIdeal.main_arg1)) (m ((c.tc : Thread Cert.StepMetaIdeal.nD Cert.StepMetaIdeal.τ).loc Cert.StepMetaIdeal.main_arg2)) (m ((c.tc : Thread Cert.StepMetaIdeal.nD Cert.StepMetaIdeal.τ).loc Cert.StepMetaIdeal.main_arg3)), ?_, ?_⟩
  · exact Cert.StepMetaIdeal.Update.run m ρ
  · refine (θ_run Cert.StepMetaRefIdeal.defs _ _).mono (fun r h c => ?_) (Cert.StepMetaRefIdeal.Value.run (F := Ideal) m' ρ')
    replace h := h c
    obtain ⟨h0, h1, h2, hr⟩ := h
    obtain ⟨a0, a1, a2, a3⟩ := hag c
    refine ⟨h0.trans ?_, h1.trans ?_, h2.trans ?_, hr⟩ <;> clear h0 h1 h2 hr <;> simp only [a0, a1, a2, a3] <;> rfl

end Cert.Proof.StepMetaClaims

end
-- ==== Proof.StepNormUpdate.lean ====
/-
  One step of the optimiser on a norm gain of the whole width: what the kernel leaves, and that the reference leaves the same.
-/
module

public import proofs.«01_k».proof.Defs
public import proofs.«01_k».proof.Proof.Gen.StepNorm.Frame
public import proofs.«01_k».proof.Proof.Gen.StepNormIdeal.Frame
public import proofs.«01_k».proof.Proof.Gen.StepNormRefIdeal.Run
public import Idealize.ShloMosaic.Lib.Pipeline.Value
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.StepNormRefIdeal.Lines

open Cert.StepNormRefIdeal Cert.StepNormRefIdeal.Gen

/-- The update of the parameter, as the reference forms it. -/
noncomputable def STEP (W0 G0 M0 V0 : FVec Ideal S1x1024 .f32) : FVec Ideal S1x1024 .f32 := mulf (broadcastInDim S1x1024 ![] bcast_S_S1x1024 (constant S_ .f32 0xBA83126F#32)) (addf (Host.divf (Host.divf (addf (mulf (broadcastInDim S1x1024 ![] bcast_S_S1x1024 (constant S_ .f32 0x3F666666#32)) M0) (mulf (broadcastInDim S1x1024 ![] bcast_S_S1x1024 (constant S_ .f32 0x3DCCCCCD#32)) G0)) (broadcastInDim S1x1024 ![] bcast_S_S1x1024 (constant S_ .f32 0x3F26BD02#32))) (addf (Host.sqrt (Host.divf (addf (mulf (broadcastInDim S1x1024 ![] bcast_S_S1x1024 (constant S_ .f32 0x3F7FBE77#32)) V0) (mulf (broadcastInDim S1x1024 ![] bcast_S_S1x1024 (constant S_ .f32 0x3A83126F#32)) (mulf G0 G0))) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) W0))

/-- The new first moment. -/
noncomputable def MEAN (W0 G0 M0 V0 : FVec Ideal S1x1024 .f32) : FVec Ideal S1x1024 .f32 := addf (mulf (broadcastInDim S1x1024 ![] bcast_S_S1x1024 (constant S_ .f32 0x3F666666#32)) M0) (mulf (broadcastInDim S1x1024 ![] bcast_S_S1x1024 (constant S_ .f32 0x3DCCCCCD#32)) G0)

/-- The new second moment. -/
noncomputable def SQUARE (W0 G0 M0 V0 : FVec Ideal S1x1024 .f32) : FVec Ideal S1x1024 .f32 := addf (mulf (broadcastInDim S1x1024 ![] bcast_S_S1x1024 (constant S_ .f32 0x3F7FBE77#32)) V0) (mulf (broadcastInDim S1x1024 ![] bcast_S_S1x1024 (constant S_ .f32 0x3A83126F#32)) (mulf G0 G0))

end Cert.StepNormRefIdeal.Lines

namespace Cert.StepNormIdeal.Update

open Cert.StepNormIdeal Cert.StepNormIdeal.Gen Cert.StepNormRefIdeal.Lines

variable (m : (ℓ : Loc nD τ sig) → Buf (Elt Ideal) ℓ)

/-- Every array is cut into bands of rows, one band to a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The array of updates after the last grid point. -/
theorem arr4 (c : Dev nD) : (dats m 0 c).arrAt 4 (cfgs 0).N = STEP (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay3, k0_pay1, k0_pay2, STEP]
  blk_point [iblk, V, idx t]

/-- The array of first moments after the last grid point. -/
theorem arr5 (c : Dev nD) : (dats m 0 c).arrAt 5 (cfgs 0).N = MEAN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay1, MEAN]
  blk_point [iblk, V, idx t]

/-- The array of second moments after the last grid point. -/
theorem arr6 (c : Dev nD) : (dats m 0 c).arrAt 6 (cfgs 0).N = SQUARE (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  pointwise [k0_pay2, SQUARE]
  blk_point [iblk, V, idx t]

/-- Every run leaves the three results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0_0) = STEP (m ((c : Thread nD τ).loc main_arg0)) (m ((c : Thread nD τ).loc main_arg1)) (m ((c : Thread nD τ).loc main_arg2)) (m ((c : Thread nD τ).loc main_arg3)) ∧
      r.2.mem ((c : Thread nD τ).loc main_v0_1) = MEAN (m ((c : Thread nD τ).loc main_arg0)) (m ((c : Thread nD τ).loc main_arg1)) (m ((c : Thread nD τ).loc main_arg2)) (m ((c : Thread nD τ).loc main_arg3)) ∧
      r.2.mem ((c : Thread nD τ).loc main_v0_2) = SQUARE (m ((c : Thread nD τ).loc main_arg0)) (m ((c : Thread nD τ).loc main_arg1)) (m ((c : Thread nD τ).loc main_arg2)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3)) :=
  (θ_run defs _ _).mono (fun r h c => ⟨((h c).1 4).trans (arr4 m c),
      ((h c).1 5).trans (arr5 m c),
      ((h c).1 6).trans (arr6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.StepNormIdeal.Update

namespace Cert.Proof.StepNormClaims

theorem frame_kernel : Cert.quiescent_StepNorm := fun m ρ _ => Cert.StepNorm.Gen.frame m ρ

theorem frame_ideal : Cert.quiescent_StepNormIdeal := fun m ρ _ => Cert.StepNormIdeal.Gen.frame m ρ

theorem frame_reference : Cert.quiescent_StepNormRefIdeal := fun m ρ _ =>
  (θ_run Cert.StepNormRefIdeal.defs _ _).mono (fun r h => ⟨fun c => (h c).2.2.2, sem_eq_zero_of_no_sems (by decide) r.2⟩)
    (Cert.StepNormRefIdeal.Value.run (F := Ideal) m ρ)

theorem preserves : Cert.preserves_StepNorm_StepNormIdeal := trivial

/-- At the extended reals, from arguments that agree, kernel and reference end with the same three results. -/
theorem algebraic : Cert.algebraic_StepNormIdeal_StepNormRefIdeal := by
  intro m ρ m' ρ' _ hag
  refine ⟨fun c => Cert.StepNormRefIdeal.Lines.STEP (m ((c.tc : Thread Cert.StepNormIdeal.nD Cert.StepNormIdeal.τ).loc Cert.StepNormIdeal.main_arg0)) (m ((c.tc : Thread Cert.StepNormIdeal.nD Cert.StepNormIdeal.τ).loc Cert.StepNormIdeal.main_arg1)) (m ((c.tc : Thread Cert.StepNormIdeal.nD Cert.StepNormIdeal.τ).loc Cert.StepNormIdeal.main_arg2)) (m ((c.tc : Thread Cert.StepNormIdeal.nD Cert.StepNormIdeal.τ).loc Cert.StepNormIdeal.main_arg3)),
    fun c => Cert.StepNormRefIdeal.Lines.MEAN (m ((c.tc : Thread Cert.StepNormIdeal.nD Cert.StepNormIdeal.τ).loc Cert.StepNormIdeal.main_arg0)) (m ((c.tc : Thread Cert.StepNormIdeal.nD Cert.StepNormIdeal.τ).loc Cert.StepNormIdeal.main_arg1)) (m ((c.tc : Thread Cert.StepNormIdeal.nD Cert.StepNormIdeal.τ).loc Cert.StepNormIdeal.main_arg2)) (m ((c.tc : Thread Cert.StepNormIdeal.nD Cert.StepNormIdeal.τ).loc Cert.StepNormIdeal.main_arg3)),
    fun c => Cert.StepNormRefIdeal.Lines.SQUARE (m ((c.tc : Thread Cert.StepNormIdeal.nD Cert.StepNormIdeal.τ).loc Cert.StepNormIdeal.main_arg0)) (m ((c.tc : Thread Cert.StepNormIdeal.nD Cert.StepNormIdeal.τ).loc Cert.StepNormIdeal.main_arg1)) (m ((c.tc : Thread Cert.StepNormIdeal.nD Cert.StepNormIdeal.τ).loc Cert.StepNormIdeal.main_arg2)) (m ((c.tc : Thread Cert.StepNormIdeal.nD Cert.StepNormIdeal.τ).loc Cert.StepNormIdeal.main_arg3)), ?_, ?_⟩
  · exact Cert.StepNormIdeal.Update.run m ρ
  · refine (θ_run Cert.StepNormRefIdeal.defs _ _).mono (fun r h c => ?_) (Cert.StepNormRefIdeal.Value.run (F := Ideal) m' ρ')
    replace h := h c
    obtain ⟨h0, h1, h2, hr⟩ := h
    obtain ⟨a0, a1, a2, a3⟩ := hag c
    refine ⟨h0.trans ?_, h1.trans ?_, h2.trans ?_, hr⟩ <;> clear h0 h1 h2 hr <;> simp only [a0, a1, a2, a3] <;> rfl

end Cert.Proof.StepNormClaims

end
-- ==== Proof.StepWInUpdate.lean ====
/-
  One step of the optimiser on the share of the input projection: what the kernel leaves, and that the reference leaves the same.
-/
module

public import proofs.«01_k».proof.Defs
public import proofs.«01_k».proof.Proof.Gen.StepWIn.Frame
public import proofs.«01_k».proof.Proof.Gen.StepWInIdeal.Frame
public import proofs.«01_k».proof.Proof.Gen.StepWInRefIdeal.Run
public import Idealize.ShloMosaic.Lib.Pipeline.Value
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.StepWInRefIdeal.Lines

open Cert.StepWInRefIdeal Cert.StepWInRefIdeal.Gen

/-- The update of the parameter, as the reference forms it. -/
noncomputable def STEP (W0 G0 M0 V0 : FVec Ideal S1024x1024 .f32) : FVec Ideal S1024x1024 .f32 := mulf (broadcastInDim S1024x1024 ![] bcast_S_S1024x1024 (constant S_ .f32 0xBA83126F#32)) (addf (Host.divf (Host.divf (addf (mulf (broadcastInDim S1024x1024 ![] bcast_S_S1024x1024 (constant S_ .f32 0x3F666666#32)) M0) (mulf (broadcastInDim S1024x1024 ![] bcast_S_S1024x1024 (constant S_ .f32 0x3DCCCCCD#32)) G0)) (broadcastInDim S1024x1024 ![] bcast_S_S1024x1024 (constant S_ .f32 0x3F26BD02#32))) (addf (Host.sqrt (Host.divf (addf (mulf (broadcastInDim S1024x1024 ![] bcast_S_S1024x1024 (constant S_ .f32 0x3F7FBE77#32)) V0) (mulf (broadcastInDim S1024x1024 ![] bcast_S_S1024x1024 (constant S_ .f32 0x3A83126F#32)) (mulf G0 G0))) (broadcastInDim S1024x1024 ![] bcast_S_S1024x1024 (constant S_ .f32 0x3C231ACC#32)))) (broadcastInDim S1024x1024 ![] bcast_S_S1024x1024 (constant S_ .f32 0x322BCC77#32)))) (mulf (broadcastInDim S1024x1024 ![] bcast_S_S1024x1024 (constant S_ .f32 0x3C23D70A#32)) W0))

/-- The new first moment. -/
noncomputable def MEAN (W0 G0 M0 V0 : FVec Ideal S1024x1024 .f32) : FVec Ideal S1024x1024 .f32 := addf (mulf (broadcastInDim S1024x1024 ![] bcast_S_S1024x1024 (constant S_ .f32 0x3F666666#32)) M0) (mulf (broadcastInDim S1024x1024 ![] bcast_S_S1024x1024 (constant S_ .f32 0x3DCCCCCD#32)) G0)

/-- The new second moment. -/
noncomputable def SQUARE (W0 G0 M0 V0 : FVec Ideal S1024x1024 .f32) : FVec Ideal S1024x1024 .f32 := addf (mulf (broadcastInDim S1024x1024 ![] bcast_S_S1024x1024 (constant S_ .f32 0x3F7FBE77#32)) V0) (mulf (broadcastInDim S1024x1024 ![] bcast_S_S1024x1024 (constant S_ .f32 0x3A83126F#32)) (mulf G0 G0))

end Cert.StepWInRefIdeal.Lines

namespace Cert.StepWInIdeal.Update

open Cert.StepWInIdeal Cert.StepWInIdeal.Gen Cert.StepWInRefIdeal.Lines

variable (m : (ℓ : Loc nD τ sig) → Buf (Elt Ideal) ℓ)

/-- Every array is cut into bands of rows, one band to a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The array of updates after the last grid point. -/
theorem arr4 (c : Dev nD) : (dats m 0 c).arrAt 4 (cfgs 0).N = STEP (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay3, k0_pay1, k0_pay2, STEP]
  blk_point [iblk, V, idx t]

/-- The array of first moments after the last grid point. -/
theorem arr5 (c : Dev nD) : (dats m 0 c).arrAt 5 (cfgs 0).N = MEAN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay1, MEAN]
  blk_point [iblk, V, idx t]

/-- The array of second moments after the last grid point. -/
theorem arr6 (c : Dev nD) : (dats m 0 c).arrAt 6 (cfgs 0).N = SQUARE (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  pointwise [k0_pay2, SQUARE]
  blk_point [iblk, V, idx t]

/-- Every run leaves the three results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0_0) = STEP (m ((c : Thread nD τ).loc main_arg0)) (m ((c : Thread nD τ).loc main_arg1)) (m ((c : Thread nD τ).loc main_arg2)) (m ((c : Thread nD τ).loc main_arg3)) ∧
      r.2.mem ((c : Thread nD τ).loc main_v0_1) = MEAN (m ((c : Thread nD τ).loc main_arg0)) (m ((c : Thread nD τ).loc main_arg1)) (m ((c : Thread nD τ).loc main_arg2)) (m ((c : Thread nD τ).loc main_arg3)) ∧
      r.2.mem ((c : Thread nD τ).loc main_v0_2) = SQUARE (m ((c : Thread nD τ).loc main_arg0)) (m ((c : Thread nD τ).loc main_arg1)) (m ((c : Thread nD τ).loc main_arg2)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3)) :=
  (θ_run defs _ _).mono (fun r h c => ⟨((h c).1 4).trans (arr4 m c),
      ((h c).1 5).trans (arr5 m c),
      ((h c).1 6).trans (arr6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.StepWInIdeal.Update

namespace Cert.Proof.StepWInClaims

theorem frame_kernel : Cert.quiescent_StepWIn := fun m ρ _ => Cert.StepWIn.Gen.frame m ρ

theorem frame_ideal : Cert.quiescent_StepWInIdeal := fun m ρ _ => Cert.StepWInIdeal.Gen.frame m ρ

theorem frame_reference : Cert.quiescent_StepWInRefIdeal := fun m ρ _ =>
  (θ_run Cert.StepWInRefIdeal.defs _ _).mono (fun r h => ⟨fun c => (h c).2.2.2, sem_eq_zero_of_no_sems (by decide) r.2⟩)
    (Cert.StepWInRefIdeal.Value.run (F := Ideal) m ρ)

theorem preserves : Cert.preserves_StepWIn_StepWInIdeal := trivial

/-- At the extended reals, from arguments that agree, kernel and reference end with the same three results. -/
theorem algebraic : Cert.algebraic_StepWInIdeal_StepWInRefIdeal := by
  intro m ρ m' ρ' _ hag
  refine ⟨fun c => Cert.StepWInRefIdeal.Lines.STEP (m ((c.tc : Thread Cert.StepWInIdeal.nD Cert.StepWInIdeal.τ).loc Cert.StepWInIdeal.main_arg0)) (m ((c.tc : Thread Cert.StepWInIdeal.nD Cert.StepWInIdeal.τ).loc Cert.StepWInIdeal.main_arg1)) (m ((c.tc : Thread Cert.StepWInIdeal.nD Cert.StepWInIdeal.τ).loc Cert.StepWInIdeal.main_arg2)) (m ((c.tc : Thread Cert.StepWInIdeal.nD Cert.StepWInIdeal.τ).loc Cert.StepWInIdeal.main_arg3)),
    fun c => Cert.StepWInRefIdeal.Lines.MEAN (m ((c.tc : Thread Cert.StepWInIdeal.nD Cert.StepWInIdeal.τ).loc Cert.StepWInIdeal.main_arg0)) (m ((c.tc : Thread Cert.StepWInIdeal.nD Cert.StepWInIdeal.τ).loc Cert.StepWInIdeal.main_arg1)) (m ((c.tc : Thread Cert.StepWInIdeal.nD Cert.StepWInIdeal.τ).loc Cert.StepWInIdeal.main_arg2)) (m ((c.tc : Thread Cert.StepWInIdeal.nD Cert.StepWInIdeal.τ).loc Cert.StepWInIdeal.main_arg3)),
    fun c => Cert.StepWInRefIdeal.Lines.SQUARE (m ((c.tc : Thread Cert.StepWInIdeal.nD Cert.StepWInIdeal.τ).loc Cert.StepWInIdeal.main_arg0)) (m ((c.tc : Thread Cert.StepWInIdeal.nD Cert.StepWInIdeal.τ).loc Cert.StepWInIdeal.main_arg1)) (m ((c.tc : Thread Cert.StepWInIdeal.nD Cert.StepWInIdeal.τ).loc Cert.StepWInIdeal.main_arg2)) (m ((c.tc : Thread Cert.StepWInIdeal.nD Cert.StepWInIdeal.τ).loc Cert.StepWInIdeal.main_arg3)), ?_, ?_⟩
  · exact Cert.StepWInIdeal.Update.run m ρ
  · refine (θ_run Cert.StepWInRefIdeal.defs _ _).mono (fun r h c => ?_) (Cert.StepWInRefIdeal.Value.run (F := Ideal) m' ρ')
    replace h := h c
    obtain ⟨h0, h1, h2, hr⟩ := h
    obtain ⟨a0, a1, a2, a3⟩ := hag c
    refine ⟨h0.trans ?_, h1.trans ?_, h2.trans ?_, hr⟩ <;> clear h0 h1 h2 hr <;> simp only [a0, a1, a2, a3] <;> rfl

end Cert.Proof.StepWInClaims

end
-- ==== Proof.StepConvUpdate.lean ====
/-
  One step of the optimiser on the share of the convolution: what the kernel leaves, and that the reference leaves the same.
-/
module

public import proofs.«01_k».proof.Defs
public import proofs.«01_k».proof.Proof.Gen.StepConv.Frame
public import proofs.«01_k».proof.Proof.Gen.StepConvIdeal.Frame
public import proofs.«01_k».proof.Proof.Gen.StepConvRefIdeal.Run
public import Idealize.ShloMosaic.Lib.Pipeline.Value
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.StepConvRefIdeal.Lines

open Cert.StepConvRefIdeal Cert.StepConvRefIdeal.Gen

/-- The update of the parameter, as the reference forms it. -/
noncomputable def STEP (W0 G0 M0 V0 : FVec Ideal S3x128 .f32) : FVec Ideal S3x128 .f32 := mulf (broadcastInDim S3x128 ![] bcast_S_S3x128 (constant S_ .f32 0xBA83126F#32)) (addf (Host.divf (Host.divf (addf (mulf (broadcastInDim S3x128 ![] bcast_S_S3x128 (constant S_ .f32 0x3F666666#32)) M0) (mulf (broadcastInDim S3x128 ![] bcast_S_S3x128 (constant S_ .f32 0x3DCCCCCD#32)) G0)) (broadcastInDim S3x128 ![] bcast_S_S3x128 (constant S_ .f32 0x3F26BD02#32))) (addf (Host.sqrt (Host.divf (addf (mulf (broadcastInDim S3x128 ![] bcast_S_S3x128 (constant S_ .f32 0x3F7FBE77#32)) V0) (mulf (broadcastInDim S3x128 ![] bcast_S_S3x128 (constant S_ .f32 0x3A83126F#32)) (mulf G0 G0))) (broadcastInDim S3x128 ![] bcast_S_S3x128 (constant S_ .f32 0x3C231ACC#32)))) (broadcastInDim S3x128 ![] bcast_S_S3x128 (constant S_ .f32 0x322BCC77#32)))) (mulf (broadcastInDim S3x128 ![] bcast_S_S3x128 (constant S_ .f32 0x3C23D70A#32)) W0))

/-- The new first moment. -/
noncomputable def MEAN (W0 G0 M0 V0 : FVec Ideal S3x128 .f32) : FVec Ideal S3x128 .f32 := addf (mulf (broadcastInDim S3x128 ![] bcast_S_S3x128 (constant S_ .f32 0x3F666666#32)) M0) (mulf (broadcastInDim S3x128 ![] bcast_S_S3x128 (constant S_ .f32 0x3DCCCCCD#32)) G0)

/-- The new second moment. -/
noncomputable def SQUARE (W0 G0 M0 V0 : FVec Ideal S3x128 .f32) : FVec Ideal S3x128 .f32 := addf (mulf (broadcastInDim S3x128 ![] bcast_S_S3x128 (constant S_ .f32 0x3F7FBE77#32)) V0) (mulf (broadcastInDim S3x128 ![] bcast_S_S3x128 (constant S_ .f32 0x3A83126F#32)) (mulf G0 G0))

end Cert.StepConvRefIdeal.Lines

namespace Cert.StepConvIdeal.Update

open Cert.StepConvIdeal Cert.StepConvIdeal.Gen Cert.StepConvRefIdeal.Lines

variable (m : (ℓ : Loc nD τ sig) → Buf (Elt Ideal) ℓ)

/-- Every array is cut into bands of rows, one band to a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The array of updates after the last grid point. -/
theorem arr4 (c : Dev nD) : (dats m 0 c).arrAt 4 (cfgs 0).N = STEP (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay3, k0_pay1, k0_pay2, STEP]
  blk_point [iblk, V, idx t]

/-- The array of first moments after the last grid point. -/
theorem arr5 (c : Dev nD) : (dats m 0 c).arrAt 5 (cfgs 0).N = MEAN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay1, MEAN]
  blk_point [iblk, V, idx t]

/-- The array of second moments after the last grid point. -/
theorem arr6 (c : Dev nD) : (dats m 0 c).arrAt 6 (cfgs 0).N = SQUARE (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  pointwise [k0_pay2, SQUARE]
  blk_point [iblk, V, idx t]

/-- Every run leaves the three results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0_0) = STEP (m ((c : Thread nD τ).loc main_arg0)) (m ((c : Thread nD τ).loc main_arg1)) (m ((c : Thread nD τ).loc main_arg2)) (m ((c : Thread nD τ).loc main_arg3)) ∧
      r.2.mem ((c : Thread nD τ).loc main_v0_1) = MEAN (m ((c : Thread nD τ).loc main_arg0)) (m ((c : Thread nD τ).loc main_arg1)) (m ((c : Thread nD τ).loc main_arg2)) (m ((c : Thread nD τ).loc main_arg3)) ∧
      r.2.mem ((c : Thread nD τ).loc main_v0_2) = SQUARE (m ((c : Thread nD τ).loc main_arg0)) (m ((c : Thread nD τ).loc main_arg1)) (m ((c : Thread nD τ).loc main_arg2)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3)) :=
  (θ_run defs _ _).mono (fun r h c => ⟨((h c).1 4).trans (arr4 m c),
      ((h c).1 5).trans (arr5 m c),
      ((h c).1 6).trans (arr6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.StepConvIdeal.Update

namespace Cert.Proof.StepConvClaims

theorem frame_kernel : Cert.quiescent_StepConv := fun m ρ _ => Cert.StepConv.Gen.frame m ρ

theorem frame_ideal : Cert.quiescent_StepConvIdeal := fun m ρ _ => Cert.StepConvIdeal.Gen.frame m ρ

theorem frame_reference : Cert.quiescent_StepConvRefIdeal := fun m ρ _ =>
  (θ_run Cert.StepConvRefIdeal.defs _ _).mono (fun r h => ⟨fun c => (h c).2.2.2, sem_eq_zero_of_no_sems (by decide) r.2⟩)
    (Cert.StepConvRefIdeal.Value.run (F := Ideal) m ρ)

theorem preserves : Cert.preserves_StepConv_StepConvIdeal := trivial

/-- At the extended reals, from arguments that agree, kernel and reference end with the same three results. -/
theorem algebraic : Cert.algebraic_StepConvIdeal_StepConvRefIdeal := by
  intro m ρ m' ρ' _ hag
  refine ⟨fun c => Cert.StepConvRefIdeal.Lines.STEP (m ((c.tc : Thread Cert.StepConvIdeal.nD Cert.StepConvIdeal.τ).loc Cert.StepConvIdeal.main_arg0)) (m ((c.tc : Thread Cert.StepConvIdeal.nD Cert.StepConvIdeal.τ).loc Cert.StepConvIdeal.main_arg1)) (m ((c.tc : Thread Cert.StepConvIdeal.nD Cert.StepConvIdeal.τ).loc Cert.StepConvIdeal.main_arg2)) (m ((c.tc : Thread Cert.StepConvIdeal.nD Cert.StepConvIdeal.τ).loc Cert.StepConvIdeal.main_arg3)),
    fun c => Cert.StepConvRefIdeal.Lines.MEAN (m ((c.tc : Thread Cert.StepConvIdeal.nD Cert.StepConvIdeal.τ).loc Cert.StepConvIdeal.main_arg0)) (m ((c.tc : Thread Cert.StepConvIdeal.nD Cert.StepConvIdeal.τ).loc Cert.StepConvIdeal.main_arg1)) (m ((c.tc : Thread Cert.StepConvIdeal.nD Cert.StepConvIdeal.τ).loc Cert.StepConvIdeal.main_arg2)) (m ((c.tc : Thread Cert.StepConvIdeal.nD Cert.StepConvIdeal.τ).loc Cert.StepConvIdeal.main_arg3)),
    fun c => Cert.StepConvRefIdeal.Lines.SQUARE (m ((c.tc : Thread Cert.StepConvIdeal.nD Cert.StepConvIdeal.τ).loc Cert.StepConvIdeal.main_arg0)) (m ((c.tc : Thread Cert.StepConvIdeal.nD Cert.StepConvIdeal.τ).loc Cert.StepConvIdeal.main_arg1)) (m ((c.tc : Thread Cert.StepConvIdeal.nD Cert.StepConvIdeal.τ).loc Cert.StepConvIdeal.main_arg2)) (m ((c.tc : Thread Cert.StepConvIdeal.nD Cert.StepConvIdeal.τ).loc Cert.StepConvIdeal.main_arg3)), ?_, ?_⟩
  · exact Cert.StepConvIdeal.Update.run m ρ
  · refine (θ_run Cert.StepConvRefIdeal.defs _ _).mono (fun r h c => ?_) (Cert.StepConvRefIdeal.Value.run (F := Ideal) m' ρ')
    replace h := h c
    obtain ⟨h0, h1, h2, hr⟩ := h
    obtain ⟨a0, a1, a2, a3⟩ := hag c
    refine ⟨h0.trans ?_, h1.trans ?_, h2.trans ?_, hr⟩ <;> clear h0 h1 h2 hr <;> simp only [a0, a1, a2, a3] <;> rfl

end Cert.Proof.StepConvClaims

end
-- ==== Proof.StepRetUpdate.lean ====
/-
  One step of the optimiser on the norm gain of the retention: what the kernel leaves, and that the reference leaves the same.
-/
module

public import proofs.«01_k».proof.Defs
public import proofs.«01_k».proof.Proof.Gen.StepRet.Frame
public import proofs.«01_k».proof.Proof.Gen.StepRetIdeal.Frame
public import proofs.«01_k».proof.Proof.Gen.StepRetRefIdeal.Run
public import Idealize.ShloMosaic.Lib.Pipeline.Value
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.StepRetRefIdeal.Lines

open Cert.StepRetRefIdeal Cert.StepRetRefIdeal.Gen

/-- The update of the parameter, as the reference forms it. -/
noncomputable def STEP (W0 G0 M0 V0 : FVec Ideal S1x512 .f32) : FVec Ideal S1x512 .f32 := mulf (broadcastInDim S1x512 ![] bcast_S_S1x512 (constant S_ .f32 0xBA83126F#32)) (addf (Host.divf (Host.divf (addf (mulf (broadcastInDim S1x512 ![] bcast_S_S1x512 (constant S_ .f32 0x3F666666#32)) M0) (mulf (broadcastInDim S1x512 ![] bcast_S_S1x512 (constant S_ .f32 0x3DCCCCCD#32)) G0)) (broadcastInDim S1x512 ![] bcast_S_S1x512 (constant S_ .f32 0x3F26BD02#32))) (addf (Host.sqrt (Host.divf (addf (mulf (broadcastInDim S1x512 ![] bcast_S_S1x512 (constant S_ .f32 0x3F7FBE77#32)) V0) (mulf (broadcastInDim S1x512 ![] bcast_S_S1x512 (constant S_ .f32 0x3A83126F#32)) (mulf G0 G0))) (broadcastInDim S1x512 ![] bcast_S_S1x512 (constant S_ .f32 0x3C231ACC#32)))) (broadcastInDim S1x512 ![] bcast_S_S1x512 (constant S_ .f32 0x322BCC77#32)))) (mulf (broadcastInDim S1x512 ![] bcast_S_S1x512 (constant S_ .f32 0x3C23D70A#32)) W0))

/-- The new first moment. -/
noncomputable def MEAN (W0 G0 M0 V0 : FVec Ideal S1x512 .f32) : FVec Ideal S1x512 .f32 := addf (mulf (broadcastInDim S1x512 ![] bcast_S_S1x512 (constant S_ .f32 0x3F666666#32)) M0) (mulf (broadcastInDim S1x512 ![] bcast_S_S1x512 (constant S_ .f32 0x3DCCCCCD#32)) G0)

/-- The new second moment. -/
noncomputable def SQUARE (W0 G0 M0 V0 : FVec Ideal S1x512 .f32) : FVec Ideal S1x512 .f32 := addf (mulf (broadcastInDim S1x512 ![] bcast_S_S1x512 (constant S_ .f32 0x3F7FBE77#32)) V0) (mulf (broadcastInDim S1x512 ![] bcast_S_S1x512 (constant S_ .f32 0x3A83126F#32)) (mulf G0 G0))

end Cert.StepRetRefIdeal.Lines

namespace Cert.StepRetIdeal.Update

open Cert.StepRetIdeal Cert.StepRetIdeal.Gen Cert.StepRetRefIdeal.Lines

variable (m : (ℓ : Loc nD τ sig) → Buf (Elt Ideal) ℓ)

/-- Every array is cut into bands of rows, one band to a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The array of updates after the last grid point. -/
theorem arr4 (c : Dev nD) : (dats m 0 c).arrAt 4 (cfgs 0).N = STEP (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay3, k0_pay1, k0_pay2, STEP]
  blk_point [iblk, V, idx t]

/-- The array of first moments after the last grid point. -/
theorem arr5 (c : Dev nD) : (dats m 0 c).arrAt 5 (cfgs 0).N = MEAN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay1, MEAN]
  blk_point [iblk, V, idx t]

/-- The array of second moments after the last grid point. -/
theorem arr6 (c : Dev nD) : (dats m 0 c).arrAt 6 (cfgs 0).N = SQUARE (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  pointwise [k0_pay2, SQUARE]
  blk_point [iblk, V, idx t]

/-- Every run leaves the three results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0_0) = STEP (m ((c : Thread nD τ).loc main_arg0)) (m ((c : Thread nD τ).loc main_arg1)) (m ((c : Thread nD τ).loc main_arg2)) (m ((c : Thread nD τ).loc main_arg3)) ∧
      r.2.mem ((c : Thread nD τ).loc main_v0_1) = MEAN (m ((c : Thread nD τ).loc main_arg0)) (m ((c : Thread nD τ).loc main_arg1)) (m ((c : Thread nD τ).loc main_arg2)) (m ((c : Thread nD τ).loc main_arg3)) ∧
      r.2.mem ((c : Thread nD τ).loc main_v0_2) = SQUARE (m ((c : Thread nD τ).loc main_arg0)) (m ((c : Thread nD τ).loc main_arg1)) (m ((c : Thread nD τ).loc main_arg2)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3)) :=
  (θ_run defs _ _).mono (fun r h c => ⟨((h c).1 4).trans (arr4 m c),
      ((h c).1 5).trans (arr5 m c),
      ((h c).1 6).trans (arr6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.StepRetIdeal.Update

namespace Cert.Proof.StepRetClaims

theorem frame_kernel : Cert.quiescent_StepRet := fun m ρ _ => Cert.StepRet.Gen.frame m ρ

theorem frame_ideal : Cert.quiescent_StepRetIdeal := fun m ρ _ => Cert.StepRetIdeal.Gen.frame m ρ

theorem frame_reference : Cert.quiescent_StepRetRefIdeal := fun m ρ _ =>
  (θ_run Cert.StepRetRefIdeal.defs _ _).mono (fun r h => ⟨fun c => (h c).2.2.2, sem_eq_zero_of_no_sems (by decide) r.2⟩)
    (Cert.StepRetRefIdeal.Value.run (F := Ideal) m ρ)

theorem preserves : Cert.preserves_StepRet_StepRetIdeal := trivial

/-- At the extended reals, from arguments that agree, kernel and reference end with the same three results. -/
theorem algebraic : Cert.algebraic_StepRetIdeal_StepRetRefIdeal := by
  intro m ρ m' ρ' _ hag
  refine ⟨fun c => Cert.StepRetRefIdeal.Lines.STEP (m ((c.tc : Thread Cert.StepRetIdeal.nD Cert.StepRetIdeal.τ).loc Cert.StepRetIdeal.main_arg0)) (m ((c.tc : Thread Cert.StepRetIdeal.nD Cert.StepRetIdeal.τ).loc Cert.StepRetIdeal.main_arg1)) (m ((c.tc : Thread Cert.StepRetIdeal.nD Cert.StepRetIdeal.τ).loc Cert.StepRetIdeal.main_arg2)) (m ((c.tc : Thread Cert.StepRetIdeal.nD Cert.StepRetIdeal.τ).loc Cert.StepRetIdeal.main_arg3)),
    fun c => Cert.StepRetRefIdeal.Lines.MEAN (m ((c.tc : Thread Cert.StepRetIdeal.nD Cert.StepRetIdeal.τ).loc Cert.StepRetIdeal.main_arg0)) (m ((c.tc : Thread Cert.StepRetIdeal.nD Cert.StepRetIdeal.τ).loc Cert.StepRetIdeal.main_arg1)) (m ((c.tc : Thread Cert.StepRetIdeal.nD Cert.StepRetIdeal.τ).loc Cert.StepRetIdeal.main_arg2)) (m ((c.tc : Thread Cert.StepRetIdeal.nD Cert.StepRetIdeal.τ).loc Cert.StepRetIdeal.main_arg3)),
    fun c => Cert.StepRetRefIdeal.Lines.SQUARE (m ((c.tc : Thread Cert.StepRetIdeal.nD Cert.StepRetIdeal.τ).loc Cert.StepRetIdeal.main_arg0)) (m ((c.tc : Thread Cert.StepRetIdeal.nD Cert.StepRetIdeal.τ).loc Cert.StepRetIdeal.main_arg1)) (m ((c.tc : Thread Cert.StepRetIdeal.nD Cert.StepRetIdeal.τ).loc Cert.StepRetIdeal.main_arg2)) (m ((c.tc : Thread Cert.StepRetIdeal.nD Cert.StepRetIdeal.τ).loc Cert.StepRetIdeal.main_arg3)), ?_, ?_⟩
  · exact Cert.StepRetIdeal.Update.run m ρ
  · refine (θ_run Cert.StepRetRefIdeal.defs _ _).mono (fun r h c => ?_) (Cert.StepRetRefIdeal.Value.run (F := Ideal) m' ρ')
    replace h := h c
    obtain ⟨h0, h1, h2, hr⟩ := h
    obtain ⟨a0, a1, a2, a3⟩ := hag c
    refine ⟨h0.trans ?_, h1.trans ?_, h2.trans ?_, hr⟩ <;> clear h0 h1 h2 hr <;> simp only [a0, a1, a2, a3] <;> rfl

end Cert.Proof.StepRetClaims

end
-- ==== Proof.StepWOutUpdate.lean ====
/-
  One step of the optimiser on the share of the output projection: what the kernel leaves, and that the reference leaves the same.
-/
module

public import proofs.«01_k».proof.Defs
public import proofs.«01_k».proof.Proof.Gen.StepWOut.Frame
public import proofs.«01_k».proof.Proof.Gen.StepWOutIdeal.Frame
public import proofs.«01_k».proof.Proof.Gen.StepWOutRefIdeal.Run
public import Idealize.ShloMosaic.Lib.Pipeline.Value
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.StepWOutRefIdeal.Lines

open Cert.StepWOutRefIdeal Cert.StepWOutRefIdeal.Gen

/-- The update of the parameter, as the reference forms it. -/
noncomputable def STEP (W0 G0 M0 V0 : FVec Ideal S256x1024 .f32) : FVec Ideal S256x1024 .f32 := mulf (broadcastInDim S256x1024 ![] bcast_S_S256x1024 (constant S_ .f32 0xBA83126F#32)) (addf (Host.divf (Host.divf (addf (mulf (broadcastInDim S256x1024 ![] bcast_S_S256x1024 (constant S_ .f32 0x3F666666#32)) M0) (mulf (broadcastInDim S256x1024 ![] bcast_S_S256x1024 (constant S_ .f32 0x3DCCCCCD#32)) G0)) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) V0) (mulf (broadcastInDim S256x1024 ![] bcast_S_S256x1024 (constant S_ .f32 0x3A83126F#32)) (mulf G0 G0))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) W0))

/-- The new first moment. -/
noncomputable def MEAN (W0 G0 M0 V0 : FVec Ideal S256x1024 .f32) : FVec Ideal S256x1024 .f32 := addf (mulf (broadcastInDim S256x1024 ![] bcast_S_S256x1024 (constant S_ .f32 0x3F666666#32)) M0) (mulf (broadcastInDim S256x1024 ![] bcast_S_S256x1024 (constant S_ .f32 0x3DCCCCCD#32)) G0)

/-- The new second moment. -/
noncomputable def SQUARE (W0 G0 M0 V0 : FVec Ideal S256x1024 .f32) : FVec Ideal S256x1024 .f32 := addf (mulf (broadcastInDim S256x1024 ![] bcast_S_S256x1024 (constant S_ .f32 0x3F7FBE77#32)) V0) (mulf (broadcastInDim S256x1024 ![] bcast_S_S256x1024 (constant S_ .f32 0x3A83126F#32)) (mulf G0 G0))

end Cert.StepWOutRefIdeal.Lines

namespace Cert.StepWOutIdeal.Update

open Cert.StepWOutIdeal Cert.StepWOutIdeal.Gen Cert.StepWOutRefIdeal.Lines

variable (m : (ℓ : Loc nD τ sig) → Buf (Elt Ideal) ℓ)

/-- Every array is cut into bands of rows, one band to a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The array of updates after the last grid point. -/
theorem arr4 (c : Dev nD) : (dats m 0 c).arrAt 4 (cfgs 0).N = STEP (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay3, k0_pay1, k0_pay2, STEP]
  blk_point [iblk, V, idx t]

/-- The array of first moments after the last grid point. -/
theorem arr5 (c : Dev nD) : (dats m 0 c).arrAt 5 (cfgs 0).N = MEAN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay1, MEAN]
  blk_point [iblk, V, idx t]

/-- The array of second moments after the last grid point. -/
theorem arr6 (c : Dev nD) : (dats m 0 c).arrAt 6 (cfgs 0).N = SQUARE (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  pointwise [k0_pay2, SQUARE]
  blk_point [iblk, V, idx t]

/-- Every run leaves the three results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v0_0) = STEP (m ((c : Thread nD τ).loc main_arg0)) (m ((c : Thread nD τ).loc main_arg1)) (m ((c : Thread nD τ).loc main_arg2)) (m ((c : Thread nD τ).loc main_arg3)) ∧
      r.2.mem ((c : Thread nD τ).loc main_v0_1) = MEAN (m ((c : Thread nD τ).loc main_arg0)) (m ((c : Thread nD τ).loc main_arg1)) (m ((c : Thread nD τ).loc main_arg2)) (m ((c : Thread nD τ).loc main_arg3)) ∧
      r.2.mem ((c : Thread nD τ).loc main_v0_2) = SQUARE (m ((c : Thread nD τ).loc main_arg0)) (m ((c : Thread nD τ).loc main_arg1)) (m ((c : Thread nD τ).loc main_arg2)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3)) :=
  (θ_run defs _ _).mono (fun r h c => ⟨((h c).1 4).trans (arr4 m c),
      ((h c).1 5).trans (arr5 m c),
      ((h c).1 6).trans (arr6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.StepWOutIdeal.Update

namespace Cert.Proof.StepWOutClaims

theorem frame_kernel : Cert.quiescent_StepWOut := fun m ρ _ => Cert.StepWOut.Gen.frame m ρ

theorem frame_ideal : Cert.quiescent_StepWOutIdeal := fun m ρ _ => Cert.StepWOutIdeal.Gen.frame m ρ

theorem frame_reference : Cert.quiescent_StepWOutRefIdeal := fun m ρ _ =>
  (θ_run Cert.StepWOutRefIdeal.defs _ _).mono (fun r h => ⟨fun c => (h c).2.2.2, sem_eq_zero_of_no_sems (by decide) r.2⟩)
    (Cert.StepWOutRefIdeal.Value.run (F := Ideal) m ρ)

theorem preserves : Cert.preserves_StepWOut_StepWOutIdeal := trivial

/-- At the extended reals, from arguments that agree, kernel and reference end with the same three results. -/
theorem algebraic : Cert.algebraic_StepWOutIdeal_StepWOutRefIdeal := by
  intro m ρ m' ρ' _ hag
  refine ⟨fun c => Cert.StepWOutRefIdeal.Lines.STEP (m ((c.tc : Thread Cert.StepWOutIdeal.nD Cert.StepWOutIdeal.τ).loc Cert.StepWOutIdeal.main_arg0)) (m ((c.tc : Thread Cert.StepWOutIdeal.nD Cert.StepWOutIdeal.τ).loc Cert.StepWOutIdeal.main_arg1)) (m ((c.tc : Thread Cert.StepWOutIdeal.nD Cert.StepWOutIdeal.τ).loc Cert.StepWOutIdeal.main_arg2)) (m ((c.tc : Thread Cert.StepWOutIdeal.nD Cert.StepWOutIdeal.τ).loc Cert.StepWOutIdeal.main_arg3)),
    fun c => Cert.StepWOutRefIdeal.Lines.MEAN (m ((c.tc : Thread Cert.StepWOutIdeal.nD Cert.StepWOutIdeal.τ).loc Cert.StepWOutIdeal.main_arg0)) (m ((c.tc : Thread Cert.StepWOutIdeal.nD Cert.StepWOutIdeal.τ).loc Cert.StepWOutIdeal.main_arg1)) (m ((c.tc : Thread Cert.StepWOutIdeal.nD Cert.StepWOutIdeal.τ).loc Cert.StepWOutIdeal.main_arg2)) (m ((c.tc : Thread Cert.StepWOutIdeal.nD Cert.StepWOutIdeal.τ).loc Cert.StepWOutIdeal.main_arg3)),
    fun c => Cert.StepWOutRefIdeal.Lines.SQUARE (m ((c.tc : Thread Cert.StepWOutIdeal.nD Cert.StepWOutIdeal.τ).loc Cert.StepWOutIdeal.main_arg0)) (m ((c.tc : Thread Cert.StepWOutIdeal.nD Cert.StepWOutIdeal.τ).loc Cert.StepWOutIdeal.main_arg1)) (m ((c.tc : Thread Cert.StepWOutIdeal.nD Cert.StepWOutIdeal.τ).loc Cert.StepWOutIdeal.main_arg2)) (m ((c.tc : Thread Cert.StepWOutIdeal.nD Cert.StepWOutIdeal.τ).loc Cert.StepWOutIdeal.main_arg3)), ?_, ?_⟩
  · exact Cert.StepWOutIdeal.Update.run m ρ
  · refine (θ_run Cert.StepWOutRefIdeal.defs _ _).mono (fun r h c => ?_) (Cert.StepWOutRefIdeal.Value.run (F := Ideal) m' ρ')
    replace h := h c
    obtain ⟨h0, h1, h2, hr⟩ := h
    obtain ⟨a0, a1, a2, a3⟩ := hag c
    refine ⟨h0.trans ?_, h1.trans ?_, h2.trans ?_, hr⟩ <;> clear h0 h1 h2 hr <;> simp only [a0, a1, a2, a3] <;> rfl

end Cert.Proof.StepWOutClaims

end
-- ==== Proof.MixLines.lean ====
/-
  The gradients of the convolution's weights and of the retention norm's gain: the reference's lines, one name for each.
-/
module

public import proofs.«01_k».proof.Proof.Gen.MixRefIdeal.Run
public import Idealize.ShloMosaic.Lib.Pipeline.ValueKit

@[expose] public section

set_option maxRecDepth 16384

noncomputable section

open Idealize.ShloMosaic Idealize.ShloMosaic.TcCoe Idealize.SL.Sem

namespace Cert.MixRefIdeal.Lines

open Cert.MixRefIdeal Cert.MixRefIdeal.Gen

variable (P : FVec Ideal S8704x4096 .bf16) (D : FVec Ideal S8192x1024 .bf16) (ST : FVec Ideal S68x4x128x128 .bf16)

/-- The projection's rows as numbers. -/
def FP : FVec Ideal S8704x4096 .f32 :=
  extf .f32 P bitsLt_bf16_f32
/-- The rows, the meta tokens first. -/
def TR : FVec Ideal S8208x4096 .f32 :=
  concatenate S8208x4096 0 [⟨S16x4096, (extractStridedSlice S16x4096 ![8688, 0] (FP P) slices_S8704x4096_S16x4096_8688_0)⟩, ⟨S8192x4096, (extractStridedSlice S8192x4096 ![0, 0] (FP P) slices_S8704x4096_S8192x4096_0_0)⟩] concatenates_S16x4096_S8192x4096_S8208x4096_d0
/-- The convolution's gate. -/
def CG : FVec Ideal S8208x512 .f32 :=
  extractStridedSlice S8208x512 ![0, 1536] (TR P) slices_S8208x4096_S8208x512_0_1536
/-- The mixed rows' derivative as numbers. -/
def DM : FVec Ideal S8192x1024 .f32 :=
  extf .f32 D bitsLt_bf16_f32
/-- The convolution's input. -/
def UC : FVec Ideal S8208x512 .f32 :=
  mulf (extractStridedSlice S8208x512 ![0, 1024] (TR P) slices_S8208x4096_S8208x512_0_1024) (extractStridedSlice S8208x512 ![0, 0] (TR P) slices_S8208x4096_S8208x512_0_0)
/-- The derivative by the convolution's output, two rows of zeros after it. -/
def DCP : FVec Ideal S8210x512 .f32 :=
  concatenate S8210x512 0 [⟨S8208x512, (mulf (mulf (concatenate S8208x512 0 [⟨S16x512, (broadcastInDim S16x512 ![] bcast_S_S16x512 (constant S_ .f32 0x00000000#32))⟩, ⟨S8192x512, (extractStridedSlice S8192x512 ![0, 0] (DM D) slices_S8192x1024_S8192x512_0_0)⟩] concatenates_S16x512_S8192x512_S8208x512_d0) (extractStridedSlice S8208x512 ![0, 512] (TR P) slices_S8208x4096_S8208x512_0_512)) (mulf (CG P) (Host.divf (broadcastInDim S8208x512 ![] bcast_S_S8208x512 (constant S_ .f32 0x3F800000#32)) (addf (broadcastInDim S8208x512 ![] bcast_S_S8208x512 (constant S_ .f32 0x3F800000#32)) (Host.exp (Host.negf (CG P)))))))⟩, ⟨S2x512, (broadcastInDim S2x512 ![] bcast_S_S2x512 (constant S_ .f32 0x00000000#32))⟩] concatenates_S8208x512_S2x512_S8210x512_d0
/-- The derivative by the convolution's weights. -/
def GCW : FVec Ideal S8x512 .f32 :=
  concatenate S8x512 0 [⟨S1x512, (broadcastInDim S1x512 ![1] bcast_S512_S1x512_1 (Host.reduceAdd (mulf (UC P) (extractStridedSlice S8208x512 ![2, 0] (DCP P D) slices_S8210x512_S8208x512_2_0)) (constant S_ .f32 0x00000000#32) reducesTo_S8208x512_S512_d0 h_S_))⟩, ⟨S1x512, (broadcastInDim S1x512 ![1] bcast_S512_S1x512_1 (Host.reduceAdd (mulf (UC P) (extractStridedSlice S8208x512 ![1, 0] (DCP P D) slices_S8210x512_S8208x512_1_0)) (constant S_ .f32 0x00000000#32) reducesTo_S8208x512_S512_d0 h_S_))⟩, ⟨S1x512, (broadcastInDim S1x512 ![1] bcast_S512_S1x512_1 (Host.reduceAdd (mulf (UC P) (extractStridedSlice S8208x512 ![0, 0] (DCP P D) slices_S8210x512_S8208x512_0_0)) (constant S_ .f32 0x00000000#32) reducesTo_S8208x512_S512_d0 h_S_))⟩, ⟨S5x512, (broadcastInDim S5x512 ![] bcast_S_S5x512 (constant S_ .f32 0x00000000#32))⟩] concatenates_S1x512_S1x512_S1x512_S5x512_S8x512_d0
/-- The rotary angles of the sequence. -/
def ANG : FVec Ideal S64x128x1x64 .f32 :=
  shapeCast S64x128x1x64 (mulf (broadcastInDim S8192x64 ![0, 1] bcast_S8192x1_S8192x64_0_1 (broadcastInDim S8192x1 ![0] bcast_S8192_S8192x1_0 (sitofp .f32 (addi (iotaInDim S8192 32 0) (broadcastInDim S8192 ![] bcast_S_S8192 (constantI S_ 32 16#32)))))) (broadcastInDim S8192x64 ![0, 1] bcast_S1x64_S8192x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (sitofp .f32 (iotaInDim S64 32 0)) (broadcastInDim S64 ![] bcast_S_S64 (constant S_ .f32 0x42800000#32)))))))) shapeCasts_S8192x64_S64x128x1x64
/-- Their cosines. -/
def COS : FVec Ideal S64x128x1x64 .f32 :=
  Host.cos ANG
/-- Their sines. -/
def SIN : FVec Ideal S64x128x1x64 .f32 :=
  Host.sin ANG
/-- The queries by chunk and head. -/
def Q4 : FVec Ideal S64x128x4x128 .f32 :=
  shapeCast S64x128x4x128 (extractStridedSlice S8192x512 ![16, 0] (extractStridedSlice S8208x512 ![0, 2048] (TR P) slices_S8208x4096_S8208x512_0_2048) slices_S8208x512_S8192x512_16_0) shapeCasts_S8192x512_S64x128x4x128
/-- The queries' first halves. -/
def Q1 : FVec Ideal S64x128x4x64 .f32 :=
  extractStridedSlice S64x128x4x64 ![0, 0, 0, 0] (Q4 P) slices_S64x128x4x128_S64x128x4x64_0_0_0_0
/-- The queries' second halves. -/
def Q2 : FVec Ideal S64x128x4x64 .f32 :=
  extractStridedSlice S64x128x4x64 ![0, 0, 0, 64] (Q4 P) slices_S64x128x4x128_S64x128x4x64_0_0_0_64
/-- The turned queries, scaled. -/
def QF : FVec Ideal S64x128x4x128 .f32 :=
  mulf (concatenate S64x128x4x128 3 [⟨S64x128x4x64, (subf (mulf (Q1 P) (broadcastInDim S64x128x4x64 ![0, 1, 2, 3] bcast_S64x128x1x64_S64x128x4x64_0_1_2_3 COS)) (mulf (Q2 P) (broadcastInDim S64x128x4x64 ![0, 1, 2, 3] bcast_S64x128x1x64_S64x128x4x64_0_1_2_3 SIN)))⟩, ⟨S64x128x4x64, (addf (mulf (Q1 P) (broadcastInDim S64x128x4x64 ![0, 1, 2, 3] bcast_S64x128x1x64_S64x128x4x64_0_1_2_3 SIN)) (mulf (Q2 P) (broadcastInDim S64x128x4x64 ![0, 1, 2, 3] bcast_S64x128x1x64_S64x128x4x64_0_1_2_3 COS)))⟩] concatenates_S64x128x4x64_S64x128x4x64_S64x128x4x128_d3) (broadcastInDim S64x128x4x128 ![] bcast_S_S64x128x4x128 (constant S_ .f32 0x3DB504F3#32))
/-- The keys by chunk and head. -/
def K4 : FVec Ideal S64x128x4x128 .f32 :=
  shapeCast S64x128x4x128 (extractStridedSlice S8192x512 ![16, 0] (extractStridedSlice S8208x512 ![0, 2560] (TR P) slices_S8208x4096_S8208x512_0_2560) slices_S8208x512_S8192x512_16_0) shapeCasts_S8192x512_S64x128x4x128
/-- The keys' first halves. -/
def K1 : FVec Ideal S64x128x4x64 .f32 :=
  extractStridedSlice S64x128x4x64 ![0, 0, 0, 0] (K4 P) slices_S64x128x4x128_S64x128x4x64_0_0_0_0
/-- The keys' second halves. -/
def K2 : FVec Ideal S64x128x4x64 .f32 :=
  extractStridedSlice S64x128x4x64 ![0, 0, 0, 64] (K4 P) slices_S64x128x4x128_S64x128x4x64_0_0_0_64
/-- The turned keys. -/
def KF : FVec Ideal S64x128x4x128 .f32 :=
  concatenate S64x128x4x128 3 [⟨S64x128x4x64, (subf (mulf (K1 P) (broadcastInDim S64x128x4x64 ![0, 1, 2, 3] bcast_S64x128x1x64_S64x128x4x64_0_1_2_3 COS)) (mulf (K2 P) (broadcastInDim S64x128x4x64 ![0, 1, 2, 3] bcast_S64x128x1x64_S64x128x4x64_0_1_2_3 SIN)))⟩, ⟨S64x128x4x64, (addf (mulf (K1 P) (broadcastInDim S64x128x4x64 ![0, 1, 2, 3] bcast_S64x128x1x64_S64x128x4x64_0_1_2_3 SIN)) (mulf (K2 P) (broadcastInDim S64x128x4x64 ![0, 1, 2, 3] bcast_S64x128x1x64_S64x128x4x64_0_1_2_3 COS)))⟩] concatenates_S64x128x4x64_S64x128x4x64_S64x128x4x128_d3
/-- The values by chunk and head. -/
def V4 : FVec Ideal S64x128x4x128 .f32 :=
  shapeCast S64x128x4x128 (extractStridedSlice S8192x512 ![16, 0] (extractStridedSlice S8208x512 ![0, 3072] (TR P) slices_S8208x4096_S8208x512_0_3072) slices_S8208x512_S8192x512_16_0) shapeCasts_S8192x512_S64x128x4x128
/-- The heads' decay exponents. -/
def LOGG : FVec Ideal S4 .f32 :=
  Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))
/-- The positions in a chunk. -/
def POS : FVec Ideal S128 .f32 :=
  sitofp .f32 (iotaInDim S128 32 0)
/-- The distance from one position to another. -/
def DIFF : FVec Ideal S128x128 .f32 :=
  subf (broadcastInDim S128x128 ![0, 1] bcast_S128x1_S128x128_0_1 (broadcastInDim S128x1 ![0] bcast_S128_S128x1_0 POS)) (broadcastInDim S128x128 ![0, 1] bcast_S1x128_S128x128_0_1 (broadcastInDim S1x128 ![1] bcast_S128_S1x128_1 POS))
/-- The decay within a chunk. -/
def DEC : FVec Ideal S4x128x128 .f32 :=
  select (broadcastInDim S4x128x128 ![0, 1, 2] bcast_S1x128x128_S4x128x128_0_1_2 (cmpf .oge (broadcastInDim S1x128x128 ![1, 2] bcast_S128x128_S1x128x128_1_2 DIFF) (broadcastInDim S1x128x128 ![] bcast_S_S1x128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 DIFF)) (broadcastInDim S4x128x128 ![0, 1, 2] bcast_S4x1x1_S4x128x128_0_1_2 (broadcastInDim S4x1x1 ![0] bcast_S4_S4x1x1_0 LOGG)))) (broadcastInDim S4x128x128 ![] bcast_S_S4x128x128 (id (constant S_ .f32 0x00000000#32)))
/-- The decay since the chunk before. -/
def XI : FVec Ideal S4x128 .f32 :=
  Host.exp (mulf (broadcastInDim S4x128 ![0, 1] bcast_S1x128_S4x128_0_1 (broadcastInDim S1x128 ![1] bcast_S128_S1x128_1 (addf POS (broadcastInDim S128 ![] bcast_S_S128 (constant S_ .f32 0x3F800000#32))))) (broadcastInDim S4x128 ![0, 1] bcast_S4x1_S4x128_0_1 (broadcastInDim S4x1 ![0] bcast_S4_S4x1_0 LOGG)))
/-- The decayed scores. -/
def SC : FVec Ideal S64x4x128x128 .f32 :=
  mulf (Host.dotGeneral dot_S64x128x4x128_S64x128x4x128_S64x4x128x128_3_3_1_1_02_02 none (QF P) (KF P)) (broadcastInDim S64x4x128x128 ![0, 1, 2, 3] bcast_S1x4x128x128_S64x4x128x128_0_1_2_3 (broadcastInDim S1x4x128x128 ![1, 2, 3] bcast_S4x128x128_S1x4x128x128_1_2_3 DEC))
/-- The states before the chunks of the sequence. -/
def ST64 : FVec Ideal S64x4x128x128 .f32 :=
  extf .f32 (extractStridedSlice S64x4x128x128 ![0, 0, 0, 0] ST slices_S68x4x128x128_S64x4x128x128_0_0_0_0) bitsLt_bf16_f32
/-- The retention's outputs. -/
def OO : FVec Ideal S64x4x128x128 .f32 :=
  addf (Host.dotGeneral dot_S64x4x128x128_S64x128x4x128_S64x4x128x128_3_1_2_3_01_02 none (SC P) (V4 P)) (Host.dotGeneral dot_S64x128x4x128_S64x4x128x128_S64x4x128x128_3_2_1_3_02_01 none (mulf (QF P) (broadcastInDim S64x128x4x128 ![0, 1, 2, 3] bcast_S1x128x4x1_S64x128x4x128_0_1_2_3 (broadcastInDim S1x128x4x1 ![1, 2] bcast_S128x4_S1x128x4x1_1_2 (transpose S128x4 [1, 0] XI transposes_S4x128_S128x4_1_0)))) (ST64 ST))
/-- The outputs less their mean. -/
def DV : FVec Ideal S64x4x128x128 .f32 :=
  subf (OO P ST) (broadcastInDim S64x4x128x128 ![0, 1, 2, 3] bcast_S64x4x128x1_S64x4x128x128_0_1_2_3 (Host.divf (broadcastInDim S64x4x128x1 ![0, 1, 2] bcast_S64x4x128_S64x4x128x1_0_1_2 (Host.reduceAdd (OO P ST) (constant S_ .f32 0x00000000#32) reducesTo_S64x4x128x128_S64x4x128_d3 h_S_)) (broadcastInDim S64x4x128x1 ![] bcast_S_S64x4x128x1 (constant S_ .f32 0x43000000#32))))
/-- The outputs normalised. -/
def YH : FVec Ideal S64x4x128x128 .f32 :=
  mulf (DV P ST) (broadcastInDim S64x4x128x128 ![0, 1, 2, 3] bcast_S64x4x128x1_S64x4x128x128_0_1_2_3 (Host.rsqrt (addf (Host.divf (broadcastInDim S64x4x128x1 ![0, 1, 2] bcast_S64x4x128_S64x4x128x1_0_1_2 (Host.reduceAdd (mulf (DV P ST) (DV P ST)) (constant S_ .f32 0x00000000#32) reducesTo_S64x4x128x128_S64x4x128_d3 h_S_)) (broadcastInDim S64x4x128x1 ![] bcast_S_S64x4x128x1 (constant S_ .f32 0x43000000#32))) (broadcastInDim S64x4x128x1 ![] bcast_S_S64x4x128x1 (constant S_ .f32 0x358637BD#32)))))
/-- The retention's gate. -/
def RG : FVec Ideal S8192x512 .f32 :=
  extractStridedSlice S8192x512 ![16, 0] (extractStridedSlice S8208x512 ![0, 3584] (TR P) slices_S8208x4096_S8208x512_0_3584) slices_S8208x512_S8192x512_16_0
/-- The derivative by the normalised outputs times the gain. -/
def DRET : FVec Ideal S8192x512 .f32 :=
  mulf (extractStridedSlice S8192x512 ![0, 512] (DM D) slices_S8192x1024_S8192x512_0_512) (mulf (RG P) (Host.divf (broadcastInDim S8192x512 ![] bcast_S_S8192x512 (constant S_ .f32 0x3F800000#32)) (addf (broadcastInDim S8192x512 ![] bcast_S_S8192x512 (constant S_ .f32 0x3F800000#32)) (Host.exp (Host.negf (RG P))))))
/-- The derivative by the retention norm's gain. -/
def GRET : FVec Ideal S1x512 .f32 :=
  broadcastInDim S1x512 ![1] bcast_S512_S1x512_1 (Host.reduceAdd (mulf (DRET P D) (shapeCast S8192x512 (transpose S64x128x4x128 [0, 2, 1, 3] (YH P ST) transposes_S64x4x128x128_S64x128x4x128_0_2_1_3) shapeCasts_S64x128x4x128_S8192x512)) (constant S_ .f32 0x00000000#32) reducesTo_S8192x512_S512_d0 h_S_)

end Cert.MixRefIdeal.Lines

end
-- ==== Proof.MixConv.lean ====
/-
  The gradient of the convolution's weights, and what the proofs of both gradients say of the kernel's tiles: the kernel
  goes through 16 tiles of 512 rows of the sequence from the last to the first, and then through a tile that holds 496 rows
  of padding and the 16 meta tokens.
-/
module

public import proofs.«01_k».proof.Proof.MixLines
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

variable (m : (ℓ : Loc nD τ sig) → Buf (Elt Ideal) ℓ)

theorem N_17 : cfg0.N = 17 := N_0

/-- The windows' block indices: the tiles are visited last to first, the meta tokens' tile at the end. -/
theorem idx : ∀ t : Fin cfg0.N, win0_0.index t = ![if t.val = 16 then 16 else 15 - t.val, 0] ∧ win0_1.index t = ![15 - t.val + (if t.val = 16 then 15 else 0), 0]
    ∧ win0_3.index t = ![if t.val = 16 then 16 else 15 - t.val, 0, 0, 0] ∧ win0_6.index t = ![if t.val = 16 then 16 else 15 - t.val, 0]
    ∧ win0_7.index t = ![if t.val = 16 then 16 else 15 - t.val, 0] ∧ win0_8.index t = ![0, 0, 0] ∧ win0_10.index t = ![0, 0, 0]
    ∧ win0_14.index t = ![0, 0] ∧ win0_15.index t = ![0, 0] ∧ t.val < 17 := (by decide +kernel : ∀ t : Fin grid0.N, _)

/-- The projection, the mixed rows' derivative and the states, as given. -/
abbrev P (c : Dev nD) : FVec Ideal S8704x4096 .bf16 := m ((c : Thread nD τ).loc main_arg0)
abbrev D (c : Dev nD) : FVec Ideal S8192x1024 .bf16 := m ((c : Thread nD τ).loc main_arg1)
abbrev ST (c : Dev nD) : FVec Ideal S68x4x128x128 .bf16 := m ((c : Thread nD τ).loc main_arg3)

/-- The last point. -/
abbrev last : Fin cfg0.N := ⟨16, by decide⟩

theorem lt17 (t : Fin cfg0.N) : t.val < 17 := Nat.lt_of_lt_of_eq t.isLt N_0

/-- The factor that leaves the meta tokens' tile out of the loss is zero there and one elsewhere. -/
theorem live0 (t : Fin cfg0.N) (h : t.val = 16) : k0_pay2 (F := Ideal) (grid0.coords t) = (0 : EReal) := by
  have e0 : (grid0.coords t 0).val = t.val / 1 % 17 := Pipeline.Grid.coords_val t 0 (by decide) rfl
  have e : Scalar.cmpi .eq (BitVec.ofNat 32 (grid0.coords t 0).val) 16#32 = 1#1 := by
    simp only [e0]
    word_cmp
  simp only [k0_pay2]
  rw [e]
  pointwise []
theorem live1 (t : Fin cfg0.N) (h : ¬t.val = 16) : k0_pay2 (F := Ideal) (grid0.coords t) = (1 : EReal) := by
  have e0 : (grid0.coords t 0).val = t.val / 1 % 17 := Pipeline.Grid.coords_val t 0 (by decide) rfl
  have ht := lt17 t
  have e : Scalar.cmpi .eq (BitVec.ofNat 32 (grid0.coords t 0).val) 16#32 = 0#1 := by
    simp only [e0]
    word_cmp
  simp only [k0_pay2]
  rw [e]
  pointwise []

/-- Row `i` less one row further, the rows after the tile's last taken from the tile after. -/
theorem rot1 (a b d : FVec Ideal S512x512 .f32) (n0 : FVec Ideal S1x512 .f32) (i j : Fin 512) :
    k0_pay20 a b d n0 (ix2 i j) = if h : i.val = 511 then n0 (ix2 (0 : Fin 1) j) else k0_pay19 a b d (ix2 (⟨i.val + 1, by omega⟩ : Fin 512) j) := by
  pointwise [k0_pay20]
  by_cases h : i.val = 511
  · rw [dif_pos h, show IntOp.cmpi CmpIPredicate.eq (BitVec.ofNat 32 i.val) 511#32 = 1#1 by word_cmp, WordCmp.select_one]
  · rw [dif_neg h, show IntOp.cmpi CmpIPredicate.eq (BitVec.ofNat 32 i.val) 511#32 = 0#1 by word_cmp, WordCmp.select_zero]
    exact congrArg (fun R : Fin 512 => k0_pay19 a b d (ix2 R j)) (Fin.ext (by dsimp only; omega))

/-- The same two rows further. -/
theorem rot2 (a b d : FVec Ideal S512x512 .f32) (n0 n1 : FVec Ideal S1x512 .f32) (i j : Fin 512) :
    k0_pay21 a b d n0 n1 (ix2 i j) = if h : i.val < 510 then k0_pay19 a b d (ix2 (⟨i.val + 2, by omega⟩ : Fin 512) j)
      else if i.val = 510 then n0 (ix2 (0 : Fin 1) j) else n1 (ix2 (0 : Fin 1) j) := by
  pointwise [k0_pay21]
  by_cases h : i.val < 510
  · rw [dif_pos h, show IntOp.cmpi CmpIPredicate.eq (BitVec.ofNat 32 i.val) 510#32 = 0#1 by word_cmp, WordCmp.select_zero,
      show IntOp.cmpi CmpIPredicate.eq (BitVec.ofNat 32 i.val) 511#32 = 0#1 by word_cmp, WordCmp.select_zero]
    exact congrArg (fun R : Fin 512 => k0_pay19 a b d (ix2 R j)) (Fin.ext (by dsimp only; omega))
  · rw [dif_neg h]
    by_cases h' : i.val = 510
    · rw [if_pos h', show IntOp.cmpi CmpIPredicate.eq (BitVec.ofNat 32 i.val) 510#32 = 1#1 by word_cmp, WordCmp.select_one]
    · have hi := i.isLt
      rw [if_neg h', show IntOp.cmpi CmpIPredicate.eq (BitVec.ofNat 32 i.val) 510#32 = 0#1 by word_cmp, WordCmp.select_zero,
        show IntOp.cmpi CmpIPredicate.eq (BitVec.ofNat 32 i.val) 511#32 = 1#1 by word_cmp, WordCmp.select_one]

/-- One of the reference's rows of the projection, as the tile has it. -/
theorem p_row (c : Dev nD) (t : Fin cfg0.N) (i : Fin 512) (hv : 496 ≤ 512 * (16 - t.val) + i.val) (k : Fin 4096) :
    (iblk m c 0 t : FVec Ideal S512x4096 .bf16) (ix2 i k) = TR (P m c) (ix2 (⟨512 * (16 - t.val) + i.val - 496, by omega⟩ : Fin 8208) k) := by
  have ht := lt17 t
  by_cases h0 : t.val = 16
  · pointwise [TR, FP]
    rw [dif_pos (show 512 * (16 - t.val) + i.val - 496 < 16 by omega)]
    blk_point [iblk, V, idx t, h0]
    rw [if_pos trivial]; omega
  · pointwise [TR, FP]
    rw [dif_neg (show ¬512 * (16 - t.val) + i.val - 496 < 16 by omega)]
    blk_point [iblk, V, idx t, h0]
    rw [if_neg not_false]; omega

/-- A row of the sequence in the mixed rows' derivative, as the tile has it. -/
theorem d_row (c : Dev nD) (t : Fin cfg0.N) (h0 : ¬t.val = 16) (i : Fin 512) (k : Fin 1024) :
    (iblk m c 1 t : FVec Ideal S512x1024 .bf16) (ix2 i k) = D m c (ix2 (⟨512 * (15 - t.val) + i.val, by omega⟩ : Fin 8192) k) := by
  have ht := lt17 t
  blk_point [iblk, V, idx t, h0]
  rw [if_neg not_false]; omega

/-- The tile's derivative by the convolution's output. -/
def dcT (c : Dev nD) (t : Fin cfg0.N) : FVec Ideal S512x512 .f32 :=
  k0_pay19 (k0_pay8 (View.ld (iblk m c 0 t) (Rect.unit ![0, 512] ![512, 512] inb_S512x4096_S512x512_0_512)))
    (k0_pay11 (grid0.coords t) (View.ld (iblk m c 1 t) (Rect.unit ![0, 0] ![512, 512] inb_S512x1024_S512x512_0_0)))
    (k0_pay13 (View.ld (iblk m c 0 t) (Rect.unit ![0, 1536] ![512, 512] inb_S512x4096_S512x512_0_1536)))
/-- The tile's input of the convolution. -/
def uT (c : Dev nD) (t : Fin cfg0.N) : FVec Ideal S512x512 .f32 :=
  k0_pay26 (k0_pay7 (View.ld (iblk m c 0 t) (Rect.unit ![0, 0] ![512, 512] inb_S512x4096_S512x512_0_0)))
    (k0_pay9 (View.ld (iblk m c 0 t) (Rect.unit ![0, 1024] ![512, 512] inb_S512x4096_S512x512_0_1024)))

/-- The reference's derivative by the convolution's output at row `v`, counted from 496 rows before its first. -/
def gv (c : Dev nD) (j : Fin 512) (v : ℕ) : EReal :=
  if h : 496 ≤ v ∧ v - 496 < 8210 then DCP (P m c) (D m c) (ix2 (⟨v - 496, h.2⟩ : Fin 8210) j) else 0

/-- The meta tokens' rows of it are zero, and the rows of padding. -/
theorem gv_meta (c : Dev nD) (j : Fin 512) (v : ℕ) (hv : v < 512) : gv m c j v = 0 := by
  rw [gv]
  split
  · rename_i h
    pointwise [DCP]
    rw [dif_pos (show v - 496 < 8208 by omega), dif_pos (show v - 496 < 16 by omega)]
    simp only [zero_mul]
  · rfl
theorem gv_end (c : Dev nD) (j : Fin 512) (v : ℕ) (hv : 8704 ≤ v) : gv m c j v = 0 := by
  rw [gv]
  split
  · rename_i h
    pointwise [DCP]
    rw [dif_neg (show ¬v - 496 < 8208 by omega)]
  · rfl

/-- The tile's derivative by the convolution's output is the reference's at the same rows. -/
theorem dc_row (c : Dev nD) (t : Fin cfg0.N) (i j : Fin 512) : dcT m c t (ix2 i j) = gv m c j (512 * (16 - t.val) + i.val) := by
  have ht := lt17 t
  by_cases h0 : t.val = 16
  · rw [gv_meta m c j _ (by omega)]
    pointwise [dcT, k0_pay19, k0_pay8, k0_pay11, k0_pay13, k0_pay10, k0_pay12]
    simp only [live0 t h0, mul_zero, zero_mul]
  · rw [gv, dif_pos ⟨by omega, by omega⟩]
    pointwise [dcT, k0_pay19, k0_pay8, k0_pay11, k0_pay13, k0_pay10, k0_pay12, DCP, CG, DM]
    rw [dif_pos (show 512 * (16 - t.val) + i.val - 496 < 8208 by omega), dif_neg (show ¬512 * (16 - t.val) + i.val - 496 < 16 by omega)]
    simp only [live1 t h0, mul_one, p_row m c t i (by omega), d_row m c t h0]
    have e : 512 * (16 - t.val) + i.val - 496 - 16 = 512 * (15 - t.val) + i.val := by omega
    simp only [e, sub_eq_add_neg, zero_add]

/-- The first rows of the tile's derivative, kept for the tile before. -/
theorem halo_row (c : Dev nD) (t : Fin cfg0.N) (r : Fin 8) (j : Fin 512) :
    (outsAt0 m c t.val t.isLt).2.2.2.2 (ix2 r j) = gv m c j (512 * (16 - t.val) + r.val) := by
  have e : (k0_pay22 (k0_pay8 (View.ld (iblk m c 0 t) (Rect.unit ![0, 512] ![512, 512] inb_S512x4096_S512x512_0_512)))
      (k0_pay11 (grid0.coords t) (View.ld (iblk m c 1 t) (Rect.unit ![0, 0] ![512, 512] inb_S512x1024_S512x512_0_0)))
      (k0_pay13 (View.ld (iblk m c 0 t) (Rect.unit ![0, 1536] ![512, 512] inb_S512x4096_S512x512_0_1536))) : FVec Ideal S8x512 .f32) (ix2 r j)
      = gv m c j (512 * (16 - t.val) + r.val) := by
    refine Eq.trans ?_ (dc_row m c t (⟨r.val, by omega⟩ : Fin 512) j)
    pointwise [k0_pay22, dcT]
  by_cases h0 : t.val % 17 = 0
  · rw [outsAt0_A m c t h0]
    frame_out
    exact e
  · rw [outsAt0_B m c t h0]
    frame_out
    exact e

/-- The part of the sum for tap `k` that the reference's row `v`, counted from 496 rows before its first, gives. -/
def fk (c : Dev nD) (k : ℕ) (j : Fin 512) (v : ℕ) : EReal :=
  if h : 496 ≤ v ∧ v - 496 < 8208 ∧ k < 3 then UC (P m c) (ix2 (⟨v - 496, h.2.1⟩ : Fin 8208) j) * gv m c j (v + (2 - k)) else 0
/-- What a tile adds to it. -/
def part14 (c : Dev nD) (t : Fin cfg0.N) (j : S8x512.Idx) : EReal :=
  ∑ i : Fin 512, fk m c (j 0).val (j 1 : Fin 512) (512 * (16 - t.val) + i.val)

/-- A row's term, from the tile's input and the derivative `2 - k` rows further. -/
theorem fk_row (c : Dev nD) (t : Fin cfg0.N) (k : ℕ) (hk : k < 3) (i j : Fin 512) :
    uT m c t (ix2 i j) * gv m c j (512 * (16 - t.val) + i.val + (2 - k)) = fk m c k j (512 * (16 - t.val) + i.val) := by
  have ht := lt17 t
  by_cases hv : 496 ≤ 512 * (16 - t.val) + i.val
  · rw [fk, dif_pos ⟨hv, by omega, hk⟩]
    refine congrArg (· * _) ?_
    pointwise [uT, k0_pay26, k0_pay7, k0_pay9, UC]
    simp only [p_row m c t i hv]
  · rw [fk, dif_neg (by omega), gv_meta m c j _ (by omega), mul_zero]

/-- The three rows of the sums, each with the tile's part added. -/
theorem tap2 (c : Dev nD) (t : Fin cfg0.N) (old : FVec Ideal S1x512 .f32) (j : Fin 512) :
    (k0_pay27 (k0_pay7 (View.ld (iblk m c 0 t) (Rect.unit ![0, 0] ![512, 512] inb_S512x4096_S512x512_0_0)))
      (k0_pay9 (View.ld (iblk m c 0 t) (Rect.unit ![0, 1024] ![512, 512] inb_S512x4096_S512x512_0_1024))) (dcT m c t) old : FVec Ideal S1x512 .f32) (ix2 (0 : Fin 1) j)
      = old (ix2 (0 : Fin 1) j) + part14 m c t (ix2 (2 : Fin 8) j) := by
  pointwise [k0_pay27, part14]
  refine congrArg (old (ix2 (0 : Fin 1) j) + ·) (Finset.sum_congr rfl fun i _ => ?_)
  rw [dc_row]
  exact fk_row m c t 2 (by omega) i j

theorem tap1 (c : Dev nD) (t : Fin cfg0.N) (n0 old : FVec Ideal S1x512 .f32) (j : Fin 512) (h0 : n0 (ix2 (0 : Fin 1) j) = gv m c j (512 * (16 - t.val) + 512)) :
    (k0_pay28 (k0_pay7 (View.ld (iblk m c 0 t) (Rect.unit ![0, 0] ![512, 512] inb_S512x4096_S512x512_0_0)))
      (k0_pay9 (View.ld (iblk m c 0 t) (Rect.unit ![0, 1024] ![512, 512] inb_S512x4096_S512x512_0_1024)))
      (k0_pay20 (k0_pay8 (View.ld (iblk m c 0 t) (Rect.unit ![0, 512] ![512, 512] inb_S512x4096_S512x512_0_512)))
        (k0_pay11 (grid0.coords t) (View.ld (iblk m c 1 t) (Rect.unit ![0, 0] ![512, 512] inb_S512x1024_S512x512_0_0)))
        (k0_pay13 (View.ld (iblk m c 0 t) (Rect.unit ![0, 1536] ![512, 512] inb_S512x4096_S512x512_0_1536))) n0) old : FVec Ideal S1x512 .f32) (ix2 (0 : Fin 1) j)
      = old (ix2 (0 : Fin 1) j) + part14 m c t (ix2 (1 : Fin 8) j) := by
  pointwise [k0_pay28, part14]
  refine congrArg (old (ix2 (0 : Fin 1) j) + ·) (Finset.sum_congr rfl fun i _ => ?_)
  refine Eq.trans (congrArg (uT m c t (ix2 i j) * ·) ?_) (fk_row m c t 1 (by omega) i j)
  rw [rot1]
  split
  · rename_i h
    rw [h0, h]
  · exact (dc_row m c t _ j).trans (congrArg (gv m c j) (by dsimp only; omega))

theorem tap0 (c : Dev nD) (t : Fin cfg0.N) (n0 n1 old : FVec Ideal S1x512 .f32) (j : Fin 512) (h0 : n0 (ix2 (0 : Fin 1) j) = gv m c j (512 * (16 - t.val) + 512))
    (h1 : n1 (ix2 (0 : Fin 1) j) = gv m c j (512 * (16 - t.val) + 513)) :
    (k0_pay29 (k0_pay7 (View.ld (iblk m c 0 t) (Rect.unit ![0, 0] ![512, 512] inb_S512x4096_S512x512_0_0)))
      (k0_pay9 (View.ld (iblk m c 0 t) (Rect.unit ![0, 1024] ![512, 512] inb_S512x4096_S512x512_0_1024)))
      (k0_pay21 (k0_pay8 (View.ld (iblk m c 0 t) (Rect.unit ![0, 512] ![512, 512] inb_S512x4096_S512x512_0_512)))
        (k0_pay11 (grid0.coords t) (View.ld (iblk m c 1 t) (Rect.unit ![0, 0] ![512, 512] inb_S512x1024_S512x512_0_0)))
        (k0_pay13 (View.ld (iblk m c 0 t) (Rect.unit ![0, 1536] ![512, 512] inb_S512x4096_S512x512_0_1536))) n0 n1) old : FVec Ideal S1x512 .f32) (ix2 (0 : Fin 1) j)
      = old (ix2 (0 : Fin 1) j) + part14 m c t (ix2 (0 : Fin 8) j) := by
  pointwise [k0_pay29, part14]
  refine congrArg (old (ix2 (0 : Fin 1) j) + ·) (Finset.sum_congr rfl fun i _ => ?_)
  refine Eq.trans (congrArg (uT m c t (ix2 i j) * ·) ?_) (fk_row m c t 0 (by omega) i j)
  rw [rot2]
  split
  · exact (dc_row m c t _ j).trans (congrArg (gv m c j) (by dsimp only; omega))
  · split
    · exact h0.trans (congrArg (gv m c j) (by omega))
    · have hi := i.isLt
      exact h1.trans (congrArg (gv m c j) (by omega))

/-- The rows past the taps get nothing. -/
theorem tap_rest (c : Dev nD) (t : Fin cfg0.N) (j : S8x512.Idx) (h : 3 ≤ (j 0).val) : part14 m c t j = (0 : EReal) :=
  Finset.sum_eq_zero fun i _ => dif_neg fun h' => by omega

end Cert.MixIdeal.Tile
-- ==== Proof.MixTaps.lean ====
/-
  The gradient of the convolution's weights, over the grid: each point adds its tile's rows of the sum to the rows kept in
  VMEM, the first point starts them at zero, and after the last they are the reference's sums over all rows.
-/
module

public import proofs.«01_k».proof.Proof.MixConv
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

variable (m : (ℓ : Loc nD τ sig) → Buf (Elt Ideal) ℓ)

/-- A row's entry as a rectangle of one row has it. -/
theorem at_row (r : ℕ) (k : Fin 8) (hk : k.val = r) (j : Fin 512) : ∀ a : Fin 2, ((ix2 k j : S8x512.Idx) a).val = (![r, 0] : Fin 2 → ℕ) a + ((ix2 (0 : Fin 1) j : S1x512.Idx) a).val := by
  intro a
  match a with
  | 0 => exact hk.trans (Nat.add_zero _).symm
  | 1 => exact (Nat.zero_add _).symm

/-- Reading one row back. -/
theorem ld0 (X : FVec Ideal S8x512 .f32) (j : Fin 512) : (View.ld (Val := Elt Ideal) (e' := .f32) X (Rect.unit (s := S8x512) ![0, 0] ![1, 512] inb_S8x512_S1x512_0_0) : FVec Ideal S1x512 .f32) (ix2 (0 : Fin 1) j) = X (ix2 (0 : Fin 8) j) :=
  congrArg X (funext fun a => Fin.ext ((congrArg _ (Nat.one_mul _)).trans (at_row 0 0 rfl j a).symm))
theorem ld1 (X : FVec Ideal S8x512 .f32) (j : Fin 512) : (View.ld (Val := Elt Ideal) (e' := .f32) X (Rect.unit (s := S8x512) ![1, 0] ![1, 512] inb_S8x512_S1x512_1_0) : FVec Ideal S1x512 .f32) (ix2 (0 : Fin 1) j) = X (ix2 (1 : Fin 8) j) :=
  congrArg X (funext fun a => Fin.ext ((congrArg _ (Nat.one_mul _)).trans (at_row 1 1 rfl j a).symm))
theorem ld2 (X : FVec Ideal S8x512 .f32) (j : Fin 512) : (View.ld (Val := Elt Ideal) (e' := .f32) X (Rect.unit (s := S8x512) ![2, 0] ![1, 512] inb_S8x512_S1x512_2_0) : FVec Ideal S1x512 .f32) (ix2 (0 : Fin 1) j) = X (ix2 (2 : Fin 8) j) :=
  congrArg X (funext fun a => Fin.ext ((congrArg _ (Nat.one_mul _)).trans (at_row 2 2 rfl j a).symm))

/-- A point after the first adds its tile's part. -/
theorem step14 (c : Dev nD) (t : Fin cfg0.N) (h0 : ¬t.val % 17 = 0) (y : S8x512.Idx) :
    (outsAt0 m c t.val t.isLt).2.1 y = (outsAt0 m c (t.val - 1) (Nat.lt_of_le_of_lt (Nat.sub_le _ _) t.isLt)).2.1 y + part14 m c t y := by
  have ht := lt17 t
  obtain ⟨k, j, rfl⟩ : ∃ (k : Fin 8) (j : Fin 512), y = ix2 k j := ⟨y 0, y 1, by blk_ext⟩
  have hh : ∀ r : Fin 8, (outsAt0 m c (t.val - 1) (Nat.lt_of_le_of_lt (Nat.sub_le _ _) t.isLt)).2.2.2.2 (ix2 r j) = gv m c j (512 * (16 - t.val) + 512 + r.val) := fun r =>
    (halo_row m c ⟨t.val - 1, Nat.lt_of_le_of_lt (Nat.sub_le _ _) t.isLt⟩ r j).trans (congrArg (gv m c j) (by dsimp only; omega))
  rw [outsAt0_B m c t h0]
  frame_out
  simp only [read_unread_whole]
  by_cases k0 : k = 0
  · subst k0
    refine (View.read_writes_cons_unit_of_mem _ _ _ _ _ _ (ix2 (0 : Fin 1) j) rfl (at_row 0 0 rfl j)).trans ?_
    refine (tap0 m c t _ _ _ j ((ld0 _ j).trans (hh 0)) ((ld1 _ j).trans (hh 1))).trans ?_
    rw [ld0]
  by_cases k1 : k = 1
  · subst k1
    refine (View.read_writes_cons_unit_of_not_mem _ _ _ _ _ _ rfl 0 (.inr (by change 1 ≤ 1; omega))).trans ?_
    refine (View.read_writes_cons_unit_of_mem _ _ _ _ _ _ (ix2 (0 : Fin 1) j) rfl (at_row 1 1 rfl j)).trans ?_
    refine (tap1 m c t _ _ j ((ld0 _ j).trans (hh 0))).trans ?_
    rw [ld1]
  by_cases k2 : k = 2
  · subst k2
    refine (View.read_writes_cons_unit_of_not_mem _ _ _ _ _ _ rfl 0 (.inr (by change 1 ≤ 2; omega))).trans ?_
    refine (View.read_writes_cons_unit_of_not_mem _ _ _ _ _ _ rfl 0 (.inr (by change 2 ≤ 2; omega))).trans ?_
    refine (View.read_writes_cons_unit_of_mem _ _ _ _ _ _ (ix2 (0 : Fin 1) j) rfl (at_row 2 2 rfl j)).trans ?_
    refine (tap2 m c t _ j).trans ?_
    rw [ld2]
  have h3 : 3 ≤ k.val := by omega
  refine (View.read_writes_cons_unit_of_not_mem _ _ _ _ _ _ rfl 0 (.inr (by change 1 ≤ k.val; omega))).trans ?_
  refine (View.read_writes_cons_unit_of_not_mem _ _ _ _ _ _ rfl 0 (.inr (by change 2 ≤ k.val; omega))).trans ?_
  refine (View.read_writes_cons_unit_of_not_mem _ _ _ _ _ _ rfl 0 (.inr (by change 3 ≤ k.val; omega))).trans ?_
  rw [tap_rest m c t _ h3, add_zero]
  exact congrFun ((hs0_14 t).read_unread _) (ix2 k j)

/-- A stored row is read where it was stored, and what was stored before it elsewhere. -/
theorem canon_in (k : ℕ) (inb) (w) (L : List (View.Piece (Elt Ideal) S8x512 .f32)) (y : S8x512.Idx) (x : (Rect.unit ![k, 0] ![1, 512] inb : Rect S8x512).shape.Idx)
    (h : ∀ a : Fin 2, (y a).val = (![k, 0] : Fin 2 → ℕ) a + (x a).val) :
    View.canon ((⟨Rect.unit ![k, 0] ![1, 512] inb, w⟩ : View.Piece (Elt Ideal) S8x512 .f32) :: L) y = w x := by
  rw [show y = (Rect.unit ![k, 0] ![1, 512] inb : Rect S8x512).emb x from funext fun a => Fin.ext ((h a).trans (congrArg _ (Nat.one_mul _).symm))]
  exact View.canon_cons_emb _ w L x

theorem canon_out (k : ℕ) (inb) (w) (L : List (View.Piece (Elt Ideal) S8x512 .f32)) (y : S8x512.Idx) (h : (y 0).val < k ∨ k + 1 ≤ (y 0).val) :
    View.canon ((⟨Rect.unit ![k, 0] ![1, 512] inb, w⟩ : View.Piece (Elt Ideal) S8x512 .f32) :: L) y = View.canon L y := by
  refine View.canon_cons_of_not_mem _ _ fun hm => ?_
  have := (Rect.mem_set_unit (inb := inb) |>.mp hm) 0
  change k ≤ (y 0).val ∧ (y 0).val < k + 1 at this
  omega

set_option maxHeartbeats 1000000 in
/-- The first point leaves its tile's part. -/
theorem init14 (c : Dev nD) (t : Fin cfg0.N) (h0 : t.val % 17 = 0) (y : S8x512.Idx) :
    (outsAt0 m c t.val t.isLt).2.1 y = (0 : EReal) + part14 m c t y := by
  have ht := lt17 t
  have ht0 : t.val = 0 := by omega
  obtain ⟨k, j, rfl⟩ : ∃ (k : Fin 8) (j : Fin 512), y = ix2 k j := ⟨y 0, y 1, by blk_ext⟩
  have z4 : ∀ r : Fin 8, (k0_pay4 : FVec Ideal S8x512 .f32) (ix2 r j) = (0 : EReal) := fun r => by pointwise [k0_pay4]
  have z5 : ∀ r : Fin 8, (k0_pay5 : FVec Ideal S8x512 .f32) (ix2 r j) = (0 : EReal) := fun r => by pointwise [k0_pay5]
  have g0 : (0 : EReal) = gv m c j (512 * (16 - t.val) + 512) := (gv_end m c j _ (by omega)).symm
  have g1 : (0 : EReal) = gv m c j (512 * (16 - t.val) + 513) := (gv_end m c j _ (by omega)).symm
  rw [outsAt0_A m c t h0]
  frame_out
  simp (disch := decide) only [↓ View.readCov_skip, ↓ View.readCov_cons_toLoadRect, ↓ View.readCov_fill]
  by_cases k0 : k = 0
  · subst k0
    refine (canon_in 0 _ _ _ _ (ix2 (0 : Fin 1) j) (at_row 0 0 rfl j)).trans ?_
    refine (tap0 m c t _ _ _ j ((ld0 _ j).trans ((z4 0).trans g0)) ((ld1 _ j).trans ((z4 1).trans g1))).trans ?_
    rw [ld0, z5]
  by_cases k1 : k = 1
  · subst k1
    refine (canon_out 0 _ _ _ _ (.inr (by change 1 ≤ 1; omega))).trans ?_
    refine (canon_in 1 _ _ _ _ (ix2 (0 : Fin 1) j) (at_row 1 1 rfl j)).trans ?_
    refine (tap1 m c t _ _ j ((ld0 _ j).trans ((z4 0).trans g0))).trans ?_
    rw [ld1, z5]
  by_cases k2 : k = 2
  · subst k2
    refine (canon_out 0 _ _ _ _ (.inr (by change 1 ≤ 2; omega))).trans ?_
    refine (canon_out 1 _ _ _ _ (.inr (by change 2 ≤ 2; omega))).trans ?_
    refine (canon_in 2 _ _ _ _ (ix2 (0 : Fin 1) j) (at_row 2 2 rfl j)).trans ?_
    refine (tap2 m c t _ j).trans ?_
    rw [ld2, z5]
  have h3 : 3 ≤ k.val := by omega
  refine (canon_out 0 _ _ _ _ (.inr (by change 1 ≤ k.val; omega))).trans ?_
  refine (canon_out 1 _ _ _ _ (.inr (by change 2 ≤ k.val; omega))).trans ?_
  refine (canon_out 2 _ _ _ _ (.inr (by change 3 ≤ k.val; omega))).trans ?_
  rw [tap_rest m c t _ h3, add_zero]
  rw [View.canon_unit_zero (by decide)]
  exact z5 k

/-- The seventeen tiles' rows, last tile first, are all the rows, the first 496 being zero. -/
theorem sum_rows (f : ℕ → EReal) (g : Fin 8208 → EReal) (h0 : ∀ v, v < 496 → f v = 0) (h : ∀ R : Fin 8208, f (496 + R.val) = g R) :
    ∑ t : Fin 17, ∑ i : Fin 512, f (512 * (16 - t.val) + i.val) = ∑ R : Fin 8208, g R := by
  refine (Equiv.sum_comp Fin.revPerm fun t : Fin 17 => ∑ i : Fin 512, f (512 * (16 - t.val) + i.val)).symm.trans ?_
  refine Eq.trans (b := ∑ v : Fin 8704, f v.val) ?_ ((Fin.sum_univ_add (a := 496) (b := 8208) fun v : Fin 8704 => f v.val).trans ?_)
  · refine Fin.sum_mul_add_congr fun s k hl => ?_
    exact congrArg f (by simp only [Fin.revPerm_apply, Fin.val_rev]; omega)
  · rw [Finset.sum_eq_zero fun i _ => h0 _ i.isLt, zero_add]
    exact Finset.sum_congr rfl fun R _ => h R

/-- The terms of one tap over all tiles are the reference's sum. -/
theorem fk_sum (c : Dev nD) (k : ℕ) (hk : k < 3) (j : Fin 512) (g : Fin 8208 → EReal)
    (h : ∀ R : Fin 8208, g R = UC (P m c) (ix2 R j) * DCP (P m c) (D m c) (ix2 (⟨R.val + (2 - k), by omega⟩ : Fin 8210) j)) :
    ∑ t : Fin 17, ∑ i : Fin 512, fk m c k j (512 * (16 - t.val) + i.val) = ∑ R : Fin 8208, g R := by
  refine sum_rows (fk m c k j) g (fun v hv => dif_neg fun h => by omega) fun R => ?_
  have e : (⟨496 + R.val - 496, by omega⟩ : Fin 8208) = R := Fin.ext (by dsimp only; omega)
  rw [h, fk, dif_pos ⟨by omega, by omega, hk⟩, gv, dif_pos ⟨by omega, by omega⟩, e]
  exact congrArg (fun r : Fin 8210 => _ * DCP (P m c) (D m c) (ix2 r j)) (Fin.ext (by dsimp only; omega))

theorem fk_none (c : Dev nD) (k : ℕ) (hk : 3 ≤ k) (j : Fin 512) : ∑ t : Fin 17, ∑ i : Fin 512, fk m c k j (512 * (16 - t.val) + i.val) = 0 :=
  Finset.sum_eq_zero fun t _ => Finset.sum_eq_zero fun i _ => dif_neg fun h => by omega

/-- After the last point the array is the reference's gradient. -/
theorem arr14 (c : Dev nD) : (dats m 0 c).arrAt 14 (cfgs 0).N = GCW (P m c) (D m c) := by
  refine (dats m 0 c).arrAt_eq_of_after_last 14 last (by decide +kernel) _ fun j => ?_
  blk_simp
  rw [after0_14, Pipeline.eq_sum_fin_of_reset_step_apply_last (fun n h => (outsAt0 m c n h).2.1) 17 (fun _ => (0 : EReal)) (part14 m c)
    (fun t h j => init14 m c t h j) (fun t h j => step14 m c t h j) (le_of_eq N_0) last rfl j, zero_add]
  obtain ⟨k, j, rfl⟩ : ∃ (k : Fin 8) (j' : Fin 512), j = ix2 k j' := ⟨j 0, j 1, by blk_ext⟩
  simp only [part14]
  pointwise [GCW]
  by_cases k0 : k.val < 1
  · rw [dif_pos k0]
    exact fk_sum m c k.val (by omega) j _ fun R => congrArg (fun r : Fin 8210 => _ * DCP (P m c) (D m c) (ix2 r j)) (Fin.ext (by dsimp only; omega))
  rw [dif_neg k0]
  by_cases k1 : k.val - 1 < 1
  · rw [dif_pos k1]
    exact fk_sum m c k.val (by omega) j _ fun R => congrArg (fun r : Fin 8210 => _ * DCP (P m c) (D m c) (ix2 r j)) (Fin.ext (by dsimp only; omega))
  rw [dif_neg k1]
  by_cases k2 : k.val - 1 - 1 < 1
  · rw [dif_pos k2]
    exact fk_sum m c k.val (by omega) j _ fun R => congrArg (fun r : Fin 8210 => _ * DCP (P m c) (D m c) (ix2 r j)) (Fin.ext (by dsimp only; omega))
  rw [dif_neg k2]
  exact fk_none m c k.val (by omega) j

end Cert.MixIdeal.Tile
-- ==== Proof.MixHead.lean ====
/-
  One head of the retention in one chunk of 128 rows. The kernel writes out four chunks of four heads; each of the sixteen
  does the same to other columns and rows, named here once.
-/
module

public import proofs.«01_k».proof.Proof.MixTaps
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

/-- A head's queries in a chunk of rows, after the rotary table and the scale. -/
def qh (rc rs : FVec Ideal S128x128 .f32) (q : FVec Ideal S128x128 .bf16) : FVec Ideal S128x128 .f32 := k0_pay467 (k0_pay461 rc) (k0_pay462 rs) q
/-- Its keys. -/
def kh (rc rs : FVec Ideal S128x128 .f32) (k : FVec Ideal S128x128 .bf16) : FVec Ideal S128x128 .bf16 := k0_pay481 (k0_pay461 rc) (k0_pay462 rs) k
/-- Its normalized output. -/
def yh (rc rs : FVec Ideal S128x128 .f32) (q k v : FVec Ideal S128x128 .bf16) (st : FVec Ideal S1x1x128x128 .bf16) (dec xi : FVec Ideal S1x128x128 .f32) : FVec Ideal S128x128 .f32 :=
  k0_pay511 v (k0_pay463 st) (k0_pay485 (qh rc rs q) xi) (k0_pay498 (k0_pay497 (k0_pay477 (qh rc rs q)) (kh rc rs k)) dec)
/-- The norm scale's derivative with a chunk's sum added to it. -/
def addh (live : EReal) (old : FVec Ideal S1x128 .f32) (y : FVec Ideal S128x128 .f32) (rg dm : FVec Ideal S128x128 .bf16) : FVec Ideal S1x128 .f32 :=
  k0_pay517 live old y (k0_pay512 rg) dm

/-- What the kernel stores for chunk `c` and head `h` (`acc{c}_{h}`) is the head's sum added to what was there. -/
theorem acc0_0 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay517 live old (k0_pay511 v (k0_pay463 st) (k0_pay485 (k0_pay467 (k0_pay461 rc) (k0_pay462 rs) q) xi) (k0_pay498 (k0_pay497 (k0_pay477 (k0_pay467 (k0_pay461 rc) (k0_pay462 rs) q)) (k0_pay481 (k0_pay461 rc) (k0_pay462 rs) k)) dec)) (k0_pay512 rg) dm
      = addh live old (yh rc rs q k v st dec xi) rg dm := rfl

theorem acc1_0 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay377 old (k0_pay369 (k0_pay363 v (k0_pay322 st) (k0_pay342 (k0_pay326 (k0_pay320 rc) (k0_pay321 rs) q) xi) (k0_pay355 (k0_pay334 (k0_pay326 (k0_pay320 rc) (k0_pay321 rs) q)) (k0_pay338 (k0_pay330 (k0_pay320 rc) (k0_pay321 rs) k)) dec))) (k0_pay370 rg) (k0_pay371 live dm) (k0_pay372 rg)
      = addh live old (yh rc rs q k v st dec xi) rg dm := rfl

theorem acc2_0 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay238 live old (k0_pay230 v (k0_pay181 st) (k0_pay206 (k0_pay185 (k0_pay179 rc) rs q) xi) (k0_pay218 (k0_pay198 (k0_pay185 (k0_pay179 rc) rs q)) (k0_pay202 (k0_pay191 (k0_pay179 rc) (k0_pay180 rs) k)) dec)) (k0_pay231 v (k0_pay181 st) (k0_pay206 (k0_pay185 (k0_pay179 rc) rs q) xi) (k0_pay218 (k0_pay198 (k0_pay185 (k0_pay179 rc) rs q)) (k0_pay202 (k0_pay191 (k0_pay179 rc) (k0_pay180 rs) k)) dec)) rg dm
      = addh live old (yh rc rs q k v st dec xi) rg dm := rfl

theorem acc3_0 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay99 old (k0_pay91 (k0_pay42 st) (k0_pay64 (k0_pay46 (k0_pay40 rc) (k0_pay41 rs) q) xi) (k0_pay85 v (k0_pay76 (k0_pay56 (k0_pay46 (k0_pay40 rc) (k0_pay41 rs) q)) (k0_pay60 (k0_pay40 rc) (k0_pay41 rs) k) dec)) (constant S128x128 FTy.f32 0#32)) (k0_pay92 rg) (k0_pay93 live dm) (k0_pay94 rg) k0_pay95
      = addh live old (yh rc rs q k v st dec xi) rg dm := rfl

theorem acc0_1 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay527 old (k0_pay521 (k0_pay506 v (k0_pay464 st) (k0_pay486 (k0_pay468 (k0_pay461 rc) (k0_pay462 rs) q) xi) (k0_pay499 (k0_pay478 (k0_pay468 (k0_pay461 rc) (k0_pay462 rs) q)) (k0_pay482 (k0_pay461 rc) (k0_pay462 rs) k) dec))) (k0_pay522 rg) (k0_pay523 live dm) (k0_pay524 rg)
      = addh live old (yh rc rs q k v st dec xi) rg dm := rfl

theorem acc1_1 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay387 live old (k0_pay381 (k0_pay364 v (k0_pay323 st) (k0_pay343 (k0_pay327 (k0_pay320 rc) (k0_pay321 rs) q) xi) (k0_pay356 (k0_pay335 (k0_pay327 (k0_pay320 rc) (k0_pay321 rs) q)) (k0_pay339 (k0_pay320 rc) (k0_pay321 rs) k) dec))) rg dm
      = addh live old (yh rc rs q k v st dec xi) rg dm := rfl

theorem acc2_1 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay252 old (k0_pay245 (k0_pay227 v (k0_pay182 st) (k0_pay207 (k0_pay188 (k0_pay186 (k0_pay179 rc) rs q) k0_pay187) xi) (k0_pay219 (k0_pay199 (k0_pay188 (k0_pay186 (k0_pay179 rc) rs q) k0_pay187)) (k0_pay203 (k0_pay192 (k0_pay179 rc) (k0_pay180 rs) k)) dec))) (k0_pay246 rg) (k0_pay247 live dm) (k0_pay248 rg)
      = addh live old (yh rc rs q k v st dec xi) rg dm := rfl

theorem acc3_1 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay110 live old (k0_pay101 (k0_pay86 v (k0_pay43 st) (k0_pay65 (k0_pay47 (k0_pay40 rc) (k0_pay41 rs) q) xi) (k0_pay78 (k0_pay77 (k0_pay57 (k0_pay47 (k0_pay40 rc) (k0_pay41 rs) q)) (k0_pay61 (k0_pay40 rc) (k0_pay41 rs) k)) dec))) (k0_pay102 (k0_pay86 v (k0_pay43 st) (k0_pay65 (k0_pay47 (k0_pay40 rc) (k0_pay41 rs) q) xi) (k0_pay78 (k0_pay77 (k0_pay57 (k0_pay47 (k0_pay40 rc) (k0_pay41 rs) q)) (k0_pay61 (k0_pay40 rc) (k0_pay41 rs) k)) dec))) rg dm
      = addh live old (yh rc rs q k v st dec xi) rg dm := rfl

theorem acc0_2 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay537 live old (k0_pay531 (k0_pay507 v (k0_pay465 st) (k0_pay487 (k0_pay471 (k0_pay469 (k0_pay461 rc) (k0_pay462 rs) q) k0_pay470) xi) (k0_pay500 (k0_pay479 (k0_pay469 (k0_pay461 rc) (k0_pay462 rs) q) k0_pay470) (k0_pay483 (k0_pay461 rc) (k0_pay462 rs) k) dec))) (k0_pay532 rg) dm
      = addh live old (yh rc rs q k v st dec xi) rg dm := rfl

theorem acc1_2 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay404 old (k0_pay395 (k0_pay365 v (k0_pay324 st) (k0_pay344 (k0_pay328 (k0_pay320 rc) (k0_pay321 rs) q) xi) (k0_pay357 (k0_pay336 (k0_pay328 (k0_pay320 rc) (k0_pay321 rs) q)) (k0_pay340 (k0_pay320 rc) (k0_pay321 rs) k) dec))) (k0_pay396 rg) (k0_pay397 live dm) (k0_pay398 rg)
      = addh live old (yh rc rs q k v st dec xi) rg dm := rfl

theorem acc2_2 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay264 live old (k0_pay254 (k0_pay228 v (k0_pay183 st) (k0_pay208 (k0_pay189 (k0_pay179 rc) (k0_pay180 rs) q) xi) (k0_pay220 (k0_pay200 (k0_pay189 (k0_pay179 rc) (k0_pay180 rs) q)) (k0_pay204 (k0_pay193 (k0_pay179 rc) (k0_pay180 rs) k)) dec))) (k0_pay255 (k0_pay228 v (k0_pay183 st) (k0_pay208 (k0_pay189 (k0_pay179 rc) (k0_pay180 rs) q) xi) (k0_pay220 (k0_pay200 (k0_pay189 (k0_pay179 rc) (k0_pay180 rs) q)) (k0_pay204 (k0_pay193 (k0_pay179 rc) (k0_pay180 rs) k)) dec))) k0_pay256 rg dm
      = addh live old (yh rc rs q k v st dec xi) rg dm := rfl

theorem acc3_2 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay123 old (k0_pay116 (k0_pay87 v (k0_pay44 st) (k0_pay66 (k0_pay48 (k0_pay40 rc) (k0_pay41 rs) q) xi) (k0_pay79 (k0_pay58 (k0_pay48 (k0_pay40 rc) (k0_pay41 rs) q)) (k0_pay62 (k0_pay40 rc) (k0_pay41 rs) k) dec))) (k0_pay117 rg) (k0_pay118 live dm) (k0_pay119 rg)
      = addh live old (yh rc rs q k v st dec xi) rg dm := rfl

theorem acc0_3 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay549 old (k0_pay543 (k0_pay508 v (k0_pay466 st) (k0_pay488 (k0_pay472 (k0_pay461 rc) (k0_pay462 rs) q) xi) (k0_pay501 (k0_pay480 (k0_pay461 rc) (k0_pay462 rs) q) (k0_pay484 (k0_pay461 rc) (k0_pay462 rs) k) dec))) (k0_pay544 rg) (k0_pay545 live dm) (k0_pay546 rg)
      = addh live old (yh rc rs q k v st dec xi) rg dm := rfl

theorem acc1_3 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay414 live old (k0_pay408 (k0_pay366 v (k0_pay325 st) (k0_pay346 (k0_pay345 (k0_pay329 (k0_pay320 rc) (k0_pay321 rs) q) xi)) (k0_pay358 (k0_pay337 (k0_pay329 (k0_pay320 rc) (k0_pay321 rs) q)) (k0_pay341 (k0_pay320 rc) (k0_pay321 rs) k) dec))) rg dm
      = addh live old (yh rc rs q k v st dec xi) rg dm := rfl

theorem acc2_3 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay277 old (k0_pay270 (k0_pay229 v (k0_pay184 st) (k0_pay209 (k0_pay190 (k0_pay179 rc) (k0_pay180 rs) q) xi) (k0_pay221 (k0_pay201 (k0_pay190 (k0_pay179 rc) (k0_pay180 rs) q)) (k0_pay205 (k0_pay195 (k0_pay179 rc) k) (k0_pay196 (k0_pay180 rs) k)) dec))) (k0_pay271 rg) (k0_pay272 live dm) (k0_pay273 rg)
      = addh live old (yh rc rs q k v st dec xi) rg dm := rfl

theorem acc3_3 (live : EReal) (old : FVec Ideal S1x128 .f32) (rc rs : FVec Ideal S128x128 .f32) (q k v rg dm : FVec Ideal S128x128 .bf16) (st : FVec Ideal S1x1x128x128 .bf16) (dec xi : FVec Ideal S1x128x128 .f32) :
    k0_pay134 live old (k0_pay125 (k0_pay88 v (k0_pay45 st) (k0_pay67 (k0_pay51 (k0_pay49 (k0_pay40 rc) (k0_pay41 rs) q) k0_pay50) xi) (k0_pay80 (k0_pay59 (k0_pay49 (k0_pay40 rc) (k0_pay41 rs) q) k0_pay50) (k0_pay63 (k0_pay40 rc) (k0_pay41 rs) k) dec))) (k0_pay126 (k0_pay88 v (k0_pay45 st) (k0_pay67 (k0_pay51 (k0_pay49 (k0_pay40 rc) (k0_pay41 rs) q) k0_pay50) xi) (k0_pay80 (k0_pay59 (k0_pay49 (k0_pay40 rc) (k0_pay41 rs) q) k0_pay50) (k0_pay63 (k0_pay40 rc) (k0_pay41 rs) k) dec))) rg dm
      = addh live old (yh rc rs q k v st dec xi) rg dm := rfl

end Cert.MixIdeal.Tile
-- ==== Proof.MixHeadRows.lean ====
/-
  A head's queries, keys, scores, outputs and normalised outputs in a chunk of rows are the reference's entries at that
  chunk and head.
-/
module

public import proofs.«01_k».proof.Proof.MixHead
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

variable (P : FVec Ideal S8704x4096 .bf16) (D : FVec Ideal S8192x1024 .bf16) (ST : FVec Ideal S68x4x128x128 .bf16)

/-- The table of cosines in a chunk's rows. -/
def IsCos (n : Fin 64) (rc : FVec Ideal S128x128 .f32) : Prop := ∀ i e : Fin 128, rc (ix2 i e) = COS (ix4 n i (0 : Fin 1) (⟨e.val % 64, by omega⟩ : Fin 64))
/-- The table of sines, the first half's negated. -/
def IsSin (n : Fin 64) (rs : FVec Ideal S128x128 .f32) : Prop :=
  ∀ i e : Fin 128, rs (ix2 i e) = if e.val < 64 then -SIN (ix4 n i (0 : Fin 1) (⟨e.val % 64, by omega⟩ : Fin 64)) else SIN (ix4 n i (0 : Fin 1) (⟨e.val % 64, by omega⟩ : Fin 64))
/-- A head's columns of the projection, counted from column `b`, in a chunk's rows. -/
def IsCols (n : Fin 64) (h : Fin 4) (b : ℕ) (hb : b ≤ 3584) (q : FVec Ideal S128x128 .bf16) : Prop :=
  ∀ i e : Fin 128, q (ix2 i e) = TR P (ix2 (⟨16 + (n.val * 128 + i.val), by omega⟩ : Fin 8208) (⟨b + (h.val * 128 + e.val), by omega⟩ : Fin 4096))

/-- The turned columns, before the queries' scale. -/
theorem rot (n : Fin 64) (h : Fin 4) (b : ℕ) (hb : b ≤ 3584) (rc rs : FVec Ideal S128x128 .f32) (q : FVec Ideal S128x128 .bf16)
    (hc : IsCos n rc) (hs : IsSin n rs) (hq : IsCols P n h b hb q) (i e : Fin 128) :
    q (ix2 i e) * rc (ix2 i e) + q (ix2 i (⟨(e.val + 128 - 64) % 128, by omega⟩ : Fin 128)) * rs (ix2 i e)
      = if h1 : e.val < 64 then
          TR P (ix2 (⟨16 + (n.val * 128 + i.val), by omega⟩ : Fin 8208) (⟨b + (h.val * 128 + e.val), by omega⟩ : Fin 4096)) * COS (ix4 n i (0 : Fin 1) (⟨e.val, by omega⟩ : Fin 64)) -
            TR P (ix2 (⟨16 + (n.val * 128 + i.val), by omega⟩ : Fin 8208) (⟨b + (h.val * 128 + (64 + e.val)), by omega⟩ : Fin 4096)) * SIN (ix4 n i (0 : Fin 1) (⟨e.val, by omega⟩ : Fin 64))
        else
          TR P (ix2 (⟨16 + (n.val * 128 + i.val), by omega⟩ : Fin 8208) (⟨b + (h.val * 128 + (e.val - 64)), by omega⟩ : Fin 4096)) * SIN (ix4 n i (0 : Fin 1) (⟨e.val - 64, by omega⟩ : Fin 64)) +
            TR P (ix2 (⟨16 + (n.val * 128 + i.val), by omega⟩ : Fin 8208) (⟨b + (h.val * 128 + (64 + (e.val - 64))), by omega⟩ : Fin 4096)) * COS (ix4 n i (0 : Fin 1) (⟨e.val - 64, by omega⟩ : Fin 64)) := by
  rw [hc, hs, hq, hq]
  by_cases h1 : e.val < 64
  · have e1 : (e.val + 128 - 64) % 128 = 64 + e.val := by omega
    have e2 : e.val % 64 = e.val := by omega
    simp only [dif_pos h1, if_pos h1, e1, e2, mul_neg, sub_eq_add_neg]
  · have e1 : (e.val + 128 - 64) % 128 = e.val - 64 := by omega
    have e2 : e.val % 64 = e.val - 64 := by omega
    have e3 : 64 + (e.val - 64) = e.val := by omega
    simp only [dif_neg h1, if_neg h1, e1, e2, e3]
    exact add_comm _ _

theorem qh_row (n : Fin 64) (h : Fin 4) (rc rs : FVec Ideal S128x128 .f32) (q : FVec Ideal S128x128 .bf16)
    (hc : IsCos n rc) (hs : IsSin n rs) (hq : IsCols P n h 2048 (by decide) q) (i e : Fin 128) : qh rc rs q (ix2 i e) = QF P (ix4 n i h e) := by
  pointwise [qh, k0_pay467, k0_pay461, k0_pay462, QF, Q1, Q2, Q4]
  rw [rot P n h 2048 (by decide) rc rs q hc hs hq i e]

theorem kh_row (n : Fin 64) (h : Fin 4) (rc rs : FVec Ideal S128x128 .f32) (k : FVec Ideal S128x128 .bf16)
    (hc : IsCos n rc) (hs : IsSin n rs) (hk : IsCols P n h 2560 (by decide) k) (i e : Fin 128) : kh rc rs k (ix2 i e) = KF P (ix4 n i h e) := by
  pointwise [kh, k0_pay481, k0_pay473, k0_pay461, k0_pay462, KF, K1, K2, K4]
  exact rot P n h 2560 (by decide) rc rs k hc hs hk i e

/-- What a chunk's loads hold of head `h` at the chunk `n` of the sequence. -/
structure Loads (n : Fin 64) (h : Fin 4) (rc rs : FVec Ideal S128x128 .f32) (q k v : FVec Ideal S128x128 .bf16) (st : FVec Ideal S1x1x128x128 .bf16) (dec xi : FVec Ideal S1x128x128 .f32) : Prop where
  cos : IsCos n rc
  sin : IsSin n rs
  qs : IsCols P n h 2048 (by decide) q
  ks : IsCols P n h 2560 (by decide) k
  vs : IsCols P n h 3072 (by decide) v
  state : ∀ x e : Fin 128, st (ix4 (0 : Fin 1) (0 : Fin 1) x e) = ST64 ST (ix4 n h x e)
  decay : ∀ i e : Fin 128, dec (ix3 (0 : Fin 1) i e) = DEC (ix3 h i e)
  cross : ∀ i e : Fin 128, xi (ix3 (0 : Fin 1) i e) = XI (ix2 h i)

variable (n : Fin 64) (h : Fin 4) (rc rs : FVec Ideal S128x128 .f32) (q k v : FVec Ideal S128x128 .bf16) (st : FVec Ideal S1x1x128x128 .bf16) (dec xi : FVec Ideal S1x128x128 .f32)

/-- The decayed scores. -/
theorem sc_row (H : Loads P ST n h rc rs q k v st dec xi) (i e : Fin 128) :
    k0_pay498 (k0_pay497 (k0_pay477 (qh rc rs q)) (kh rc rs k)) dec (ix2 i e) = SC P (ix4 n h i e) := by
  pointwise [k0_pay498, k0_pay497, k0_pay477, SC]
  rw [H.decay]
  refine congrArg (· * _) (Finset.sum_congr rfl fun x _ => ?_)
  rw [qh_row P n h rc rs q H.cos H.sin H.qs, kh_row P n h rc rs k H.cos H.sin H.ks]

/-- The outputs: within the chunk and from the state before it. -/
theorem o_row (H : Loads P ST n h rc rs q k v st dec xi) (i e : Fin 128) :
    (∑ x : Fin 128, k0_pay498 (F := Ideal) (k0_pay497 (k0_pay477 (qh rc rs q)) (kh rc rs k)) dec (ix2 i x) * v (ix2 x e)) + ∑ x : Fin 128, k0_pay485 (F := Ideal) (qh rc rs q) xi (ix2 i x) * st (ix4 (0 : Fin 1) (0 : Fin 1) x e)
      = OO P ST (ix4 n h i e) := by
  pointwise [OO]
  refine congrArg₂ (· + ·) (Finset.sum_congr rfl fun x _ => ?_) (Finset.sum_congr rfl fun x _ => ?_)
  · rw [sc_row P ST n h rc rs q k v st dec xi H, H.vs]
    pointwise [V4]
  · rw [H.state]
    pointwise [k0_pay485]
    rw [H.cross, qh_row P n h rc rs q H.cos H.sin H.qs]

/-- The outputs less their mean. -/
theorem dv_row (H : Loads P ST n h rc rs q k v st dec xi) (i e : Fin 128) :
    k0_pay509 (F := Ideal) v (k0_pay463 st) (k0_pay485 (qh rc rs q) xi) (k0_pay498 (k0_pay497 (k0_pay477 (qh rc rs q)) (kh rc rs k)) dec) (ix2 i e) = DV P ST (ix4 n h i e) := by
  pointwise [k0_pay509, k0_pay463, DV]
  simp only [o_row P ST n h rc rs q k v st dec xi H]

/-- The normalised outputs. -/
theorem yh_row (H : Loads P ST n h rc rs q k v st dec xi) (i e : Fin 128) : yh rc rs q k v st dec xi (ix2 i e) = YH P ST (ix4 n h i e) := by
  pointwise [yh, k0_pay511, k0_pay510, YH]
  simp only [dv_row P ST n h rc rs q k v st dec xi H]

end Cert.MixIdeal.Tile
-- ==== Proof.MixTables.lean ====
/-
  The tables the host makes for the kernel - cosines, sines, decays - and the windows of them and of the states that a tile
  sees, as entries of the reference's tables.
-/
module

public import proofs.«01_k».proof.Proof.MixHeadRows
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

variable (m : (ℓ : Loc nD τ sig) → Buf (Elt Ideal) ℓ)

/-- The rotary positions of the sequence's rows and the meta tokens'. -/
def POSK : IVec S8704 32 :=
  select (cmpi .slt (iotaInDim S8704 32 0) (broadcastInDim S8704 ![] bcast_S_S8704 (constantI S_ 32 8192#32))) (addi (iotaInDim S8704 32 0) (broadcastInDim S8704 ![] bcast_S_S8704 (constantI S_ 32 16#32)))
    (maxsi (subi (iotaInDim S8704 32 0) (broadcastInDim S8704 ![] bcast_S_S8704 (constantI S_ 32 8688#32))) (broadcastInDim S8704 ![] bcast_S_S8704 (constantI S_ 32 0#32)))
/-- Their angles. -/
def ANGK : FVec Ideal S8704x64 .f32 :=
  mulf (broadcastInDim S8704x64 ![0, 1] bcast_S8704x1_S8704x64_0_1 (broadcastInDim S8704x1 ![0] bcast_S8704_S8704x1_0 (sitofp .f32 POSK)))
    (broadcastInDim S8704x64 ![0, 1] bcast_S1x64_S8704x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (sitofp .f32 (iotaInDim S64 32 0)) (broadcastInDim S64 ![] bcast_S_S64 (constant S_ .f32 0x42800000#32)))))))

/-- The four tables as the host leaves them. -/
theorem V_cos (c : Dev nD) : (V m c main_v27 : FVec Ideal S8704x128 .f32) =
    concatenate S8704x128 1 [⟨S8704x64, Host.cos ANGK⟩, ⟨S8704x64, Host.cos ANGK⟩] concatenates_S8704x64_S8704x64_S8704x128_d1 := by
  simp only [V, hostOps0, hostOps0_1, hostOps0_2, hostOps0_3, hostOps0_4, List.flatten_cons, List.flatten_nil, List.append_nil, List.cons_append, List.nil_append]
  after_results_simp <;> rfl
theorem V_sin (c : Dev nD) : (V m c main_v29 : FVec Ideal S8704x128 .f32) =
    concatenate S8704x128 1 [⟨S8704x64, Host.negf (Host.sin ANGK)⟩, ⟨S8704x64, Host.sin ANGK⟩] concatenates_S8704x64_S8704x64_S8704x128_d1 := by
  simp only [V, hostOps0, hostOps0_1, hostOps0_2, hostOps0_3, hostOps0_4, List.flatten_cons, List.flatten_nil, List.append_nil, List.cons_append, List.nil_append]
  after_results_simp <;> rfl
theorem V_decay (c : Dev nD) : (V m c main_v53 : FVec Ideal S4x128x128 .f32) = DEC := by
  simp only [V, hostOps0, hostOps0_1, hostOps0_2, hostOps0_3, hostOps0_4, List.flatten_cons, List.flatten_nil, List.append_nil, List.cons_append, List.nil_append]
  after_results_simp <;> rfl
theorem V_cross (c : Dev nD) : (V m c main_v76 : FVec Ideal S4x128x128 .f32) =
    broadcastInDim S4x128x128 ![0, 1, 2] bcast_S4x128x1_S4x128x128_0_1_2 (broadcastInDim S4x128x1 ![0, 1] bcast_S4x128_S4x128x1_0_1 XI) := by
  simp only [V, hostOps0, hostOps0_1, hostOps0_2, hostOps0_3, hostOps0_4, List.flatten_cons, List.flatten_nil, List.append_nil, List.cons_append, List.nil_append]
  after_results_simp <;> rfl

/-- Their entries are the reference's. -/
theorem ang_row (n : Fin 64) (i : Fin 128) (e : Fin 64) (R : Fin 8704) (hR : R.val = n.val * 128 + i.val) : ANGK (ix2 R e) = ANG (ix4 n i (0 : Fin 1) e) := by
  pointwise [ANGK, ANG, POSK]
  rw [show IntOp.cmpi CmpIPredicate.slt (BitVec.ofNat 32 R.val) 8192#32 = 1#1 by word_cmp, WordCmp.select_one, hR]

theorem cos_row (c : Dev nD) (n : Fin 64) (i : Fin 128) (e : Fin 128) (R : Fin 8704) (hR : R.val = n.val * 128 + i.val) : (V m c main_v27 : FVec Ideal S8704x128 .f32) (ix2 R e) = COS (ix4 n i (0 : Fin 1) (⟨e.val % 64, by omega⟩ : Fin 64)) := by
  rw [V_cos]
  pointwise [COS]
  by_cases h : e.val < 64
  · have e2 : e.val % 64 = e.val := by omega
    simp only [dif_pos h, e2, ang_row n i _ R hR]
  · have e2 : e.val % 64 = e.val - 64 := by omega
    simp only [dif_neg h, e2, ang_row n i _ R hR]
theorem sin_row (c : Dev nD) (n : Fin 64) (i : Fin 128) (e : Fin 128) (R : Fin 8704) (hR : R.val = n.val * 128 + i.val) : (V m c main_v29 : FVec Ideal S8704x128 .f32) (ix2 R e)
    = if e.val < 64 then -SIN (ix4 n i (0 : Fin 1) (⟨e.val % 64, by omega⟩ : Fin 64)) else SIN (ix4 n i (0 : Fin 1) (⟨e.val % 64, by omega⟩ : Fin 64)) := by
  rw [V_sin]
  pointwise [SIN]
  by_cases h : e.val < 64
  · have e2 : e.val % 64 = e.val := by omega
    simp only [dif_pos h, if_pos h, e2, ang_row n i _ R hR]
  · have e2 : e.val % 64 = e.val - 64 := by omega
    simp only [dif_neg h, if_neg h, e2, ang_row n i _ R hR]

/-- Two axes of a load. -/
theorem ld2_apply {N M p q : ℕ} {w : EltTy} (X : (⟨2, ![N, M]⟩ : Shape).Idx → Elt Ideal w) (a b : ℕ) (inb) (i : Fin p) (j : Fin q) (ha : a + i.val < N) (hb : b + j.val < M) :
    (View.ld (Val := Elt Ideal) (e' := w) X (Rect.unit (s := ⟨2, ![N, M]⟩) ![a, b] ![p, q] inb) : (⟨2, ![p, q]⟩ : Shape).Idx → Elt Ideal w) (ix2 i j) = X (ix2 (⟨a + i.val, ha⟩ : Fin N) (⟨b + j.val, hb⟩ : Fin M)) := by
  refine congrArg X (funext fun x => Fin.ext ((congrArg _ (Nat.one_mul _)).trans ?_))
  match x with
  | 0 => rfl
  | 1 => rfl

/-- And so are the entries in a tile's windows. -/
theorem cos_win (c : Dev nD) (t : Fin cfg0.N) (h0 : ¬t.val = 16) (i : Fin 512) (e : Fin 128) :
    (iblk m c 6 t : FVec Ideal S512x128 .f32) (ix2 i e) = (V m c main_v27 : FVec Ideal S8704x128 .f32) (ix2 (⟨512 * (15 - t.val) + i.val, by omega⟩ : Fin 8704) e) := by
  have ht := lt17 t
  blk_point [iblk, idx t, h0]
  rw [if_neg not_false]; omega
theorem sin_win (c : Dev nD) (t : Fin cfg0.N) (h0 : ¬t.val = 16) (i : Fin 512) (e : Fin 128) :
    (iblk m c 7 t : FVec Ideal S512x128 .f32) (ix2 i e) = (V m c main_v29 : FVec Ideal S8704x128 .f32) (ix2 (⟨512 * (15 - t.val) + i.val, by omega⟩ : Fin 8704) e) := by
  have ht := lt17 t
  blk_point [iblk, idx t, h0]
  rw [if_neg not_false]; omega
theorem decay_win (c : Dev nD) (t : Fin cfg0.N) (h : Fin 4) (i e : Fin 128) :
    (iblk m c 8 t : FVec Ideal S4x128x128 .f32) (ix3 h i e) = DEC (ix3 h i e) := by
  rw [← V_decay m c]
  blk_point [iblk, idx t]
theorem cross_win (c : Dev nD) (t : Fin cfg0.N) (h : Fin 4) (i e : Fin 128) :
    (iblk m c 10 t : FVec Ideal S4x128x128 .f32) (ix3 h i e) = XI (ix2 h i) := by
  refine Eq.trans (b := (V m c main_v76 : FVec Ideal S4x128x128 .f32) (ix3 h i e)) ?_ ?_
  · blk_point [iblk, idx t]
  · rw [V_cross]
    pointwise []
theorem state_win (c : Dev nD) (t : Fin cfg0.N) (h0 : ¬t.val = 16) (k h : Fin 4) (x e : Fin 128) :
    (iblk m c 3 t : FVec Ideal S4x4x128x128 .bf16) (ix4 k h x e) = ST64 (ST m c) (ix4 (⟨4 * (15 - t.val) + k.val, by omega⟩ : Fin 64) h x e) := by
  have ht := lt17 t
  pointwise [ST64]
  blk_point [iblk, V, idx t, h0]
  rw [if_neg not_false]; omega

end Cert.MixIdeal.Tile
-- ==== Proof.MixTile.lean ====
/-
  One tile of 512 rows: what each of its chunks and heads loads, and what the chunk adds to the gain's derivative.
-/
module

public import proofs.«01_k».proof.Proof.MixTables
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

variable (m : (ℓ : Loc nD τ sig) → Buf (Elt Ideal) ℓ)

/-- Three axes of a load of one head's matrix. -/
theorem ld3_apply (X : FVec Ideal S4x128x128 .f32) (a : ℕ) (inb) (h : Fin 4) (ha : h.val = a) (i j : Fin 128) :
    (View.ld (Val := Elt Ideal) (e' := .f32) X (Rect.unit (s := S4x128x128) ![a, 0, 0] ![1, 128, 128] inb) : FVec Ideal S1x128x128 .f32) (ix3 (0 : Fin 1) i j) = X (ix3 h i j) := by
  refine congrArg X (funext fun x => Fin.ext ((congrArg _ (Nat.one_mul _)).trans ?_))
  match x with
  | 0 => exact ha.symm
  | 1 => exact Nat.zero_add _
  | 2 => exact Nat.zero_add _
/-- Four axes of a load of one chunk's and head's matrix. -/
theorem ld4_apply (X : FVec Ideal S4x4x128x128 .bf16) (a b : ℕ) (inb) (k h : Fin 4) (hk : k.val = a) (ha : h.val = b) (i j : Fin 128) :
    (View.ld (Val := Elt Ideal) (e' := .bf16) X (Rect.unit (s := S4x4x128x128) ![a, b, 0, 0] ![1, 1, 128, 128] inb) : FVec Ideal S1x1x128x128 .bf16) (ix4 (0 : Fin 1) (0 : Fin 1) i j) = X (ix4 k h i j) := by
  refine congrArg X (funext fun x => Fin.ext ((congrArg _ (Nat.one_mul _)).trans ?_))
  match x with
  | 0 => exact hk.symm
  | 1 => exact ha.symm
  | 2 => exact Nat.zero_add _
  | 3 => exact Nat.zero_add _

/-- A head's columns of the projection in a tile's chunk `k`. -/
theorem cols (c : Dev nD) (t : Fin cfg0.N) (h0 : ¬t.val = 16) (k h : Fin 4) (n : Fin 64) (hn : n.val = 4 * (15 - t.val) + k.val)
    (a b d : ℕ) (hd : d ≤ 3584) (ha : a = 128 * k.val) (hb : b = d + 128 * h.val) (inb) :
    IsCols (P m c) n h d hd (View.ld (Val := Elt Ideal) (e' := .bf16) (iblk m c 0 t : FVec Ideal S512x4096 .bf16) (Rect.unit (s := S512x4096) ![a, b] ![128, 128] inb)) := by
  have ht := lt17 t
  intro i e
  refine (ld2_apply _ a b inb i e (by omega) (by omega)).trans ((p_row m c t _ (by dsimp only; omega) _).trans ?_)
  exact congrArg₂ (fun (R : Fin 8208) (C : Fin 4096) => TR (P m c) (ix2 R C)) (Fin.ext (by dsimp only; omega)) (Fin.ext (by dsimp only; omega))

/-- What a tile loads for chunk `k` and head `h`. -/
theorem loads (c : Dev nD) (t : Fin cfg0.N) (h0 : ¬t.val = 16) (k h : Fin 4) (n : Fin 64) (hn : n.val = 4 * (15 - t.val) + k.val)
    (a bq bk bv : ℕ) (ha : a = 128 * k.val) (hq : bq = 2048 + 128 * h.val) (hk : bk = 2560 + 128 * h.val) (hv : bv = 3072 + 128 * h.val)
    (k' h' : ℕ) (hk' : k.val = k') (hh' : h.val = h') (i6 i7 iq ik iv i3 i8 i10) :
    Loads (P m c) (ST m c) n h (View.ld (Val := Elt Ideal) (e' := .f32) (iblk m c 6 t : FVec Ideal S512x128 .f32) (Rect.unit (s := S512x128) ![a, 0] ![128, 128] i6))
      (View.ld (Val := Elt Ideal) (e' := .f32) (iblk m c 7 t : FVec Ideal S512x128 .f32) (Rect.unit (s := S512x128) ![a, 0] ![128, 128] i7))
      (View.ld (Val := Elt Ideal) (e' := .bf16) (iblk m c 0 t : FVec Ideal S512x4096 .bf16) (Rect.unit (s := S512x4096) ![a, bq] ![128, 128] iq))
      (View.ld (Val := Elt Ideal) (e' := .bf16) (iblk m c 0 t : FVec Ideal S512x4096 .bf16) (Rect.unit (s := S512x4096) ![a, bk] ![128, 128] ik))
      (View.ld (Val := Elt Ideal) (e' := .bf16) (iblk m c 0 t : FVec Ideal S512x4096 .bf16) (Rect.unit (s := S512x4096) ![a, bv] ![128, 128] iv))
      (View.ld (Val := Elt Ideal) (e' := .bf16) (iblk m c 3 t : FVec Ideal S4x4x128x128 .bf16) (Rect.unit (s := S4x4x128x128) ![k', h', 0, 0] ![1, 1, 128, 128] i3))
      (View.ld (Val := Elt Ideal) (e' := .f32) (iblk m c 8 t : FVec Ideal S4x128x128 .f32) (Rect.unit (s := S4x128x128) ![h', 0, 0] ![1, 128, 128] i8))
      (View.ld (Val := Elt Ideal) (e' := .f32) (iblk m c 10 t : FVec Ideal S4x128x128 .f32) (Rect.unit (s := S4x128x128) ![h', 0, 0] ![1, 128, 128] i10)) where
  cos i e := (ld2_apply _ a 0 i6 i e (by omega) (by omega)).trans ((cos_win m c t h0 _ _).trans ((cos_row m c n i _ _ (by have := lt17 t; dsimp only; omega)).trans
    (congrArg (fun x : Fin 64 => COS (ix4 n i (0 : Fin 1) x)) (Fin.ext (by dsimp only; omega)))))
  sin i e := (ld2_apply _ a 0 i7 i e (by omega) (by omega)).trans ((sin_win m c t h0 _ _).trans ((congrArg (fun x : Fin 128 => (V m c main_v29 : FVec Ideal S8704x128 .f32) (ix2 _ x)) (Fin.ext (Nat.zero_add _))).trans
    (sin_row m c n i e _ (by have := lt17 t; dsimp only; omega))))
  qs := cols m c t h0 k h n hn a bq 2048 _ ha hq iq
  ks := cols m c t h0 k h n hn a bk 2560 _ ha hk ik
  vs := cols m c t h0 k h n hn a bv 3072 _ ha hv iv
  state x e := (ld4_apply _ k' h' i3 k h hk' hh' x e).trans ((state_win m c t h0 k h x e).trans (congrArg (fun y : Fin 64 => ST64 (ST m c) (ix4 y h x e)) (Fin.ext hn.symm)))
  decay i e := (ld3_apply _ h' i8 h hh' i e).trans (decay_win m c t h i e)
  cross i e := (ld3_apply _ h' i10 h hh' i e).trans (cross_win m c t h i e)

/-- A row's term of the norm scale's derivative, the rows counted from 512 before the sequence's first. -/
def gt (c : Dev nD) (j : Fin 512) (v : ℕ) : EReal :=
  if h : 512 ≤ v ∧ v - 512 < 8192 then DRET (P m c) (D m c) (ix2 (⟨v - 512, h.2⟩ : Fin 8192) j)
    * YH (P m c) (ST m c) (ix4 (⟨(v - 512) / 128, by omega⟩ : Fin 64) (⟨j.val / 128, by omega⟩ : Fin 4) (⟨(v - 512) % 128, by omega⟩ : Fin 128) (⟨j.val % 128, by omega⟩ : Fin 128)) else 0

/-- A column of the chunk's sum. -/
theorem addh_row (live : EReal) (old : FVec Ideal S1x128 .f32) (y : FVec Ideal S128x128 .f32) (rg dm : FVec Ideal S128x128 .bf16) (e : Fin 128) :
    addh live old y rg dm (ix2 (0 : Fin 1) e) = old (ix2 (0 : Fin 1) e)
      + ∑ x : Fin 128, dm (ix2 x e) * live * (rg (ix2 x e) * Ideal.div 1 (1 + Ideal.exp (-rg (ix2 x e)))) * y (ix2 x e) := by
  pointwise [addh, k0_pay517, k0_pay516, k0_pay514, k0_pay513, k0_pay512]
  simp only [sub_eq_add_neg, zero_add]

/-- A row's term is the kernel's product in that row. -/
theorem gt_row (c : Dev nD) (n : Fin 64) (h : Fin 4) (i e : Fin 128) (v : ℕ) (hv : v = 512 + (n.val * 128 + i.val)) :
    gt m c (⟨128 * h.val + e.val, by omega⟩ : Fin 512) v
      = D m c (ix2 (⟨n.val * 128 + i.val, by omega⟩ : Fin 8192) (⟨512 + (128 * h.val + e.val), by omega⟩ : Fin 1024))
        * (TR (P m c) (ix2 (⟨16 + (n.val * 128 + i.val), by omega⟩ : Fin 8208) (⟨3584 + (h.val * 128 + e.val), by omega⟩ : Fin 4096))
          * Ideal.div 1 (1 + Ideal.exp (-TR (P m c) (ix2 (⟨16 + (n.val * 128 + i.val), by omega⟩ : Fin 8208) (⟨3584 + (h.val * 128 + e.val), by omega⟩ : Fin 4096)))))
        * YH (P m c) (ST m c) (ix4 n h i e) := by
  subst hv
  have e1 : (⟨(512 + (n.val * 128 + i.val) - 512) / 128, by omega⟩ : Fin 64) = n := Fin.ext (by dsimp only; omega)
  have e2 : (⟨(512 + (n.val * 128 + i.val) - 512) % 128, by omega⟩ : Fin 128) = i := Fin.ext (by dsimp only; omega)
  have e3 : (⟨(128 * h.val + e.val) / 128, by omega⟩ : Fin 4) = h := Fin.ext (by dsimp only; omega)
  have e4 : (⟨(128 * h.val + e.val) % 128, by omega⟩ : Fin 128) = e := Fin.ext (by dsimp only; omega)
  have e5 : (⟨512 + (n.val * 128 + i.val) - 512, by omega⟩ : Fin 8192) = ⟨n.val * 128 + i.val, by omega⟩ := Fin.ext (by dsimp only; omega)
  have e6 : (⟨3584 + (128 * h.val + e.val), by omega⟩ : Fin 4096) = ⟨3584 + (h.val * 128 + e.val), by omega⟩ := Fin.ext (by dsimp only; omega)
  rw [gt, dif_pos ⟨by omega, by omega⟩]
  simp only [e1, e2, e3, e4, e5]
  refine congrArg (· * _) ?_
  pointwise [DRET, RG, DM]
  rw [e6]

/-- A chunk adds its 128 rows' terms. -/
theorem add_row (c : Dev nD) (t : Fin cfg0.N) (k h : Fin 4)
    (a bq bk bv bg bd : ℕ) (ha : a = 128 * k.val) (hq : bq = 2048 + 128 * h.val) (hk : bk = 2560 + 128 * h.val) (hv : bv = 3072 + 128 * h.val) (hg : bg = 3584 + 128 * h.val) (hd : bd = 512 + 128 * h.val)
    (k' h' : ℕ) (hk' : k.val = k') (hh' : h.val = h') (i6 i7 iq ik iv i3 i8 i10 ig id) (old : FVec Ideal S1x128 .f32) (e : Fin 128) :
    addh (k0_pay2 (F := Ideal) (grid0.coords t)) old (yh (View.ld (Val := Elt Ideal) (e' := .f32) (iblk m c 6 t : FVec Ideal S512x128 .f32) (Rect.unit (s := S512x128) ![a, 0] ![128, 128] i6))
      (View.ld (Val := Elt Ideal) (e' := .f32) (iblk m c 7 t : FVec Ideal S512x128 .f32) (Rect.unit (s := S512x128) ![a, 0] ![128, 128] i7))
      (View.ld (Val := Elt Ideal) (e' := .bf16) (iblk m c 0 t : FVec Ideal S512x4096 .bf16) (Rect.unit (s := S512x4096) ![a, bq] ![128, 128] iq))
      (View.ld (Val := Elt Ideal) (e' := .bf16) (iblk m c 0 t : FVec Ideal S512x4096 .bf16) (Rect.unit (s := S512x4096) ![a, bk] ![128, 128] ik))
      (View.ld (Val := Elt Ideal) (e' := .bf16) (iblk m c 0 t : FVec Ideal S512x4096 .bf16) (Rect.unit (s := S512x4096) ![a, bv] ![128, 128] iv))
      (View.ld (Val := Elt Ideal) (e' := .bf16) (iblk m c 3 t : FVec Ideal S4x4x128x128 .bf16) (Rect.unit (s := S4x4x128x128) ![k', h', 0, 0] ![1, 1, 128, 128] i3))
      (View.ld (Val := Elt Ideal) (e' := .f32) (iblk m c 8 t : FVec Ideal S4x128x128 .f32) (Rect.unit (s := S4x128x128) ![h', 0, 0] ![1, 128, 128] i8))
      (View.ld (Val := Elt Ideal) (e' := .f32) (iblk m c 10 t : FVec Ideal S4x128x128 .f32) (Rect.unit (s := S4x128x128) ![h', 0, 0] ![1, 128, 128] i10)))
      (View.ld (Val := Elt Ideal) (e' := .bf16) (iblk m c 0 t : FVec Ideal S512x4096 .bf16) (Rect.unit (s := S512x4096) ![a, bg] ![128, 128] ig))
      (View.ld (Val := Elt Ideal) (e' := .bf16) (iblk m c 1 t : FVec Ideal S512x1024 .bf16) (Rect.unit (s := S512x1024) ![a, bd] ![128, 128] id)) (ix2 (0 : Fin 1) e)
      = old (ix2 (0 : Fin 1) e) + ∑ i : Fin 128, gt m c (⟨128 * h.val + e.val, by omega⟩ : Fin 512) (512 * (16 - t.val) + (128 * k.val + i.val)) := by
  have ht := lt17 t
  rw [addh_row]
  refine congrArg (old (ix2 (0 : Fin 1) e) + ·) (Finset.sum_congr rfl fun i _ => ?_)
  by_cases h0 : t.val = 16
  · rw [live0 t h0, mul_zero, zero_mul, zero_mul, gt, dif_neg (by omega)]
  have hn : 4 * (15 - t.val) + k.val < 64 := by omega
  have ed : (View.ld (Val := Elt Ideal) (e' := .bf16) (iblk m c 1 t : FVec Ideal S512x1024 .bf16) (Rect.unit (s := S512x1024) ![a, bd] ![128, 128] id) : FVec Ideal S128x128 .bf16) (ix2 i e)
      = D m c (ix2 (⟨(4 * (15 - t.val) + k.val) * 128 + i.val, by omega⟩ : Fin 8192) (⟨512 + (128 * h.val + e.val), by omega⟩ : Fin 1024)) :=
    (ld2_apply _ a bd id i e (by omega) (by omega)).trans ((d_row m c t h0 _ _).trans
      (congrArg₂ (fun (R : Fin 8192) (C : Fin 1024) => D m c (ix2 R C)) (Fin.ext (by dsimp only; omega)) (Fin.ext (by dsimp only; omega))))
  rw [live1 t h0, mul_one, gt_row m c ⟨_, hn⟩ h i e _ (by dsimp only; omega),
    yh_row (P m c) (ST m c) ⟨_, hn⟩ h _ _ _ _ _ _ _ _ (loads m c t h0 k h ⟨_, hn⟩ rfl a bq bk bv ha hq hk hv k' h' hk' hh' i6 i7 iq ik iv i3 i8 i10) i e,
    cols m c t h0 k h ⟨_, hn⟩ rfl a bg 3584 (by decide) ha hg ig i e]
  exact congrArg (fun x => x * _ * _) ed

end Cert.MixIdeal.Tile
-- ==== Proof.MixNorm.lean ====
/-
  The gradient of the retention norm's gain, over the grid: each point adds its tile's rows of the sum, the first point
  starts at zero, and after the last it is the reference's sum over the sequence.
-/
module

public import proofs.«01_k».proof.Proof.MixTile
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

variable (m : (ℓ : Loc nD τ sig) → Buf (Elt Ideal) ℓ)

/-- What a tile adds to the norm scale's derivative. -/
def part15 (c : Dev nD) (t : Fin cfg0.N) (y : S1x512.Idx) : EReal := ∑ i : Fin 512, gt m c (y 1 : Fin 512) (512 * (16 - t.val) + i.val)

/-- Four chunks' sums, last chunk first, are the tile's. -/
theorem sum4 (f : ℕ → EReal) (b : ℕ) : (((0 + ∑ i : Fin 128, f (b + (128 * (3 : Fin 4).val + i.val))) + ∑ i : Fin 128, f (b + (128 * (2 : Fin 4).val + i.val))) + ∑ i : Fin 128, f (b + (128 * (1 : Fin 4).val + i.val)))
    + ∑ i : Fin 128, f (b + (128 * (0 : Fin 4).val + i.val)) = ∑ i : Fin 512, f (b + i.val) := by
  refine Eq.trans ?_ (Fin.sum_mul_add_congr (F := fun (s : Fin 4) (i : Fin 128) => f (b + (128 * s.val + i.val))) (f := fun i : Fin 512 => f (b + i.val)) fun s k hl => congrArg f (by dsimp only; omega))
  rw [Fin.sum_univ_four, zero_add]
  ac_rfl

/-- The tile's sum is added to the columns kept in VMEM. -/
theorem fin592 (a o : FVec Ideal S1x128 .f32) (e : Fin 128) : k0_pay592 a o (ix2 (0 : Fin 1) e) = o (ix2 (0 : Fin 1) e) + a (ix2 (0 : Fin 1) e) := by
  pointwise [k0_pay592]
theorem fin594 (a o : FVec Ideal S1x128 .f32) (e : Fin 128) : k0_pay594 a o (ix2 (0 : Fin 1) e) = o (ix2 (0 : Fin 1) e) + a (ix2 (0 : Fin 1) e) := by
  pointwise [k0_pay594]
theorem fin596 (a o : FVec Ideal S1x128 .f32) (e : Fin 128) : k0_pay596 a o (ix2 (0 : Fin 1) e) = o (ix2 (0 : Fin 1) e) + a (ix2 (0 : Fin 1) e) := by
  pointwise [k0_pay596]
theorem fin1 (a o : FVec Ideal S1x128 .f32) (e : Fin 128) : k0_pay1 a o (ix2 (0 : Fin 1) e) = o (ix2 (0 : Fin 1) e) + a (ix2 (0 : Fin 1) e) := by
  pointwise [k0_pay1]

theorem at_col (b : ℕ) (e : Fin 128) (h : b + e.val < 512) : ∀ a : Fin 2, ((ix2 (0 : Fin 1) (⟨b + e.val, h⟩ : Fin 512) : S1x512.Idx) a).val = (![0, b] : Fin 2 → ℕ) a + ((ix2 (0 : Fin 1) e : S1x128.Idx) a).val := by
  intro a
  match a with
  | 0 => rfl
  | 1 => rfl

/-- Stored columns are read where they were stored, and what was stored before them elsewhere. -/
theorem canon_on (k : ℕ) (inb) (w) (L : List (View.Piece (Elt Ideal) S1x512 .f32)) (y : S1x512.Idx) (x : (Rect.unit ![0, k] ![1, 128] inb : Rect S1x512).shape.Idx)
    (h : ∀ a : Fin 2, (y a).val = (![0, k] : Fin 2 → ℕ) a + (x a).val) :
    View.canon ((⟨Rect.unit ![0, k] ![1, 128] inb, w⟩ : View.Piece (Elt Ideal) S1x512 .f32) :: L) y = w x := by
  rw [show y = (Rect.unit ![0, k] ![1, 128] inb : Rect S1x512).emb x from funext fun a => Fin.ext ((h a).trans (congrArg _ (Nat.one_mul _).symm))]
  exact View.canon_cons_emb _ w L x

theorem canon_off (k : ℕ) (inb) (w) (L : List (View.Piece (Elt Ideal) S1x512 .f32)) (y : S1x512.Idx) (h : (y 1).val < k ∨ k + 128 ≤ (y 1).val) :
    View.canon ((⟨Rect.unit ![0, k] ![1, 128] inb, w⟩ : View.Piece (Elt Ideal) S1x512 .f32) :: L) y = View.canon L y := by
  refine View.canon_cons_of_not_mem _ _ fun hm => ?_
  have := (Rect.mem_set_unit (inb := inb) |>.mp hm) 1
  change k ≤ (y 1).val ∧ (y 1).val < k + 128 at this
  omega

theorem ldo (X : FVec Ideal S1x512 .f32) (b : ℕ) (inb) (e : Fin 128) (h : b + e.val < 512) :
    (View.ld (Val := Elt Ideal) (e' := .f32) X (Rect.unit (s := S1x512) ![0, b] ![1, 128] inb) : FVec Ideal S1x128 .f32) (ix2 (0 : Fin 1) e) = X (ix2 (0 : Fin 1) (⟨b + e.val, h⟩ : Fin 512)) :=
  congrArg X (funext fun a => Fin.ext ((congrArg _ (Nat.one_mul _)).trans (at_col b e h a).symm))

set_option maxHeartbeats 2000000 in
/-- A point after the first adds its tile's part. -/
theorem step15 (c : Dev nD) (t : Fin cfg0.N) (h0 : ¬t.val % 17 = 0) (y : S1x512.Idx) :
    (outsAt0 m c t.val t.isLt).2.2.1 y = (outsAt0 m c (t.val - 1) (Nat.lt_of_le_of_lt (Nat.sub_le _ _) t.isLt)).2.2.1 y + part15 m c t y := by
  obtain ⟨j, rfl⟩ : ∃ j : Fin 512, y = ix2 (0 : Fin 1) j := ⟨y 1, by blk_ext⟩
  rw [outsAt0_B m c t h0]
  frame_out
  by_cases h3 : 384 ≤ j.val
  · obtain ⟨e, hb, rfl⟩ : ∃ (e : Fin 128) (hb : 384 + e.val < 512), j = ⟨384 + e.val, hb⟩ := ⟨⟨j.val - 384, by omega⟩, by dsimp only; omega, Fin.ext (by dsimp only; omega)⟩
    refine (canon_on 384 _ _ _ _ (ix2 (0 : Fin 1) e) (at_col 384 e hb)).trans ?_
    refine (fin1 _ _ e).trans (congrArg₂ (· + ·) ?_ ?_)
    · exact ldo _ 384 _ e hb
    refine Eq.trans ?_ (sum4 (gt m c (⟨384 + e.val, by omega⟩ : Fin 512)) (512 * (16 - t.val)))
    refine (congrFun (acc0_3 _ _ _ _ _ _ _ _ _ _ _ _) (ix2 (0 : Fin 1) e)).trans ((add_row m c t 0 3 0 2432 2944 3456 3968 896 rfl rfl rfl rfl rfl rfl 0 3 rfl rfl _ _ _ _ _ _ _ _ _ _ _ e).trans (congrArg (· + _) ?_))
    refine (congrFun (acc1_3 _ _ _ _ _ _ _ _ _ _ _ _) (ix2 (0 : Fin 1) e)).trans ((add_row m c t 1 3 128 2432 2944 3456 3968 896 rfl rfl rfl rfl rfl rfl 1 3 rfl rfl _ _ _ _ _ _ _ _ _ _ _ e).trans (congrArg (· + _) ?_))
    refine (congrFun (acc2_3 _ _ _ _ _ _ _ _ _ _ _ _) (ix2 (0 : Fin 1) e)).trans ((add_row m c t 2 3 256 2432 2944 3456 3968 896 rfl rfl rfl rfl rfl rfl 2 3 rfl rfl _ _ _ _ _ _ _ _ _ _ _ e).trans (congrArg (· + _) ?_))
    refine (congrFun (acc3_3 _ _ _ _ _ _ _ _ _ _ _ _) (ix2 (0 : Fin 1) e)).trans ((add_row m c t 3 3 384 2432 2944 3456 3968 896 rfl rfl rfl rfl rfl rfl 3 3 rfl rfl _ _ _ _ _ _ _ _ _ _ _ e).trans (congrArg (· + _) ?_))
    pointwise [k0_pay39]
  by_cases h2 : 256 ≤ j.val
  · obtain ⟨e, hb, rfl⟩ : ∃ (e : Fin 128) (hb : 256 + e.val < 512), j = ⟨256 + e.val, hb⟩ := ⟨⟨j.val - 256, by omega⟩, by dsimp only; omega, Fin.ext (by dsimp only; omega)⟩
    refine (canon_off 384 _ _ _ _ (.inl (by change 256 + e.val < 384; omega))).trans ?_
    refine (canon_on 256 _ _ _ _ (ix2 (0 : Fin 1) e) (at_col 256 e hb)).trans ?_
    refine (fin596 _ _ e).trans (congrArg₂ (· + ·) ?_ ?_)
    · exact ldo _ 256 _ e hb
    refine Eq.trans ?_ (sum4 (gt m c (⟨256 + e.val, by omega⟩ : Fin 512)) (512 * (16 - t.val)))
    refine (congrFun (acc0_2 _ _ _ _ _ _ _ _ _ _ _ _) (ix2 (0 : Fin 1) e)).trans ((add_row m c t 0 2 0 2304 2816 3328 3840 768 rfl rfl rfl rfl rfl rfl 0 2 rfl rfl _ _ _ _ _ _ _ _ _ _ _ e).trans (congrArg (· + _) ?_))
    refine (congrFun (acc1_2 _ _ _ _ _ _ _ _ _ _ _ _) (ix2 (0 : Fin 1) e)).trans ((add_row m c t 1 2 128 2304 2816 3328 3840 768 rfl rfl rfl rfl rfl rfl 1 2 rfl rfl _ _ _ _ _ _ _ _ _ _ _ e).trans (congrArg (· + _) ?_))
    refine (congrFun (acc2_2 _ _ _ _ _ _ _ _ _ _ _ _) (ix2 (0 : Fin 1) e)).trans ((add_row m c t 2 2 256 2304 2816 3328 3840 768 rfl rfl rfl rfl rfl rfl 2 2 rfl rfl _ _ _ _ _ _ _ _ _ _ _ e).trans (congrArg (· + _) ?_))
    refine (congrFun (acc3_2 _ _ _ _ _ _ _ _ _ _ _ _) (ix2 (0 : Fin 1) e)).trans ((add_row m c t 3 2 384 2304 2816 3328 3840 768 rfl rfl rfl rfl rfl rfl 3 2 rfl rfl _ _ _ _ _ _ _ _ _ _ _ e).trans (congrArg (· + _) ?_))
    pointwise [k0_pay38]
  by_cases h1 : 128 ≤ j.val
  · obtain ⟨e, hb, rfl⟩ : ∃ (e : Fin 128) (hb : 128 + e.val < 512), j = ⟨128 + e.val, hb⟩ := ⟨⟨j.val - 128, by omega⟩, by dsimp only; omega, Fin.ext (by dsimp only; omega)⟩
    refine (canon_off 384 _ _ _ _ (.inl (by change 128 + e.val < 384; omega))).trans ?_
    refine (canon_off 256 _ _ _ _ (.inl (by change 128 + e.val < 256; omega))).trans ?_
    refine (canon_on 128 _ _ _ _ (ix2 (0 : Fin 1) e) (at_col 128 e hb)).trans ?_
    refine (fin594 _ _ e).trans (congrArg₂ (· + ·) ?_ ?_)
    · exact ldo _ 128 _ e hb
    refine Eq.trans ?_ (sum4 (gt m c (⟨128 + e.val, by omega⟩ : Fin 512)) (512 * (16 - t.val)))
    refine (congrFun (acc0_1 _ _ _ _ _ _ _ _ _ _ _ _) (ix2 (0 : Fin 1) e)).trans ((add_row m c t 0 1 0 2176 2688 3200 3712 640 rfl rfl rfl rfl rfl rfl 0 1 rfl rfl _ _ _ _ _ _ _ _ _ _ _ e).trans (congrArg (· + _) ?_))
    refine (congrFun (acc1_1 _ _ _ _ _ _ _ _ _ _ _ _) (ix2 (0 : Fin 1) e)).trans ((add_row m c t 1 1 128 2176 2688 3200 3712 640 rfl rfl rfl rfl rfl rfl 1 1 rfl rfl _ _ _ _ _ _ _ _ _ _ _ e).trans (congrArg (· + _) ?_))
    refine (congrFun (acc2_1 _ _ _ _ _ _ _ _ _ _ _ _) (ix2 (0 : Fin 1) e)).trans ((add_row m c t 2 1 256 2176 2688 3200 3712 640 rfl rfl rfl rfl rfl rfl 2 1 rfl rfl _ _ _ _ _ _ _ _ _ _ _ e).trans (congrArg (· + _) ?_))
    refine (congrFun (acc3_1 _ _ _ _ _ _ _ _ _ _ _ _) (ix2 (0 : Fin 1) e)).trans ((add_row m c t 3 1 384 2176 2688 3200 3712 640 rfl rfl rfl rfl rfl rfl 3 1 rfl rfl _ _ _ _ _ _ _ _ _ _ _ e).trans (congrArg (· + _) ?_))
    pointwise [k0_pay37]
  · obtain ⟨e, hb, rfl⟩ : ∃ (e : Fin 128) (hb : 0 + e.val < 512), j = ⟨0 + e.val, hb⟩ := ⟨⟨j.val - 0, by omega⟩, by dsimp only; omega, Fin.ext (by dsimp only; omega)⟩
    refine (canon_off 384 _ _ _ _ (.inl (by change 0 + e.val < 384; omega))).trans ?_
    refine (canon_off 256 _ _ _ _ (.inl (by change 0 + e.val < 256; omega))).trans ?_
    refine (canon_off 128 _ _ _ _ (.inl (by change 0 + e.val < 128; omega))).trans ?_
    refine (canon_on 0 _ _ _ _ (ix2 (0 : Fin 1) e) (at_col 0 e hb)).trans ?_
    refine (fin592 _ _ e).trans (congrArg₂ (· + ·) ?_ ?_)
    · exact ldo _ 0 _ e hb
    refine Eq.trans ?_ (sum4 (gt m c (⟨0 + e.val, by omega⟩ : Fin 512)) (512 * (16 - t.val)))
    refine (congrFun (acc0_0 _ _ _ _ _ _ _ _ _ _ _ _) (ix2 (0 : Fin 1) e)).trans ((add_row m c t 0 0 0 2048 2560 3072 3584 512 rfl rfl rfl rfl rfl rfl 0 0 rfl rfl _ _ _ _ _ _ _ _ _ _ _ e).trans (congrArg (· + _) ?_))
    refine (congrFun (acc1_0 _ _ _ _ _ _ _ _ _ _ _ _) (ix2 (0 : Fin 1) e)).trans ((add_row m c t 1 0 128 2048 2560 3072 3584 512 rfl rfl rfl rfl rfl rfl 1 0 rfl rfl _ _ _ _ _ _ _ _ _ _ _ e).trans (congrArg (· + _) ?_))
    refine (congrFun (acc2_0 _ _ _ _ _ _ _ _ _ _ _ _) (ix2 (0 : Fin 1) e)).trans ((add_row m c t 2 0 256 2048 2560 3072 3584 512 rfl rfl rfl rfl rfl rfl 2 0 rfl rfl _ _ _ _ _ _ _ _ _ _ _ e).trans (congrArg (· + _) ?_))
    refine (congrFun (acc3_0 _ _ _ _ _ _ _ _ _ _ _ _) (ix2 (0 : Fin 1) e)).trans ((add_row m c t 3 0 384 2048 2560 3072 3584 512 rfl rfl rfl rfl rfl rfl 3 0 rfl rfl _ _ _ _ _ _ _ _ _ _ _ e).trans (congrArg (· + _) ?_))
    pointwise [k0_pay36]

set_option maxHeartbeats 2000000 in
/-- The first point leaves its tile's part. -/
theorem init15 (c : Dev nD) (t : Fin cfg0.N) (h0 : t.val % 17 = 0) (y : S1x512.Idx) :
    (outsAt0 m c t.val t.isLt).2.2.1 y = (0 : EReal) + part15 m c t y := by
  obtain ⟨j, rfl⟩ : ∃ j : Fin 512, y = ix2 (0 : Fin 1) j := ⟨y 1, by blk_ext⟩
  have z : ∀ r : Fin 512, (k0_pay6 : FVec Ideal S1x512 .f32) (ix2 (0 : Fin 1) r) = (0 : EReal) := fun r => by pointwise [k0_pay6]
  rw [outsAt0_A m c t h0]
  frame_out
  simp (disch := decide) only [↓ View.readCov_skip, ↓ View.readCov_cons_toLoadRect, ↓ View.readCov_fill]
  by_cases h3 : 384 ≤ j.val
  · obtain ⟨e, hb, rfl⟩ : ∃ (e : Fin 128) (hb : 384 + e.val < 512), j = ⟨384 + e.val, hb⟩ := ⟨⟨j.val - 384, by omega⟩, by dsimp only; omega, Fin.ext (by dsimp only; omega)⟩
    refine (canon_on 384 _ _ _ _ (ix2 (0 : Fin 1) e) (at_col 384 e hb)).trans ?_
    refine (fin1 _ _ e).trans (congrArg₂ (· + ·) ?_ ?_)
    · exact (ldo _ 384 _ e hb).trans (z _)
    refine Eq.trans ?_ (sum4 (gt m c (⟨384 + e.val, by omega⟩ : Fin 512)) (512 * (16 - t.val)))
    refine (congrFun (acc0_3 _ _ _ _ _ _ _ _ _ _ _ _) (ix2 (0 : Fin 1) e)).trans ((add_row m c t 0 3 0 2432 2944 3456 3968 896 rfl rfl rfl rfl rfl rfl 0 3 rfl rfl _ _ _ _ _ _ _ _ _ _ _ e).trans (congrArg (· + _) ?_))
    refine (congrFun (acc1_3 _ _ _ _ _ _ _ _ _ _ _ _) (ix2 (0 : Fin 1) e)).trans ((add_row m c t 1 3 128 2432 2944 3456 3968 896 rfl rfl rfl rfl rfl rfl 1 3 rfl rfl _ _ _ _ _ _ _ _ _ _ _ e).trans (congrArg (· + _) ?_))
    refine (congrFun (acc2_3 _ _ _ _ _ _ _ _ _ _ _ _) (ix2 (0 : Fin 1) e)).trans ((add_row m c t 2 3 256 2432 2944 3456 3968 896 rfl rfl rfl rfl rfl rfl 2 3 rfl rfl _ _ _ _ _ _ _ _ _ _ _ e).trans (congrArg (· + _) ?_))
    refine (congrFun (acc3_3 _ _ _ _ _ _ _ _ _ _ _ _) (ix2 (0 : Fin 1) e)).trans ((add_row m c t 3 3 384 2432 2944 3456 3968 896 rfl rfl rfl rfl rfl rfl 3 3 rfl rfl _ _ _ _ _ _ _ _ _ _ _ e).trans (congrArg (· + _) ?_))
    pointwise [k0_pay39]
  by_cases h2 : 256 ≤ j.val
  · obtain ⟨e, hb, rfl⟩ : ∃ (e : Fin 128) (hb : 256 + e.val < 512), j = ⟨256 + e.val, hb⟩ := ⟨⟨j.val - 256, by omega⟩, by dsimp only; omega, Fin.ext (by dsimp only; omega)⟩
    refine (canon_off 384 _ _ _ _ (.inl (by change 256 + e.val < 384; omega))).trans ?_
    refine (canon_on 256 _ _ _ _ (ix2 (0 : Fin 1) e) (at_col 256 e hb)).trans ?_
    refine (fin596 _ _ e).trans (congrArg₂ (· + ·) ?_ ?_)
    · exact (ldo _ 256 _ e hb).trans (z _)
    refine Eq.trans ?_ (sum4 (gt m c (⟨256 + e.val, by omega⟩ : Fin 512)) (512 * (16 - t.val)))
    refine (congrFun (acc0_2 _ _ _ _ _ _ _ _ _ _ _ _) (ix2 (0 : Fin 1) e)).trans ((add_row m c t 0 2 0 2304 2816 3328 3840 768 rfl rfl rfl rfl rfl rfl 0 2 rfl rfl _ _ _ _ _ _ _ _ _ _ _ e).trans (congrArg (· + _) ?_))
    refine (congrFun (acc1_2 _ _ _ _ _ _ _ _ _ _ _ _) (ix2 (0 : Fin 1) e)).trans ((add_row m c t 1 2 128 2304 2816 3328 3840 768 rfl rfl rfl rfl rfl rfl 1 2 rfl rfl _ _ _ _ _ _ _ _ _ _ _ e).trans (congrArg (· + _) ?_))
    refine (congrFun (acc2_2 _ _ _ _ _ _ _ _ _ _ _ _) (ix2 (0 : Fin 1) e)).trans ((add_row m c t 2 2 256 2304 2816 3328 3840 768 rfl rfl rfl rfl rfl rfl 2 2 rfl rfl _ _ _ _ _ _ _ _ _ _ _ e).trans (congrArg (· + _) ?_))
    refine (congrFun (acc3_2 _ _ _ _ _ _ _ _ _ _ _ _) (ix2 (0 : Fin 1) e)).trans ((add_row m c t 3 2 384 2304 2816 3328 3840 768 rfl rfl rfl rfl rfl rfl 3 2 rfl rfl _ _ _ _ _ _ _ _ _ _ _ e).trans (congrArg (· + _) ?_))
    pointwise [k0_pay38]
  by_cases h1 : 128 ≤ j.val
  · obtain ⟨e, hb, rfl⟩ : ∃ (e : Fin 128) (hb : 128 + e.val < 512), j = ⟨128 + e.val, hb⟩ := ⟨⟨j.val - 128, by omega⟩, by dsimp only; omega, Fin.ext (by dsimp only; omega)⟩
    refine (canon_off 384 _ _ _ _ (.inl (by change 128 + e.val < 384; omega))).trans ?_
    refine (canon_off 256 _ _ _ _ (.inl (by change 128 + e.val < 256; omega))).trans ?_
    refine (canon_on 128 _ _ _ _ (ix2 (0 : Fin 1) e) (at_col 128 e hb)).trans ?_
    refine (fin594 _ _ e).trans (congrArg₂ (· + ·) ?_ ?_)
    · exact (ldo _ 128 _ e hb).trans (z _)
    refine Eq.trans ?_ (sum4 (gt m c (⟨128 + e.val, by omega⟩ : Fin 512)) (512 * (16 - t.val)))
    refine (congrFun (acc0_1 _ _ _ _ _ _ _ _ _ _ _ _) (ix2 (0 : Fin 1) e)).trans ((add_row m c t 0 1 0 2176 2688 3200 3712 640 rfl rfl rfl rfl rfl rfl 0 1 rfl rfl _ _ _ _ _ _ _ _ _ _ _ e).trans (congrArg (· + _) ?_))
    refine (congrFun (acc1_1 _ _ _ _ _ _ _ _ _ _ _ _) (ix2 (0 : Fin 1) e)).trans ((add_row m c t 1 1 128 2176 2688 3200 3712 640 rfl rfl rfl rfl rfl rfl 1 1 rfl rfl _ _ _ _ _ _ _ _ _ _ _ e).trans (congrArg (· + _) ?_))
    refine (congrFun (acc2_1 _ _ _ _ _ _ _ _ _ _ _ _) (ix2 (0 : Fin 1) e)).trans ((add_row m c t 2 1 256 2176 2688 3200 3712 640 rfl rfl rfl rfl rfl rfl 2 1 rfl rfl _ _ _ _ _ _ _ _ _ _ _ e).trans (congrArg (· + _) ?_))
    refine (congrFun (acc3_1 _ _ _ _ _ _ _ _ _ _ _ _) (ix2 (0 : Fin 1) e)).trans ((add_row m c t 3 1 384 2176 2688 3200 3712 640 rfl rfl rfl rfl rfl rfl 3 1 rfl rfl _ _ _ _ _ _ _ _ _ _ _ e).trans (congrArg (· + _) ?_))
    pointwise [k0_pay37]
  · obtain ⟨e, hb, rfl⟩ : ∃ (e : Fin 128) (hb : 0 + e.val < 512), j = ⟨0 + e.val, hb⟩ := ⟨⟨j.val - 0, by omega⟩, by dsimp only; omega, Fin.ext (by dsimp only; omega)⟩
    refine (canon_off 384 _ _ _ _ (.inl (by change 0 + e.val < 384; omega))).trans ?_
    refine (canon_off 256 _ _ _ _ (.inl (by change 0 + e.val < 256; omega))).trans ?_
    refine (canon_off 128 _ _ _ _ (.inl (by change 0 + e.val < 128; omega))).trans ?_
    refine (canon_on 0 _ _ _ _ (ix2 (0 : Fin 1) e) (at_col 0 e hb)).trans ?_
    refine (fin592 _ _ e).trans (congrArg₂ (· + ·) ?_ ?_)
    · exact (ldo _ 0 _ e hb).trans (z _)
    refine Eq.trans ?_ (sum4 (gt m c (⟨0 + e.val, by omega⟩ : Fin 512)) (512 * (16 - t.val)))
    refine (congrFun (acc0_0 _ _ _ _ _ _ _ _ _ _ _ _) (ix2 (0 : Fin 1) e)).trans ((add_row m c t 0 0 0 2048 2560 3072 3584 512 rfl rfl rfl rfl rfl rfl 0 0 rfl rfl _ _ _ _ _ _ _ _ _ _ _ e).trans (congrArg (· + _) ?_))
    refine (congrFun (acc1_0 _ _ _ _ _ _ _ _ _ _ _ _) (ix2 (0 : Fin 1) e)).trans ((add_row m c t 1 0 128 2048 2560 3072 3584 512 rfl rfl rfl rfl rfl rfl 1 0 rfl rfl _ _ _ _ _ _ _ _ _ _ _ e).trans (congrArg (· + _) ?_))
    refine (congrFun (acc2_0 _ _ _ _ _ _ _ _ _ _ _ _) (ix2 (0 : Fin 1) e)).trans ((add_row m c t 2 0 256 2048 2560 3072 3584 512 rfl rfl rfl rfl rfl rfl 2 0 rfl rfl _ _ _ _ _ _ _ _ _ _ _ e).trans (congrArg (· + _) ?_))
    refine (congrFun (acc3_0 _ _ _ _ _ _ _ _ _ _ _ _) (ix2 (0 : Fin 1) e)).trans ((add_row m c t 3 0 384 2048 2560 3072 3584 512 rfl rfl rfl rfl rfl rfl 3 0 rfl rfl _ _ _ _ _ _ _ _ _ _ _ e).trans (congrArg (· + _) ?_))
    pointwise [k0_pay36]

/-- The seventeen tiles' rows, last tile first, are all the rows, the meta tokens' being zero. -/
theorem seq_sum (f : ℕ → EReal) (g : Fin 8192 → EReal) (h0 : ∀ v, v < 512 → f v = 0) (h : ∀ R : Fin 8192, f (512 + R.val) = g R) :
    ∑ t : Fin 17, ∑ i : Fin 512, f (512 * (16 - t.val) + i.val) = ∑ R : Fin 8192, g R := by
  refine (Equiv.sum_comp Fin.revPerm fun t : Fin 17 => ∑ i : Fin 512, f (512 * (16 - t.val) + i.val)).symm.trans ?_
  refine Eq.trans (b := ∑ v : Fin 8704, f v.val) ?_ ((Fin.sum_univ_add (a := 512) (b := 8192) fun v : Fin 8704 => f v.val).trans ?_)
  · refine Fin.sum_mul_add_congr fun s k hl => ?_
    exact congrArg f (by simp only [Fin.revPerm_apply, Fin.val_rev]; omega)
  · rw [Finset.sum_eq_zero fun i _ => h0 _ i.isLt, zero_add]
    exact Finset.sum_congr rfl fun R _ => h R

/-- After the last point the array is the reference's gradient. -/
theorem arr15 (c : Dev nD) : (dats m 0 c).arrAt 15 (cfgs 0).N = GRET (P m c) (D m c) (ST m c) := by
  refine (dats m 0 c).arrAt_eq_of_after_last 15 last (by decide +kernel) _ fun y => ?_
  blk_simp
  rw [after0_15, Pipeline.eq_sum_fin_of_reset_step_apply_last (fun n h => (outsAt0 m c n h).2.2.1) 17 (fun _ => (0 : EReal)) (part15 m c)
    (fun t h j => init15 m c t h j) (fun t h j => step15 m c t h j) (le_of_eq N_0) last rfl y, zero_add]
  obtain ⟨j, rfl⟩ : ∃ j : Fin 512, y = ix2 (0 : Fin 1) j := ⟨y 1, by blk_ext⟩
  simp only [part15]
  pointwise [GRET]
  refine seq_sum (gt m c j) _ (fun v hv => dif_neg (by omega)) fun R => ?_
  rw [gt, dif_pos ⟨by omega, by omega⟩]
  have e : (⟨512 + R.val - 512, by omega⟩ : Fin 8192) = R := Fin.ext (by dsimp only; omega)
  simp only [e, Nat.add_sub_cancel_left]

end Cert.MixIdeal.Tile
-- ==== Proof.MixClaims.lean ====
/-
  The claims for the backward pass of the convolution and of the retention: the frames, and that kernel and reference end
  with the same gradients at the extended reals.
-/
module

public import proofs.«01_k».proof.Defs
public import proofs.«01_k».proof.Proof.MixNorm
public import proofs.«01_k».proof.Proof.Gen.MixIdeal.Value
public import Idealize.ShloMosaic.Lib.Pipeline.ValueKit
public import Idealize.ShloMosaic.Lib.Tactic
public import Idealize.ShloMosaic.Lib.Pipeline.Value
public import Idealize.ShloMosaic.Lib.Pipeline.ReadBack
public import Idealize.ShloMosaic.Lib.WritesUnit
public import proofs.«01_k».proof.Proof.Gen.Mix.Frame
public import proofs.«01_k».proof.Proof.Gen.MixRefIdeal.Run

@[expose] public section

set_option maxRecDepth 16384

noncomputable section

open Idealize.ShloMosaic Idealize.ShloMosaic.TcCoe Idealize.SL.Sem

namespace Cert.MixIdeal.Tile

open Cert.MixIdeal Cert.MixIdeal.Gen Cert.MixRefIdeal.Lines

variable (m : (ℓ : Loc nD τ sig) → Buf (Elt Ideal) ℓ)

/-- Every run leaves the two results, and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v80_1) = GCW (m ((c : Thread nD τ).loc main_arg0)) (m ((c : Thread nD τ).loc main_arg1)) ∧
      r.2.mem ((c : Thread nD τ).loc main_v80_2) = GRET (m ((c : Thread nD τ).loc main_arg0)) (m ((c : Thread nD τ).loc main_arg1)) (m ((c : Thread nD τ).loc main_arg3)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5)) :=
  (θ_run defs _ _).mono (fun r h c => ⟨(h c).2.1.trans (arr14 m c), (h c).2.2.1.trans (arr15 m c), (h c).2.2.2⟩) (Cert.MixIdeal.Value.run_blocks m ρ)

end Cert.MixIdeal.Tile

namespace Cert.Proof.MixClaims

/-- The frames: every run ends, leaves the arguments as they were and all semaphores at zero. -/
theorem frame_kernel : Cert.quiescent_Mix := fun m ρ _ => Cert.Mix.Gen.frame m ρ

theorem frame_ideal : Cert.quiescent_MixIdeal := fun m ρ _ => Cert.MixIdeal.Gen.frame m ρ

theorem frame_reference : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The idealization replaces nothing. -/
theorem preserves : Cert.preserves_Mix_MixIdeal := trivial

/-- At the extended reals, from arguments that agree, kernel and reference end with the same results. -/
theorem algebraic : Cert.algebraic_MixIdeal_MixRefIdeal := by
  intro m ρ m' ρ' _ hag
  refine ⟨fun c => Cert.MixRefIdeal.Lines.GCW (m ((c.tc : Thread Cert.MixIdeal.nD Cert.MixIdeal.τ).loc Cert.MixIdeal.main_arg0)) (m ((c.tc : Thread Cert.MixIdeal.nD Cert.MixIdeal.τ).loc Cert.MixIdeal.main_arg1)),
    fun c => Cert.MixRefIdeal.Lines.GRET (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg3)), ?_, ?_⟩
  · exact Cert.MixIdeal.Tile.run m ρ
  · refine (θ_run Cert.MixRefIdeal.defs _ _).mono (fun r h c => ?_) (Cert.MixRefIdeal.Value.run (F := Ideal) m' ρ')
    replace h := h c
    obtain ⟨h0, h1, hr⟩ := h
    obtain ⟨a0, a1, a2, a3, a4, a5⟩ := hag c
    refine ⟨h0.trans ?_, h1.trans ?_, hr⟩ <;> clear h0 h1 hr <;> beta_reduce
    · rw [← a0, ← a1]; rfl
    · rw [← a0, ← a1, ← a3]; rfl

end Cert.Proof.MixClaims

end
-- ==== Proof.lean ====
/-
  The proof of `Cert.Claim`: for each call the three frames, that the idealization changes nothing, and that kernel and
  reference compute the same results at the extended reals.
-/
module

public import proofs.«01_k».proof.Defs
public import proofs.«01_k».proof.Proof.Gen.OutLoss
public import proofs.«01_k».proof.Proof.Gen.OutLoss.Skeleton
public import proofs.«01_k».proof.Proof.Gen.OutLoss.Launch
public import proofs.«01_k».proof.Proof.Gen.OutLoss.Points
public import proofs.«01_k».proof.Proof.Gen.OutLoss.Frame
public import proofs.«01_k».proof.Proof.Gen.OutLossIdeal
public import proofs.«01_k».proof.Proof.Gen.OutLossIdeal.Skeleton
public import proofs.«01_k».proof.Proof.Gen.OutLossIdeal.Launch
public import proofs.«01_k».proof.Proof.Gen.OutLossIdeal.Points
public import proofs.«01_k».proof.Proof.Gen.OutLossIdeal.Frame
public import proofs.«01_k».proof.Proof.Gen.OutLossRefIdeal
public import proofs.«01_k».proof.Proof.Gen.OutLossRefIdeal.Run
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradRefIdeal
public import proofs.«01_k».proof.Proof.Gen.InGradRefIdeal.Run
public import proofs.«01_k».proof.Proof.Gen.WGrad
public import proofs.«01_k».proof.Proof.Gen.WGrad.Skeleton
public import proofs.«01_k».proof.Proof.Gen.WGrad.Launch
public import proofs.«01_k».proof.Proof.Gen.WGrad.Points
public import proofs.«01_k».proof.Proof.Gen.WGrad.Frame
public import proofs.«01_k».proof.Proof.Gen.WGradIdeal
public import proofs.«01_k».proof.Proof.Gen.WGradIdeal.Skeleton
public import proofs.«01_k».proof.Proof.Gen.WGradIdeal.Launch
public import proofs.«01_k».proof.Proof.Gen.WGradIdeal.Points
public import proofs.«01_k».proof.Proof.Gen.WGradIdeal.Frame
public import proofs.«01_k».proof.Proof.Gen.WGradRefIdeal
public import proofs.«01_k».proof.Proof.Gen.WGradRefIdeal.Run
public import proofs.«01_k».proof.Proof.Gen.StepMeta
public import proofs.«01_k».proof.Proof.Gen.StepMeta.Skeleton
public import proofs.«01_k».proof.Proof.Gen.StepMeta.Launch
public import proofs.«01_k».proof.Proof.Gen.StepMeta.Points
public import proofs.«01_k».proof.Proof.Gen.StepMeta.Frame
public import proofs.«01_k».proof.Proof.Gen.StepMetaIdeal
public import proofs.«01_k».proof.Proof.Gen.StepMetaIdeal.Skeleton
public import proofs.«01_k».proof.Proof.Gen.StepMetaIdeal.Launch
public import proofs.«01_k».proof.Proof.Gen.StepMetaIdeal.Points
public import proofs.«01_k».proof.Proof.Gen.StepMetaIdeal.Frame
public import proofs.«01_k».proof.Proof.Gen.StepMetaRefIdeal
public import proofs.«01_k».proof.Proof.Gen.StepMetaRefIdeal.Run
public import proofs.«01_k».proof.Proof.Gen.StepNorm
public import proofs.«01_k».proof.Proof.Gen.StepNorm.Skeleton
public import proofs.«01_k».proof.Proof.Gen.StepNorm.Launch
public import proofs.«01_k».proof.Proof.Gen.StepNorm.Points
public import proofs.«01_k».proof.Proof.Gen.StepNorm.Frame
public import proofs.«01_k».proof.Proof.Gen.StepNormIdeal
public import proofs.«01_k».proof.Proof.Gen.StepNormIdeal.Skeleton
public import proofs.«01_k».proof.Proof.Gen.StepNormIdeal.Launch
public import proofs.«01_k».proof.Proof.Gen.StepNormIdeal.Points
public import proofs.«01_k».proof.Proof.Gen.StepNormIdeal.Frame
public import proofs.«01_k».proof.Proof.Gen.StepNormRefIdeal
public import proofs.«01_k».proof.Proof.Gen.StepNormRefIdeal.Run
public import proofs.«01_k».proof.Proof.Gen.StepWIn
public import proofs.«01_k».proof.Proof.Gen.StepWIn.Skeleton
public import proofs.«01_k».proof.Proof.Gen.StepWIn.Launch
public import proofs.«01_k».proof.Proof.Gen.StepWIn.Points
public import proofs.«01_k».proof.Proof.Gen.StepWIn.Frame
public import proofs.«01_k».proof.Proof.Gen.StepWInIdeal
public import proofs.«01_k».proof.Proof.Gen.StepWInIdeal.Skeleton
public import proofs.«01_k».proof.Proof.Gen.StepWInIdeal.Launch
public import proofs.«01_k».proof.Proof.Gen.StepWInIdeal.Points
public import proofs.«01_k».proof.Proof.Gen.StepWInIdeal.Frame
public import proofs.«01_k».proof.Proof.Gen.StepWInRefIdeal
public import proofs.«01_k».proof.Proof.Gen.StepWInRefIdeal.Run
public import proofs.«01_k».proof.Proof.Gen.StepConv
public import proofs.«01_k».proof.Proof.Gen.StepConv.Skeleton
public import proofs.«01_k».proof.Proof.Gen.StepConv.Launch
public import proofs.«01_k».proof.Proof.Gen.StepConv.Points
public import proofs.«01_k».proof.Proof.Gen.StepConv.Frame
public import proofs.«01_k».proof.Proof.Gen.StepConvIdeal
public import proofs.«01_k».proof.Proof.Gen.StepConvIdeal.Skeleton
public import proofs.«01_k».proof.Proof.Gen.StepConvIdeal.Launch
public import proofs.«01_k».proof.Proof.Gen.StepConvIdeal.Points
public import proofs.«01_k».proof.Proof.Gen.StepConvIdeal.Frame
public import proofs.«01_k».proof.Proof.Gen.StepConvRefIdeal
public import proofs.«01_k».proof.Proof.Gen.StepConvRefIdeal.Run
public import proofs.«01_k».proof.Proof.Gen.StepRet
public import proofs.«01_k».proof.Proof.Gen.StepRet.Skeleton
public import proofs.«01_k».proof.Proof.Gen.StepRet.Launch
public import proofs.«01_k».proof.Proof.Gen.StepRet.Points
public import proofs.«01_k».proof.Proof.Gen.StepRet.Frame
public import proofs.«01_k».proof.Proof.Gen.StepRetIdeal
public import proofs.«01_k».proof.Proof.Gen.StepRetIdeal.Skeleton
public import proofs.«01_k».proof.Proof.Gen.StepRetIdeal.Launch
public import proofs.«01_k».proof.Proof.Gen.StepRetIdeal.Points
public import proofs.«01_k».proof.Proof.Gen.StepRetIdeal.Frame
public import proofs.«01_k».proof.Proof.Gen.StepRetRefIdeal
public import proofs.«01_k».proof.Proof.Gen.StepRetRefIdeal.Run
public import proofs.«01_k».proof.Proof.Gen.StepWOut
public import proofs.«01_k».proof.Proof.Gen.StepWOut.Skeleton
public import proofs.«01_k».proof.Proof.Gen.StepWOut.Launch
public import proofs.«01_k».proof.Proof.Gen.StepWOut.Points
public import proofs.«01_k».proof.Proof.Gen.StepWOut.Frame
public import proofs.«01_k».proof.Proof.Gen.StepWOutIdeal
public import proofs.«01_k».proof.Proof.Gen.StepWOutIdeal.Skeleton
public import proofs.«01_k».proof.Proof.Gen.StepWOutIdeal.Launch
public import proofs.«01_k».proof.Proof.Gen.StepWOutIdeal.Points
public import proofs.«01_k».proof.Proof.Gen.StepWOutIdeal.Frame
public import proofs.«01_k».proof.Proof.Gen.StepWOutRefIdeal
public import proofs.«01_k».proof.Proof.Gen.StepWOutRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.OutLossValue
public import proofs.«01_k».proof.Proof.InGradClaims
public import proofs.«01_k».proof.Proof.WGradValue
public import proofs.«01_k».proof.Proof.StepMetaUpdate
public import proofs.«01_k».proof.Proof.StepNormUpdate
public import proofs.«01_k».proof.Proof.StepWInUpdate
public import proofs.«01_k».proof.Proof.StepConvUpdate
public import proofs.«01_k».proof.Proof.StepRetUpdate
public import proofs.«01_k».proof.Proof.StepWOutUpdate
public import proofs.«01_k».proof.Proof.MixClaims
public import Idealize.ShloMosaic.Adequacy
public import Idealize.ShloMosaic.Init

@[expose] public section

noncomputable section

namespace Cert.Proof

theorem claim : Cert.Claim := ⟨Cert.OutLoss.Gen.facts, Cert.OutLossIdeal.Gen.facts, Cert.OutLossRefIdeal.Gen.facts,
  Cert.InGrad.Gen.facts, Cert.InGradIdeal.Gen.facts, Cert.InGradRefIdeal.Gen.facts,
  Cert.WGrad.Gen.facts, Cert.WGradIdeal.Gen.facts, Cert.WGradRefIdeal.Gen.facts,
  Cert.StepMeta.Gen.facts, Cert.StepMetaIdeal.Gen.facts, Cert.StepMetaRefIdeal.Gen.facts,
  Cert.StepNorm.Gen.facts, Cert.StepNormIdeal.Gen.facts, Cert.StepNormRefIdeal.Gen.facts,
  Cert.StepWIn.Gen.facts, Cert.StepWInIdeal.Gen.facts, Cert.StepWInRefIdeal.Gen.facts,
  Cert.StepConv.Gen.facts, Cert.StepConvIdeal.Gen.facts, Cert.StepConvRefIdeal.Gen.facts,
  Cert.StepRet.Gen.facts, Cert.StepRetIdeal.Gen.facts, Cert.StepRetRefIdeal.Gen.facts,
  Cert.StepWOut.Gen.facts, Cert.StepWOutIdeal.Gen.facts, Cert.StepWOutRefIdeal.Gen.facts,
  Cert.Mix.Gen.facts, Cert.MixIdeal.Gen.facts, Cert.MixRefIdeal.Gen.facts,
  OutLossClaims.frame_kernel, OutLossClaims.frame_ideal, OutLossClaims.frame_reference,
  InGradClaims.frame_kernel, InGradClaims.frame_ideal, InGradClaims.frame_reference,
  WGradClaims.frame_kernel, WGradClaims.frame_ideal, WGradClaims.frame_reference,
  StepMetaClaims.frame_kernel, StepMetaClaims.frame_ideal, StepMetaClaims.frame_reference,
  StepNormClaims.frame_kernel, StepNormClaims.frame_ideal, StepNormClaims.frame_reference,
  StepWInClaims.frame_kernel, StepWInClaims.frame_ideal, StepWInClaims.frame_reference,
  StepConvClaims.frame_kernel, StepConvClaims.frame_ideal, StepConvClaims.frame_reference,
  StepRetClaims.frame_kernel, StepRetClaims.frame_ideal, StepRetClaims.frame_reference,
  StepWOutClaims.frame_kernel, StepWOutClaims.frame_ideal, StepWOutClaims.frame_reference,
  MixClaims.frame_kernel, MixClaims.frame_ideal, MixClaims.frame_reference,
  OutLossClaims.preserves, OutLossClaims.algebraic,
  InGradClaims.preserves, InGradClaims.algebraic,
  WGradClaims.preserves, WGradClaims.algebraic,
  StepMetaClaims.preserves, StepMetaClaims.algebraic,
  StepNormClaims.preserves, StepNormClaims.algebraic,
  StepWInClaims.preserves, StepWInClaims.algebraic,
  StepConvClaims.preserves, StepConvClaims.algebraic,
  StepRetClaims.preserves, StepRetClaims.algebraic,
  StepWOutClaims.preserves, StepWOutClaims.algebraic,
  MixClaims.preserves, MixClaims.algebraic⟩

end Cert.Proof

end
